-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_warm [hPre_finite_and_warm : Cert.Pre_finite_and_warm.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.1 = (fun _ => 1#1)
    ∧ (Cert.Pre_finite_and_warm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_warm [hPre_finite_and_warm : Cert.Pre_finite_and_warm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.1 = (fun _ => 1#1)
    ∧ (Cert.Pre_finite_and_warm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_and_warm [hKernelIdeal : Cert.KernelIdeal.Facts] [hPre_finite_and_warm : Cert.Pre_finite_and_warm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_warm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_and_warm [hReferenceIdeal : Cert.ReferenceIdeal.Facts] [hPre_finite_and_warm : Cert.Pre_finite_and_warm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_warm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "two_log2e" .f32 0x4038AA3B#32 ((2 * (Real.log 2)⁻¹ : ℝ) : EReal)
  ∧ IdealRules.named_const.Statement Cert.KernelIdeal.κ "four_log2e" .f32 0x40B8AA3B#32 ((4 * (Real.log 2)⁻¹ : ℝ) : EReal)

def algebraic_KernelIdeal_ReferenceIdeal_pre_finite_and_warm [hKernelIdeal : Cert.KernelIdeal.Facts] [hReferenceIdeal : Cert.ReferenceIdeal.Facts] [hPre_finite_and_warm : Cert.Pre_finite_and_warm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_warm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v23_2)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v23_2) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v230) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_v226) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_and_warm : Cert.Pre_finite_and_warm.Facts),
    quiescent_Kernel (hKernel := hKernel)
    ∧ quiescent_KernelIdeal (hKernelIdeal := hKernelIdeal)
    ∧ quiescent_KernelIdeal_pre_finite_and_warm (hKernelIdeal := hKernelIdeal) (hPre_finite_and_warm := hPre_finite_and_warm)
    ∧ quiescent_ReferenceIdeal (hReferenceIdeal := hReferenceIdeal)
    ∧ quiescent_ReferenceIdeal_pre_finite_and_warm (hReferenceIdeal := hReferenceIdeal) (hPre_finite_and_warm := hPre_finite_and_warm)
    ∧ preserves_Kernel_KernelIdeal
    ∧ algebraic_KernelIdeal_ReferenceIdeal_pre_finite_and_warm (hKernelIdeal := hKernelIdeal) (hReferenceIdeal := hReferenceIdeal) (hPre_finite_and_warm := hPre_finite_and_warm)
-- ==== Pre_finite_and_warm.lean ====
abbrev S4096x786 : Shape := ⟨2, ![4096, 786]⟩
abbrev S_ : Shape := ⟨0, ![]⟩
abbrev S1024x786 : Shape := ⟨2, ![1024, 786]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S256x128 : Shape := ⟨2, ![256, 128]⟩
abbrev S512x256 : Shape := ⟨2, ![512, 256]⟩
abbrev S1024x512 : Shape := ⟨2, ![1024, 512]⟩
abbrev S786x1024 : Shape := ⟨2, ![786, 1024]⟩
abbrev S786 : Shape := ⟨1, ![786]⟩
abbrev S1024x128 : Shape := ⟨2, ![1024, 128]⟩

class Facts : Prop where
  bcast_S_S4096x786 : S_.BroadcastsInDim S4096x786 (![] : Fin 0 → Fin S4096x786.rank)
  bcast_S_S1024x786 : S_.BroadcastsInDim S1024x786 (![] : Fin 0 → Fin S1024x786.rank)
  bcast_S_S1024 : S_.BroadcastsInDim S1024 (![] : Fin 0 → Fin S1024.rank)
  bcast_S_S512x1024 : S_.BroadcastsInDim S512x1024 (![] : Fin 0 → Fin S512x1024.rank)
  bcast_S_S512 : S_.BroadcastsInDim S512 (![] : Fin 0 → Fin S512.rank)
  bcast_S_S256x512 : S_.BroadcastsInDim S256x512 (![] : Fin 0 → Fin S256x512.rank)
  bcast_S_S256 : S_.BroadcastsInDim S256 (![] : Fin 0 → Fin S256.rank)
  bcast_S_S128x256 : S_.BroadcastsInDim S128x256 (![] : Fin 0 → Fin S128x256.rank)
  bcast_S_S128 : S_.BroadcastsInDim S128 (![] : Fin 0 → Fin S128.rank)
  bcast_S_S1024x128 : S_.BroadcastsInDim S1024x128 (![] : Fin 0 → Fin S1024x128.rank)

variable [Facts]

def fn_part2 {F : FTy → Type} [FloatOps F] (main_arg20 : FVec F S1024x128 .f32) (main_v2 : IVec S_ 1) (main_v5 : IVec S4096x786 1) (main_v8 : IVec S1024x786 1) (main_v11 : IVec S1024 1) (main_v14 : IVec S512x1024 1) (main_v17 : IVec S512 1) (main_v20 : IVec S256x512 1) (main_v23 : IVec S256 1) (main_v26 : IVec S128x256 1) (main_v29 : IVec S128 1) (main_v32 : IVec S1024x128 1) (main_v33 : FVec F S1024x128 .f32) (main_v34 : FVec F S1024x128 .f32) : IVec S_ 1 × IVec S4096x786 1 × IVec S1024x786 1 × IVec S1024 1 × IVec S512x1024 1 × IVec S512 1 × IVec S256x512 1 × IVec S256 1 × IVec S128x256 1 × IVec S128 1 × IVec S1024x128 1 × IVec S1024x128 1 × IVec S1024x128 1 :=
  let main_v35 : IVec S1024x128 1 := cmpf .olt main_v33 main_v34
  let main_v36 : FVec F S1024x128 .f32 := Host.absf main_arg20
  let main_cst_12 : FVec F S_ .f32 := constant S_ .f32 0x7F800000#32
  let main_v37 : FVec F S1024x128 .f32 := broadcastInDim S1024x128 ![] bcast_S_S1024x128 main_cst_12
  let main_v38 : IVec S1024x128 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S256x512 .f32) (main_arg7 : FVec F S256 .f32) (main_arg8 : FVec F S128x256 .f32) (main_arg9 : FVec F S128 .f32) (main_arg18 : FVec F S1024x128 .f32) (main_arg19 : FVec F S1024x128 .f32) (main_arg20 : FVec F S1024x128 .f32) (main_v2 : IVec S_ 1) (main_v5 : IVec S4096x786 1) (main_v8 : IVec S1024x786 1) (main_v11 : IVec S1024 1) (main_v14 : IVec S512x1024 1) (main_v15 : FVec F S512 .f32) (main_v16 : FVec F S512 .f32) : IVec S_ 1 × IVec S4096x786 1 × IVec S1024x786 1 × IVec S1024 1 × IVec S512x1024 1 × IVec S512 1 × IVec S256x512 1 × IVec S256 1 × IVec S128x256 1 × IVec S128 1 × IVec S1024x128 1 × IVec S1024x128 1 × IVec S1024x128 1 :=
  let main_v17 : IVec S512 1 := cmpf .olt main_v15 main_v16
  let main_v18 : FVec F S256x512 .f32 := Host.absf main_arg6
  let main_cst_6 : FVec F S_ .f32 := constant S_ .f32 0x7F800000#32
  let main_v19 : FVec F S256x512 .f32 := broadcastInDim S256x512 ![] bcast_S_S256x512 main_cst_6
  let main_v20 : IVec S256x512 1 := cmpf .olt main_v18 main_v19
  let main_v21 : FVec F S256 .f32 := Host.absf main_arg7
  let main_cst_7 : FVec F S_ .f32 := constant S_ .f32 0x7F800000#32
  let main_v22 : FVec F S256 .f32 := broadcastInDim S256 ![] bcast_S_S256 main_cst_7
  let main_v23 : IVec S256 1 := cmpf .olt main_v21 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_v27 : FVec F S128 .f32 := Host.absf main_arg9
  let main_cst_9 : FVec F S_ .f32 := constant S_ .f32 0x7F800000#32
  let main_v28 : FVec F S128 .f32 := broadcastInDim S128 ![] bcast_S_S128 main_cst_9
  let main_v29 : IVec S128 1 := cmpf .olt main_v27 main_v28
  let main_v30 : FVec F S1024x128 .f32 := Host.absf main_arg18
  let main_cst_10 : FVec F S_ .f32 := constant S_ .f32 0x7F800000#32
  let main_v31 : FVec F S1024x128 .f32 := broadcastInDim S1024x128 ![] bcast_S_S1024x128 main_cst_10
  let main_v32 : IVec S1024x128 1 := cmpf .olt main_v30 main_v31
  let main_v33 : FVec F S1024x128 .f32 := Host.absf main_arg19
  let main_cst_11 : FVec F S_ .f32 := constant S_ .f32 0x7F800000#32
  let main_v34 : FVec F S1024x128 .f32 := broadcastInDim S1024x128 ![] bcast_S_S1024x128 main_cst_11
  fn_part2 (F := F) main_arg20 main_v2 main_v5 main_v8 main_v11 main_v14 main_v17 main_v20 main_v23 main_v26 main_v29 main_v32 main_v33 main_v34

def fn {F : FTy → Type} [FloatOps F] (main_arg0 : FVec F S4096x786 .f32) (main_arg1 : FVec F S_ .f32) (main_arg2 : FVec F S1024x786 .f32) (main_arg3 : FVec F S1024 .f32) (main_arg4 : FVec F S512x1024 .f32) (main_arg5 : FVec F S512 .f32) (main_arg6 : FVec F S256x512 .f32) (main_arg7 : FVec F S256 .f32) (main_arg8 : FVec F S128x256 .f32) (main_arg9 : FVec F S128 .f32) (main_arg10 : FVec F S256x128 .f32) (main_arg11 : FVec F S256 .f32) (main_arg12 : FVec F S512x256 .f32) (main_arg13 : FVec F S512 .f32) (main_arg14 : FVec F S1024x512 .f32) (main_arg15 : FVec F S1024 .f32) (main_arg16 : FVec F S786x1024 .f32) (main_arg17 : FVec F S786 .f32) (main_arg18 : FVec F S1024x128 .f32) (main_arg19 : FVec F S1024x128 .f32) (main_arg20 : FVec F S1024x128 .f32) : IVec S_ 1 × IVec S4096x786 1 × IVec S1024x786 1 × IVec S1024 1 × IVec S512x1024 1 × IVec S512 1 × IVec S256x512 1 × IVec S256 1 × IVec S128x256 1 × IVec S128 1 × IVec S1024x128 1 × IVec S1024x128 1 × IVec S1024x128 1 :=
  let main_cst : FVec F S_ .f32 := constant S_ .f32 0x00000000#32
  let main_v0 : IVec S_ 1 := cmpf .ogt main_arg1 main_cst
  let main_cst_0 : FVec F S_ .f32 := constant S_ .f32 0x7F800000#32
  let main_v1 : IVec S_ 1 := cmpf .olt main_arg1 main_cst_0
  let main_v2 : IVec S_ 1 := andi main_v0 main_v1
  let main_v3 : FVec F S4096x786 .f32 := Host.absf main_arg0
  let main_cst_1 : FVec F S_ .f32 := constant S_ .f32 0x7F800000#32
  let main_v4 : FVec F S4096x786 .f32 := broadcastInDim S4096x786 ![] bcast_S_S4096x786 main_cst_1
  let main_v5 : IVec S4096x786 1 := cmpf .olt main_v3 main_v4
  let main_v6 : FVec F S1024x786 .f32 := Host.absf main_arg2
  let main_cst_2 : FVec F S_ .f32 := constant S_ .f32 0x7F800000#32
  let main_v7 : FVec F S1024x786 .f32 := broadcastInDim S1024x786 ![] bcast_S_S1024x786 main_cst_2
  let main_v8 : IVec S1024x786 1 := cmpf .olt main_v6 main_v7
  let main_v9 : FVec F S1024 .f32 := Host.absf main_arg3
  let main_cst_3 : FVec F S_ .f32 := constant S_ .f32 0x7F800000#32
  let main_v10 : FVec F S1024 .f32 := broadcastInDim S1024 ![] bcast_S_S1024 main_cst_3
  let main_v11 : IVec S1024 1 := cmpf .olt main_v9 main_v10
  let main_v12 : FVec F S512x1024 .f32 := Host.absf main_arg4
  let main_cst_4 : FVec F S_ .f32 := constant S_ .f32 0x7F800000#32
  let main_v13 : FVec F S512x1024 .f32 := broadcastInDim S512x1024 ![] bcast_S_S512x1024 main_cst_4
  let main_v14 : IVec S512x1024 1 := cmpf .olt main_v12 main_v13
  let main_v15 : FVec F S512 .f32 := Host.absf main_arg5
  let main_cst_5 : FVec F S_ .f32 := constant S_ .f32 0x7F800000#32
  let main_v16 : FVec F S512 .f32 := broadcastInDim S512 ![] bcast_S_S512 main_cst_5
  fn_part1 (F := F) main_arg6 main_arg7 main_arg8 main_arg9 main_arg18 main_arg19 main_arg20 main_v2 main_v5 main_v8 main_v11 main_v14 main_v15 main_v16
-- ==== Kernel.lean ====
abbrev S4096x786 : Shape := ⟨2, ![4096, 786]⟩
abbrev S_ : Shape := ⟨0, ![]⟩
abbrev S1024x786 : Shape := ⟨2, ![1024, 786]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S256x128 : Shape := ⟨2, ![256, 128]⟩
abbrev S512x256 : Shape := ⟨2, ![512, 256]⟩
abbrev S1024x512 : Shape := ⟨2, ![1024, 512]⟩
abbrev S786x1024 : Shape := ⟨2, ![786, 1024]⟩
abbrev S786 : Shape := ⟨1, ![786]⟩
abbrev S1024x128 : Shape := ⟨2, ![1024, 128]⟩
abbrev S1x1 : Shape := ⟨2, ![1, 1]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S1x786 : Shape := ⟨2, ![1, 786]⟩
abbrev S128x1024 : Shape := ⟨2, ![128, 1024]⟩
abbrev S4096x3 : Shape := ⟨2, ![4096, 3]⟩
abbrev S4096x1 : Shape := ⟨2, ![4096, 1]⟩
abbrev S1x4096 : Shape := ⟨2, ![1, 4096]⟩
abbrev S1024x3 : Shape := ⟨2, ![1024, 3]⟩
abbrev S1024x1 : Shape := ⟨2, ![1024, 1]⟩
abbrev S1024x1024 : Shape := ⟨2, ![1024, 1024]⟩
abbrev S1024x256 : Shape := ⟨2, ![1024, 256]⟩
abbrev S1024x768 : Shape := ⟨2, ![1024, 768]⟩
abbrev S1024x18 : Shape := ⟨2, ![1024, 18]⟩
abbrev S1 : Shape := ⟨1, ![1]⟩
abbrev S512x1 : Shape := ⟨2, ![512, 1]⟩
abbrev S512x4096 : Shape := ⟨2, ![512, 4096]⟩

abbrev nBuf : Space → Nat
  | .hbm => 58
  | .vmem => 37
  | .smem => 0
  | _ => 0

abbrev bufTy : (tb : Table) → Fin (tcTables nBuf tb) → BufTy
  | .hbm, ⟨0, _⟩ => ⟨S4096x786, .f32⟩
  | .hbm, ⟨1, _⟩ => ⟨S_, .f32⟩
  | .hbm, ⟨2, _⟩ => ⟨S1024x786, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S512x256, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S786x1024, .f32⟩
  | .hbm, ⟨17, _⟩ => ⟨S786, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1x1, .f32⟩
  | .hbm, ⟨22, _⟩ => ⟨S1024x786, .bf16⟩
  | .hbm, ⟨23, _⟩ => ⟨S1x1024, .f32⟩
  | .hbm, ⟨24, _⟩ => ⟨S512x1024, .bf16⟩
  | .hbm, ⟨25, _⟩ => ⟨S1x512, .f32⟩
  | .hbm, ⟨26, _⟩ => ⟨S256x512, .bf16⟩
  | .hbm, ⟨27, _⟩ => ⟨S1x256, .f32⟩
  | .hbm, ⟨28, _⟩ => ⟨S128x256, .bf16⟩
  | .hbm, ⟨29, _⟩ => ⟨S1x128, .f32⟩
  | .hbm, ⟨30, _⟩ => ⟨S256x128, .bf16⟩
  | .hbm, ⟨31, _⟩ => ⟨S1x256, .f32⟩
  | .hbm, ⟨32, _⟩ => ⟨S512x256, .bf16⟩
  | .hbm, ⟨33, _⟩ => ⟨S1x512, .f32⟩
  | .hbm, ⟨34, _⟩ => ⟨S1024x512, .bf16⟩
  | .hbm, ⟨35, _⟩ => ⟨S1x1024, .f32⟩
  | .hbm, ⟨36, _⟩ => ⟨S786x1024, .bf16⟩
  | .hbm, ⟨37, _⟩ => ⟨S1x786, .f32⟩
  | .hbm, ⟨38, _⟩ => ⟨S128x1024, .f32⟩
  | .hbm, ⟨39, _⟩ => ⟨S1024x128, .bf16⟩
  | .hbm, ⟨40, _⟩ => ⟨S128x1024, .f32⟩
  | .hbm, ⟨41, _⟩ => ⟨S1024x128, .bf16⟩
  | .hbm, ⟨42, _⟩ => ⟨S128x1024, .f32⟩
  | .hbm, ⟨43, _⟩ => ⟨S1024x128, .bf16⟩
  | .hbm, ⟨44, _⟩ => ⟨S1x1, .f32⟩
  | .hbm, ⟨45, _⟩ => ⟨S1x1, .f32⟩
  | .hbm, ⟨46, _⟩ => ⟨S4096x3, .f32⟩
  | .hbm, ⟨47, _⟩ => ⟨S4096x1, .i32⟩
  | .hbm, ⟨48, _⟩ => ⟨S1x4096, .i32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x1, .f32⟩
  | .local _ .vmem, ⟨1, _⟩ => ⟨S1024x786, .f32⟩
  | .local _ .vmem, ⟨2, _⟩ => ⟨S1024x786, .f32⟩
  | .local _ .vmem, ⟨3, _⟩ => ⟨S1024x786, .bf16⟩
  | .local _ .vmem, ⟨4, _⟩ => ⟨S1x1024, .f32⟩
  | .local _ .vmem, ⟨5, _⟩ => ⟨S512x1024, .bf16⟩
  | .local _ .vmem, ⟨6, _⟩ => ⟨S1x512, .f32⟩
  | .local _ .vmem, ⟨7, _⟩ => ⟨S256x512, .bf16⟩
  | .local _ .vmem, ⟨8, _⟩ => ⟨S1x256, .f32⟩
  | .local _ .vmem, ⟨9, _⟩ => ⟨S128x256, .bf16⟩
  | .local _ .vmem, ⟨10, _⟩ => ⟨S1x128, .f32⟩
  | .local _ .vmem, ⟨11, _⟩ => ⟨S256x128, .bf16⟩
  | .local _ .vmem, ⟨12, _⟩ => ⟨S1x256, .f32⟩
  | .local _ .vmem, ⟨13, _⟩ => ⟨S512x256, .bf16⟩
  | .local _ .vmem, ⟨14, _⟩ => ⟨S1x512, .f32⟩
  | .local _ .vmem, ⟨15, _⟩ => ⟨S1024x512, .bf16⟩
  | .local _ .vmem, ⟨16, _⟩ => ⟨S1x1024, .f32⟩
  | .local _ .vmem, ⟨17, _⟩ => ⟨S786x1024, .bf16⟩
  | .local _ .vmem, ⟨18, _⟩ => ⟨S1x786, .f32⟩
  | .local _ .vmem, ⟨19, _⟩ => ⟨S128x1024, .f32⟩
  | .local _ .vmem, ⟨20, _⟩ => ⟨S1024x128, .bf16⟩
  | .local _ .vmem, ⟨21, _⟩ => ⟨S128x1024, .f32⟩
  | .local _ .vmem, ⟨22, _⟩ => ⟨S1024x128, .bf16⟩
  | .local _ .vmem, ⟨23, _⟩ => ⟨S128x1024, .f32⟩
  | .local _ .vmem, ⟨24, _⟩ => ⟨S1024x128, .bf16⟩
  | .local _ .vmem, ⟨25, _⟩ => ⟨S1x1, .f32⟩
  | .local _ .vmem, ⟨26, _⟩ => ⟨S1x1, .f32⟩
  | .local _ .vmem, ⟨27, _⟩ => ⟨S1024x3, .f32⟩
  | .local _ .vmem, ⟨28, _⟩ => ⟨S1024x3, .f32⟩
  | .local _ .vmem, ⟨29, _⟩ => ⟨S1024x1, .i32⟩
  | .local _ .vmem, ⟨30, _⟩ => ⟨S1024x1, .i32⟩
  | .local _ .vmem, ⟨31, _⟩ => ⟨S1x1024, .i32⟩
  | .local _ .vmem, ⟨32, _⟩ => ⟨S1x1024, .i32⟩
  | .local _ .vmem, ⟨33, _⟩ => ⟨S512x1, .i32⟩
  | .local _ .vmem, ⟨34, _⟩ => ⟨S512x1, .i32⟩
  | .local _ .vmem, ⟨35, _⟩ => ⟨S1x4096, .i32⟩
  | .local _ .vmem, ⟨36, _⟩ => ⟨S1x1, .f32⟩
  | _, _ => ⟨S4096x786, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_cst_0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg27_1 : Ref sig .tc := ⟨.vmem, 30, rfl⟩
abbrev cc0_stg28_0 : Ref sig .tc := ⟨.vmem, 31, rfl⟩
abbrev cc0_stg28_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg2_0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem26_1 : DmaSem sig := 28
abbrev cc0_sem27_0 : DmaSem sig := 29
abbrev cc0_sem27_1 : DmaSem sig := 30
abbrev cc0_sem28_0 : DmaSem sig := 31
abbrev cc0_sem28_1 : DmaSem sig := 32
abbrev cc1_sem0_0 : DmaSem sig := 33
abbrev cc1_sem0_1 : DmaSem sig := 34
abbrev cc1_sem1_0 : DmaSem sig := 35
abbrev cc1_sem2_0 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x786 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x786 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S786x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x786 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x3 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x1 .i32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1024 .i32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "four_log2e" => some ((4 * (Real.log 2)⁻¹ : ℝ) : EReal)
  | "two_log2e" => some ((2 * (Real.log 2)⁻¹ : ℝ) : EReal)
  | _ => none
-- ==== ReferenceIdeal.lean ====
abbrev S4096x786 : Shape := ⟨2, ![4096, 786]⟩
abbrev S_ : Shape := ⟨0, ![]⟩
abbrev S1024x786 : Shape := ⟨2, ![1024, 786]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S256x128 : Shape := ⟨2, ![256, 128]⟩
abbrev S512x256 : Shape := ⟨2, ![512, 256]⟩
abbrev S1024x512 : Shape := ⟨2, ![1024, 512]⟩
abbrev S786x1024 : Shape := ⟨2, ![786, 1024]⟩
abbrev S786 : Shape := ⟨1, ![786]⟩
abbrev S1024x128 : Shape := ⟨2, ![1024, 128]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩
abbrev S128x1024 : Shape := ⟨2, ![128, 1024]⟩
abbrev S4096x128x1 : Shape := ⟨3, ![4096, 128, 1]⟩
abbrev S4096x128x3 : Shape := ⟨3, ![4096, 128, 3]⟩
abbrev S4096x3 : Shape := ⟨2, ![4096, 3]⟩
abbrev S1x786 : Shape := ⟨2, ![1, 786]⟩
abbrev S4096x768 : Shape := ⟨2, ![4096, 768]⟩
abbrev S4096x18 : Shape := ⟨2, ![4096, 18]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩

abbrev nBuf : Space → Nat
  | .hbm => 375
  | .vmem => 0
  | .smem => 0
  | _ => 0

abbrev hbmTy0_0 (i : Nat) : BufTy := match i % 128 with
  | 0 => ⟨S4096x786, .f32⟩
  | 1 => ⟨S_, .f32⟩
  | 2 => ⟨S1024x786, .f32⟩
  | 3 => ⟨S1024, .f32⟩
  | 4 => ⟨S512x1024, .f32⟩
  | 5 => ⟨S512, .f32⟩
  | 6 => ⟨S256x512, .f32⟩
  | 7 => ⟨S256, .f32⟩
  | 8 => ⟨S128x256, .f32⟩
  | 9 => ⟨S128, .f32⟩
  | 10 => ⟨S256x128, .f32⟩
  | 11 => ⟨S256, .f32⟩
  | 12 => ⟨S512x256, .f32⟩
  | 13 => ⟨S512, .f32⟩
  | 14 => ⟨S1024x512, .f32⟩
  | 15 => ⟨S1024, .f32⟩
  | 16 => ⟨S786x1024, .f32⟩
  | 17 => ⟨S786, .f32⟩
  | 18 => ⟨S1024x128, .f32⟩
  | 19 => ⟨S1024x128, .f32⟩
  | 20 => ⟨S1024x128, .f32⟩
  | 21 => ⟨S786x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S1024x512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S4096x512, .f32⟩
  | 49 => ⟨S512x256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S256x128, .f32⟩
  | 64 => ⟨S4096x128, .f32⟩
  | 65 => ⟨S1x128, .f32⟩
  | 66 => ⟨S4096x128, .f32⟩
  | 67 => ⟨S4096x128, .f32⟩
  | 68 => ⟨S4096x128, .f32⟩
  | 69 => ⟨S_, .f32⟩
  | 70 => ⟨S4096, .f32⟩
  | 71 => ⟨S4096x1, .f32⟩
  | 72 => ⟨S128x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S4096x1024, .f32⟩
  | 79 => ⟨S1024x128, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1, .f32⟩
  | 94 => ⟨S4096x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x128, .f32⟩
  | 103 => ⟨S4096x1024, .i32⟩
  | 104 => ⟨S_, .f32⟩
  | 105 => ⟨S_, .i32⟩
  | 106 => ⟨S4096, .f32⟩
  | 107 => ⟨S4096, .i32⟩
  | 108 => ⟨S4096x128, .f32⟩
  | 109 => ⟨S4096x128, .f32⟩
  | 110 => ⟨S_, .f32⟩
  | 111 => ⟨S4096, .f32⟩
  | 112 => ⟨S_, .f32⟩
  | 113 => ⟨S4096, .f32⟩
  | 114 => ⟨S4096, .f32⟩
  | 115 => ⟨S4096x128, .f32⟩
  | 116 => ⟨S4096x128, .f32⟩
  | 117 => ⟨S_, .f32⟩
  | 118 => ⟨S4096, .f32⟩
  | 119 => ⟨S4096, .f32⟩
  | 120 => ⟨S_, .f32⟩
  | 121 => ⟨S4096, .f32⟩
  | 122 => ⟨S4096, .f32⟩
  | 123 => ⟨S4096x128, .f32⟩
  | 124 => ⟨S4096x128, .f32⟩
  | 125 => ⟨S_, .f32⟩
  | 126 => ⟨S4096, .f32⟩
  | 127 => ⟨S4096x1, .f32⟩
  | _ => ⟨S4096x786, .f32⟩

abbrev hbmTy0_1 (i : Nat) : BufTy := match i % 128 with
  | 0 => ⟨S128x1024, .f32⟩
  | 1 => ⟨S4096x1024, .f32⟩
  | 2 => ⟨S_, .f32⟩
  | 3 => ⟨S4096x1024, .f32⟩
  | 4 => ⟨S4096x1024, .f32⟩
  | 5 => ⟨S4096x1024, .f32⟩
  | 6 => ⟨S4096x1024, .f32⟩
  | 7 => ⟨S1024x128, .f32⟩
  | 8 => ⟨S_, .f32⟩
  | 9 => ⟨S1024, .f32⟩
  | 10 => ⟨S1x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S4096x1024, .f32⟩
  | 29 => ⟨S4096x1024, .f32⟩
  | 30 => ⟨S4096x128, .f32⟩
  | 31 => ⟨S4096x1024, .i32⟩
  | 32 => ⟨S_, .f32⟩
  | 33 => ⟨S_, .i32⟩
  | 34 => ⟨S4096, .f32⟩
  | 35 => ⟨S4096, .i32⟩
  | 36 => ⟨S4096x128, .f32⟩
  | 37 => ⟨S4096x128, .f32⟩
  | 38 => ⟨S_, .f32⟩
  | 39 => ⟨S4096, .f32⟩
  | 40 => ⟨S_, .f32⟩
  | 41 => ⟨S4096, .f32⟩
  | 42 => ⟨S4096, .f32⟩
  | 43 => ⟨S4096x128, .f32⟩
  | 44 => ⟨S4096x128, .f32⟩
  | 45 => ⟨S_, .f32⟩
  | 46 => ⟨S4096, .f32⟩
  | 47 => ⟨S4096, .f32⟩
  | 48 => ⟨S4096, .f32⟩
  | 49 => ⟨S4096x128, .f32⟩
  | 50 => ⟨S4096x128, .f32⟩
  | 51 => ⟨S_, .f32⟩
  | 52 => ⟨S4096, .f32⟩
  | 53 => ⟨S4096x1, .f32⟩
  | 54 => ⟨S128x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .f32⟩
  | 61 => ⟨S1024x128, .f32⟩
  | 62 => ⟨S_, .f32⟩
  | 63 => ⟨S1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S_, .f32⟩
  | 73 => ⟨S4096, .f32⟩
  | 74 => ⟨S4096, .f32⟩
  | 75 => ⟨S4096x1, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S4096x1024, .f32⟩
  | 83 => ⟨S4096x1024, .f32⟩
  | 84 => ⟨S4096x128, .f32⟩
  | 85 => ⟨S4096x1024, .i32⟩
  | 86 => ⟨S_, .f32⟩
  | 87 => ⟨S_, .i32⟩
  | 88 => ⟨S4096, .f32⟩
  | 89 => ⟨S4096, .i32⟩
  | 90 => ⟨S4096x128, .f32⟩
  | 91 => ⟨S4096x128, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x128, .f32⟩
  | 98 => ⟨S4096x128, .f32⟩
  | 99 => ⟨S_, .f32⟩
  | 100 => ⟨S4096, .f32⟩
  | 101 => ⟨S4096, .f32⟩
  | 102 => ⟨S4096, .f32⟩
  | 103 => ⟨S4096x128, .f32⟩
  | 104 => ⟨S4096x128x1, .f32⟩
  | 105 => ⟨S4096x128x1, .f32⟩
  | 106 => ⟨S4096x128x1, .f32⟩
  | 107 => ⟨S4096x128x3, .f32⟩
  | 108 => ⟨S4096x1, .i32⟩
  | 109 => ⟨S4096x1, .i32⟩
  | 110 => ⟨S4096x1, .i32⟩
  | 111 => ⟨S4096x3, .i32⟩
  | 112 => ⟨S_, .f32⟩
  | 113 => ⟨S4096x128, .f32⟩
  | 114 => ⟨S128x256, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S4096x256, .f32⟩
  | 121 => ⟨S_, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S4096x256, .f32⟩
  | _ => ⟨S4096x786, .f32⟩

abbrev hbmTy0_2 (i : Nat) : BufTy := match i % 128 with
  | 0 => ⟨S256x512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S512x1024, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S1024x786, .f32⟩
  | 29 => ⟨S4096x786, .f32⟩
  | 30 => ⟨S1x786, .f32⟩
  | 31 => ⟨S4096x786, .f32⟩
  | 32 => ⟨S4096x786, .f32⟩
  | 33 => ⟨S4096x786, .f32⟩
  | 34 => ⟨S_, .f32⟩
  | 35 => ⟨S4096, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x786, .f32⟩
  | 42 => ⟨S4096x786, .f32⟩
  | 43 => ⟨S4096x768, .f32⟩
  | 44 => ⟨S4096x768, .f32⟩
  | 45 => ⟨S_, .f32⟩
  | 46 => ⟨S4096, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x768, .f32⟩
  | 53 => ⟨S4096x768, .f32⟩
  | 54 => ⟨S4096x18, .f32⟩
  | 55 => ⟨S4096x786, .f32⟩
  | 56 => ⟨S4096x768, .f32⟩
  | 57 => ⟨S4096x768, .f32⟩
  | 58 => ⟨S4096x768, .f32⟩
  | 59 => ⟨S4096x768, .f32⟩
  | 60 => ⟨S_, .f32⟩
  | 61 => ⟨S4096, .f32⟩
  | 62 => ⟨S4096x18, .f32⟩
  | 63 => ⟨S4096x18, .f32⟩
  | 64 => ⟨S_, .f32⟩
  | 65 => ⟨S4096x18, .f32⟩
  | 66 => ⟨S4096x18, .f32⟩
  | 67 => ⟨S4096x18, .f32⟩
  | 68 => ⟨S4096x18, .f32⟩
  | 69 => ⟨S4096x18, .f32⟩
  | 70 => ⟨S4096x18, .f32⟩
  | 71 => ⟨S4096x18, .f32⟩
  | 72 => ⟨S4096x18, .f32⟩
  | 73 => ⟨S4096x18, .f32⟩
  | 74 => ⟨S_, .f32⟩
  | 75 => ⟨S4096, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S4096x128x3, .f32⟩
  | 83 => ⟨S_, .f32⟩
  | 84 => ⟨S4096x3, .f32⟩
  | 85 => ⟨S4096x3, .f32⟩
  | 86 => ⟨S4096x1x3, .i32⟩
  | 87 => ⟨S1x4096x3, .i32⟩
  | 88 => ⟨S4096x4096x3, .i32⟩
  | 89 => ⟨S4096x4096x3, .i32⟩
  | 90 => ⟨S4096x4096x3, .i1⟩
  | 91 => ⟨S_, .i1⟩
  | 92 => ⟨S4096x4096, .i1⟩
  | 93 => ⟨S4096x4096, .i32⟩
  | 94 => ⟨S_, .i32⟩
  | 95 => ⟨S4096x4096, .i32⟩
  | 96 => ⟨S4096x4096, .i32⟩
  | 97 => ⟨S4096x4096, .i32⟩
  | 98 => ⟨S4096x4096, .i1⟩
  | 99 => ⟨S_, .i1⟩
  | 100 => ⟨S4096x4096, .i1⟩
  | 101 => ⟨S4096x4096, .i1⟩
  | 102 => ⟨S4096x4096, .i1⟩
  | 103 => ⟨S_, .i1⟩
  | 104 => ⟨S4096, .i1⟩
  | 105 => ⟨S4096, .i32⟩
  | 106 => ⟨S_, .i32⟩
  | 107 => ⟨S_, .i32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | _ => ⟨S4096x786, .f32⟩

abbrev hbmTy (i : Nat) : BufTy := match i / 128 with
  | 0 => hbmTy0_0 i
  | 1 => hbmTy0_1 i
  | 2 => hbmTy0_2 i
  | _ => ⟨S4096x786, .f32⟩

abbrev bufTy : (tb : Table) → Fin (tcTables nBuf tb) → BufTy
  | .hbm, ⟨i, _⟩ => hbmTy i
  | _, _ => ⟨S4096x786, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_0 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_1 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_2 : Ref sig .tc := ⟨.hbm, 88, rfl⟩
abbrev main_v40 : Ref sig .tc := ⟨.hbm, 89, rfl⟩
abbrev main_cst_3 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_4 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call3_v0 : Ref sig .tc := ⟨.hbm, 103, rfl⟩
abbrev main_call3_cst : Ref sig .tc := ⟨.hbm, 104, rfl⟩
abbrev main_call3_c : Ref sig .tc := ⟨.hbm, 105, rfl⟩
abbrev main_call3_v1_0 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_5 : Ref sig .tc := ⟨.hbm, 110, rfl⟩
abbrev main_v55 : Ref sig .tc := ⟨.hbm, 111, rfl⟩
abbrev main_cst_6 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_7 : Ref sig .tc := ⟨.hbm, 117, rfl⟩
abbrev main_v60 : Ref sig .tc := ⟨.hbm, 118, rfl⟩
abbrev main_v61 : Ref sig .tc := ⟨.hbm, 119, rfl⟩
abbrev main_cst_8 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_9 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_10 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_11 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_12 : Ref sig .tc := ⟨.hbm, 144, rfl⟩
abbrev main_v82 : Ref sig .tc := ⟨.hbm, 145, rfl⟩
abbrev main_cst_13 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_14 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_call4_v0 : Ref sig .tc := ⟨.hbm, 159, rfl⟩
abbrev main_call4_cst : Ref sig .tc := ⟨.hbm, 160, rfl⟩
abbrev main_call4_c : Ref sig .tc := ⟨.hbm, 161, rfl⟩
abbrev main_call4_v1_0 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_cst_15 : Ref sig .tc := ⟨.hbm, 166, rfl⟩
abbrev main_v97 : Ref sig .tc := ⟨.hbm, 167, rfl⟩
abbrev main_cst_16 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_cst_17 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_18 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_cst_19 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_cst_20 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_21 : Ref sig .tc := ⟨.hbm, 198, rfl⟩
abbrev main_v123 : Ref sig .tc := ⟨.hbm, 199, rfl⟩
abbrev main_cst_22 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_cst_23 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_call5_v0 : Ref sig .tc := ⟨.hbm, 213, rfl⟩
abbrev main_call5_cst : Ref sig .tc := ⟨.hbm, 214, rfl⟩
abbrev main_call5_c : Ref sig .tc := ⟨.hbm, 215, rfl⟩
abbrev main_call5_v1_0 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_24 : Ref sig .tc := ⟨.hbm, 220, rfl⟩
abbrev main_v138 : Ref sig .tc := ⟨.hbm, 221, rfl⟩
abbrev main_cst_25 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_cst_26 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_27 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_call6_v0 : Ref sig .tc := ⟨.hbm, 247, rfl⟩
abbrev main_call6_v1 : Ref sig .tc := ⟨.hbm, 248, rfl⟩
abbrev main_call6_cst : Ref sig .tc := ⟨.hbm, 249, rfl⟩
abbrev main_call6_v2 : Ref sig .tc := ⟨.hbm, 250, rfl⟩
abbrev main_call6_v3 : Ref sig .tc := ⟨.hbm, 251, rfl⟩
abbrev main_call6_cst_0 : Ref sig .tc := ⟨.hbm, 252, rfl⟩
abbrev main_call6_v4 : Ref sig .tc := ⟨.hbm, 253, rfl⟩
abbrev main_call6_v5 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_call7_v0 : Ref sig .tc := ⟨.hbm, 261, rfl⟩
abbrev main_call7_v1 : Ref sig .tc := ⟨.hbm, 262, rfl⟩
abbrev main_call7_cst : Ref sig .tc := ⟨.hbm, 263, rfl⟩
abbrev main_call7_v2 : Ref sig .tc := ⟨.hbm, 264, rfl⟩
abbrev main_call7_v3 : Ref sig .tc := ⟨.hbm, 265, rfl⟩
abbrev main_call7_cst_0 : Ref sig .tc := ⟨.hbm, 266, rfl⟩
abbrev main_call7_v4 : Ref sig .tc := ⟨.hbm, 267, rfl⟩
abbrev main_call7_v5 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_call8_v0 : Ref sig .tc := ⟨.hbm, 275, rfl⟩
abbrev main_call8_v1 : Ref sig .tc := ⟨.hbm, 276, rfl⟩
abbrev main_call8_cst : Ref sig .tc := ⟨.hbm, 277, rfl⟩
abbrev main_call8_v2 : Ref sig .tc := ⟨.hbm, 278, rfl⟩
abbrev main_call8_v3 : Ref sig .tc := ⟨.hbm, 279, rfl⟩
abbrev main_call8_cst_0 : Ref sig .tc := ⟨.hbm, 280, rfl⟩
abbrev main_call8_v4 : Ref sig .tc := ⟨.hbm, 281, rfl⟩
abbrev main_call8_v5 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_call9_v0 : Ref sig .tc := ⟨.hbm, 289, rfl⟩
abbrev main_call9_cst : Ref sig .tc := ⟨.hbm, 290, rfl⟩
abbrev main_call9_v1 : Ref sig .tc := ⟨.hbm, 291, rfl⟩
abbrev main_call9_v2 : Ref sig .tc := ⟨.hbm, 292, rfl⟩
abbrev main_v179 : Ref sig .tc := ⟨.hbm, 293, rfl⟩
abbrev main_cst_28 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_call10_v0 : Ref sig .tc := ⟨.hbm, 300, rfl⟩
abbrev main_call10_cst : Ref sig .tc := ⟨.hbm, 301, rfl⟩
abbrev main_call10_v1 : Ref sig .tc := ⟨.hbm, 302, rfl⟩
abbrev main_call10_v2 : Ref sig .tc := ⟨.hbm, 303, rfl⟩
abbrev main_v185 : Ref sig .tc := ⟨.hbm, 304, rfl⟩
abbrev main_cst_29 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_cst_30 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_cst_31 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_32 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_33 : Ref sig .tc := ⟨.hbm, 334, rfl⟩
abbrev main_v211 : Ref sig .tc := ⟨.hbm, 335, rfl⟩
abbrev main_cst_34 : Ref sig .tc := ⟨.hbm, 336, rfl⟩
abbrev main_v212 : Ref sig .tc := ⟨.hbm, 337, rfl⟩
abbrev main_call11_v0 : Ref sig .tc := ⟨.hbm, 338, rfl⟩
abbrev main_call11_cst : Ref sig .tc := ⟨.hbm, 339, rfl⟩
abbrev main_call11_v1 : Ref sig .tc := ⟨.hbm, 340, rfl⟩
abbrev main_v213 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_c : Ref sig .tc := ⟨.hbm, 347, rfl⟩
abbrev main_v219 : Ref sig .tc := ⟨.hbm, 348, rfl⟩
abbrev main_call12_v0 : Ref sig .tc := ⟨.hbm, 349, rfl⟩
abbrev main_call12_c : Ref sig .tc := ⟨.hbm, 350, rfl⟩
abbrev main_call12_v1 : Ref sig .tc := ⟨.hbm, 351, rfl⟩
abbrev main_call12_v2 : Ref sig .tc := ⟨.hbm, 352, rfl⟩
abbrev main_call12_v3 : Ref sig .tc := ⟨.hbm, 353, rfl⟩
abbrev main_call12_v4 : Ref sig .tc := ⟨.hbm, 354, rfl⟩
abbrev main_call12_c_0 : Ref sig .tc := ⟨.hbm, 355, rfl⟩
abbrev main_call12_v5 : Ref sig .tc := ⟨.hbm, 356, rfl⟩
abbrev main_v220 : Ref sig .tc := ⟨.hbm, 357, rfl⟩
abbrev main_v221 : Ref sig .tc := ⟨.hbm, 358, rfl⟩
abbrev main_c_35 : Ref sig .tc := ⟨.hbm, 359, rfl⟩
abbrev main_v222 : Ref sig .tc := ⟨.hbm, 360, rfl⟩
abbrev main_v223 : Ref sig .tc := ⟨.hbm, 361, rfl⟩
abbrev main_c_36 : Ref sig .tc := ⟨.hbm, 362, rfl⟩
abbrev main_v224 : Ref sig .tc := ⟨.hbm, 363, rfl⟩
abbrev main_v225 : Ref sig .tc := ⟨.hbm, 364, rfl⟩
abbrev main_cst_37 : Ref sig .tc := ⟨.hbm, 365, rfl⟩
abbrev main_v226 : Ref sig .tc := ⟨.hbm, 366, rfl⟩
abbrev main_cst_38 : Ref sig .tc := ⟨.hbm, 367, rfl⟩
abbrev main_v227 : Ref sig .tc := ⟨.hbm, 368, rfl⟩
abbrev main_cst_39 : Ref sig .tc := ⟨.hbm, 369, rfl⟩
abbrev main_v228 : Ref sig .tc := ⟨.hbm, 370, rfl⟩
abbrev main_cst_40 : Ref sig .tc := ⟨.hbm, 371, rfl⟩
abbrev main_v229 : Ref sig .tc := ⟨.hbm, 372, rfl⟩
abbrev main_cst_41 : Ref sig .tc := ⟨.hbm, 373, rfl⟩
abbrev main_v230 : Ref sig .tc := ⟨.hbm, 374, rfl⟩

abbrev nD : Nat := 1
abbrev τ : Topo := Topo.v7x

variable {F : FTy → Type} [FloatOps F]
-- ==== Proof.Frame.Blocks0.lean ====
/- The first call: each window's block at a point, and its staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof data whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof data whose array is `V`'s (`hA`) and whose body leaves the block in place (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof data whose array is `V`'s (`hA`) and whose body leaves the block in place (`hafter`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof data whose array is `V`'s (`hA`) and whose body leaves the block in place (`hafter`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof data whose array is `V`'s (`hA`) and whose body leaves the block in place (`hafter`). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof data whose array is `V`'s (`hA`) and whose body leaves the block in place (`hafter`). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof data whose array is `V`'s (`hA`) and whose body leaves the block in place (`hafter`). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof data whose array is `V`'s (`hA`) and whose body leaves the block in place (`hafter`). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof data whose array is `V`'s (`hA`) and whose body leaves the block in place (`hafter`). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof data whose array is `V`'s (`hA`) and whose body leaves the block in place (`hafter`). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof data whose array is `V`'s (`hA`) and whose body leaves the block in place (`hafter`). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof data whose array is `V`'s (`hA`) and whose body leaves the block in place (`hafter`). -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof data whose array is `V`'s (`hA`) and whose body leaves the block in place (`hafter`). -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's current staging buffer holds its block at every point, fetched there or not, for ANY proof data whose array is `V`'s (`hA`) and whose body leaves the block in place (`hafter`). -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's current staging buffer holds its block at every point, fetched there or not, for ANY proof data whose array is `V`'s (`hA`) and whose body leaves the block in place (`hafter`). -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- Input window 19's current staging buffer holds its block at every point, fetched there or not, for ANY proof data whose array is `V`'s (`hA`) and whose body leaves the block in place (`hafter`). -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
/-- Input window 20's current staging buffer holds its block at every point, fetched there or not, for ANY proof data whose array is `V`'s (`hA`) and whose body leaves the block in place (`hafter`). -/
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
/-- Input window 21's current staging buffer holds its block at every point, fetched there or not, for ANY proof data whose array is `V`'s (`hA`) and whose body leaves the block in place (`hafter`). -/
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
/-- Input window 22's current staging buffer holds its block at every point, fetched there or not, for ANY proof data whose array is `V`'s (`hA`) and whose body leaves the block in place (`hafter`). -/
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
/-- Input window 23's current staging buffer holds its block at every point, fetched there or not, for ANY proof data whose array is `V`'s (`hA`) and whose body leaves the block in place (`hafter`). -/
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)

/-- The condition of the body's `scf.if` 0 (`k0_h1`), from the grid coordinates (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- One staging buffer of output window 24, through which its contents are stated (`View.read_writes_of_cover`: the choice does not matter). -/
abbrev VO0_24 : View sig .tc .vmem S1x1 .f32 := (Memref.whole cc0_stg24_0 : Memref sig .tc .vmem S1x1 .f32).view
/-- One staging buffer of output window 25, through which its contents are stated (`View.read_writes_of_cover`: the choice does not matter). -/
abbrev VO0_25 : View sig .tc .vmem S1x1 .f32 := (Memref.whole cc0_stg25_0 : Memref sig .tc .vmem S1x1 .f32).view
/-- One staging buffer of output window 26, through which its contents are stated (`View.read_writes_of_cover`: the choice does not matter). -/
abbrev VO0_26 : View sig .tc .vmem S1024x3 .f32 := (Memref.whole cc0_stg26_0 : Memref sig .tc .vmem S1024x3 .f32).view
/-- One staging buffer of output window 27, through which its contents are stated (`View.read_writes_of_cover`: the choice does not matter). -/
abbrev VO0_27 : View sig .tc .vmem S1024x1 .i32 := (Memref.whole cc0_stg27_0 : Memref sig .tc .vmem S1024x1 .i32).view
/-- One staging buffer of output window 28, through which its contents are stated (`View.read_writes_of_cover`: the choice does not matter). -/
abbrev VO0_28 : View sig .tc .vmem S1x1024 .i32 := (Memref.whole cc0_stg28_0 : Memref sig .tc .vmem S1x1024 .i32).view
/-- Each window's current staging memref at point `t`, spelled as the pipeline passes it (`bodyAt0`), and its wholeness. -/
abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x786 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x786 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S786x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x786 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S128x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1024x128 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S128x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1024x128 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x1 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1024x3 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1024x1 .i32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x1024 .i32 := win0_28.stage (cfg0.slots t 28)
abbrev hs0_28 (t : Fin cfg0.N) : (ms0_28 t).IsWhole := hstage0_28 ((cfg0.slots t 28).cast nbuf0_28)

end Regions

end Cert.KRun

end
-- ==== Proof.Frame.CaseA.lean ====
/- The first call's body at its first point. -/
module

public import proofs.«01_k».proof.Proof.Frame.Blocks0

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

set_option maxHeartbeats 40000000 in
/-- What the body's stores leave in each output's staging memref, as pieces (last first) IN CASE A (`scf.if` 0 taken: points 0), WITH the proof that on whole staging memrefs. -/
noncomputable def kernelRun0_A (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) :
    Σ' (L24 : List (View.Piece (Elt F) S1x1 .f32)), Σ' (L25 : List (View.Piece (Elt F) S1x1 .f32)), Σ' (L26 : List (View.Piece (Elt F) S1024x3 .f32)), Σ' (L27 : List (View.Piece (Elt F) S1024x1 .i32)), { L28 : List (View.Piece (Elt F) S1x1024 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0__rq_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0__rq_body_eq_skeleton]; unfold cc0__rq_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

/-- Case A's stores into output 24 cover its block. -/
theorem cover0_A_24 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1 S1x1.size (by sl_kernel_rfl) y

/-- What case A leaves in output 24's staging buffer: its pieces read back over junk. -/
def out0_A_24 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) : Vec F S1x1 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1)

/-- Case A's stores into output 25 cover its block. -/
theorem cover0_A_25 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1 S1x1.size (by sl_kernel_rfl) y

/-- What case A leaves in output 25's staging buffer: its pieces read back over junk. -/
def out0_A_25 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) : Vec F S1x1 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1)

/-- Case A's stores into output 26 cover its block. -/
theorem cover0_A_26 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (y : S1024x3.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1 S1024x3.size (by sl_kernel_rfl) y

/-- What case A leaves in output 26's staging buffer: its pieces read back over junk. -/
def out0_A_26 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) : Vec F S1024x3 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1)

/-- Case A's stores into output 27 cover its block. -/
theorem cover0_A_27 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (y : S1024x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1 S1024x1.size (by sl_kernel_rfl) y

/-- What case A leaves in output 27's staging buffer: its pieces read back over junk. -/
def out0_A_27 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) : Vec F S1024x1 .i32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1)

/-- Case A's stores into output 28 cover its block. -/
theorem cover0_A_28 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1 S1x1024.size (by sl_kernel_rfl) y

/-- What case A leaves in output 28's staging buffer: its pieces read back over junk. -/
def out0_A_28 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) : Vec F S1x1024 .i32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1)

end Regions

end Cert.KRun

end
-- ==== Proof.Frame.CaseB.lean ====
/- The first call's body at a later point. -/
module

public import proofs.«01_k».proof.Proof.Frame.Blocks0

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

set_option maxHeartbeats 40000000 in
/-- What the body's stores leave in each output's staging memref, as pieces (last first) IN CASE B (`scf.if` 0 not taken: points 1, 2, 3), WITH the proof that on whole staging memrefs. -/
noncomputable def kernelRun0_B (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) :
    Σ' (L24 : List (View.Piece (Elt F) S1x1 .f32)), Σ' (L25 : List (View.Piece (Elt F) S1x1 .f32)), Σ' (L26 : List (View.Piece (Elt F) S1024x3 .f32)), Σ' (L27 : List (View.Piece (Elt F) S1024x1 .i32)), { L28 : List (View.Piece (Elt F) S1x1024 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare xo24 ∗ owns (c : Thread nD τ) arg26 fullShare xo25 ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0__rq_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0__rq_body_eq_skeleton]; unfold cc0__rq_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

/-- Case B's stores into output 24 cover its block. -/
theorem cover0_B_24 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).1 S1x1.size (by sl_kernel_rfl) y

/-- What case B leaves in output 24's staging buffer: its pieces read back over junk. -/
def out0_B_24 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) : Vec F S1x1 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).1)

/-- Case B's stores into output 25 cover its block. -/
theorem cover0_B_25 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.1 S1x1.size (by sl_kernel_rfl) y

/-- What case B leaves in output 25's staging buffer: its pieces read back over junk. -/
def out0_B_25 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) : Vec F S1x1 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.1)

/-- Case B's stores into output 26 cover its block. -/
theorem cover0_B_26 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) (y : S1024x3.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.1 S1024x3.size (by sl_kernel_rfl) y

/-- What case B leaves in output 26's staging buffer: its pieces read back over junk. -/
def out0_B_26 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) : Vec F S1024x3 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.1)

/-- Case B's stores into output 27 cover its block. -/
theorem cover0_B_27 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) (y : S1024x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.1 S1024x1.size (by sl_kernel_rfl) y

/-- What case B leaves in output 27's staging buffer: its pieces read back over junk. -/
def out0_B_27 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) : Vec F S1024x1 .i32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.1)

/-- Case B's stores into output 28 cover its block. -/
theorem cover0_B_28 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.2.1 S1x1024.size (by sl_kernel_rfl) y

/-- What case B leaves in output 28's staging buffer: its pieces read back over junk. -/
def out0_B_28 (c : Dev nD) (i : grid0.Coords) (arg1 : Memref sig .tc .vmem S1x1 .f32) (harg1 : arg1.IsWhole) (arg2 : Memref sig .tc .vmem S1024x786 .f32) (harg2 : arg2.IsWhole) (arg3 : Memref sig .tc .vmem S1024x786 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x256 .f32) (harg8 : arg8.IsWhole) (arg9 : Memref sig .tc .vmem S128x256 .bf16) (harg9 : arg9.IsWhole) (arg10 : Memref sig .tc .vmem S1x128 .f32) (harg10 : arg10.IsWhole) (arg11 : Memref sig .tc .vmem S256x128 .bf16) (harg11 : arg11.IsWhole) (arg12 : Memref sig .tc .vmem S1x256 .f32) (harg12 : arg12.IsWhole) (arg13 : Memref sig .tc .vmem S512x256 .bf16) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1x1024 .f32) (harg16 : arg16.IsWhole) (arg17 : Memref sig .tc .vmem S786x1024 .bf16) (harg17 : arg17.IsWhole) (arg18 : Memref sig .tc .vmem S1x786 .f32) (harg18 : arg18.IsWhole) (arg19 : Memref sig .tc .vmem S128x1024 .f32) (harg19 : arg19.IsWhole) (arg20 : Memref sig .tc .vmem S1024x128 .bf16) (harg20 : arg20.IsWhole) (arg21 : Memref sig .tc .vmem S128x1024 .f32) (harg21 : arg21.IsWhole) (arg22 : Memref sig .tc .vmem S1024x128 .bf16) (harg22 : arg22.IsWhole) (arg23 : Memref sig .tc .vmem S128x1024 .f32) (harg23 : arg23.IsWhole) (arg24 : Memref sig .tc .vmem S1024x128 .bf16) (harg24 : arg24.IsWhole) (arg25 : Memref sig .tc .vmem S1x1 .f32) (harg25 : arg25.IsWhole) (arg26 : Memref sig .tc .vmem S1x1 .f32) (harg26 : arg26.IsWhole) (arg27 : Memref sig .tc .vmem S1024x3 .f32) (harg27 : arg27.IsWhole) (arg28 : Memref sig .tc .vmem S1024x1 .i32) (harg28 : arg28.IsWhole) (arg29 : Memref sig .tc .vmem S1x1024 .i32) (harg29 : arg29.IsWhole) (hc0 : ¬cond0_0 i)
    (x0 : Vec F S1x1 .f32) (x1 : Vec F S1024x786 .f32) (x2 : Vec F S1024x786 .bf16) (x3 : Vec F S1x1024 .f32) (x4 : Vec F S512x1024 .bf16) (x5 : Vec F S1x512 .f32) (x6 : Vec F S256x512 .bf16) (x7 : Vec F S1x256 .f32) (x8 : Vec F S128x256 .bf16) (x9 : Vec F S1x128 .f32) (x10 : Vec F S256x128 .bf16) (x11 : Vec F S1x256 .f32) (x12 : Vec F S512x256 .bf16) (x13 : Vec F S1x512 .f32) (x14 : Vec F S1024x512 .bf16) (x15 : Vec F S1x1024 .f32) (x16 : Vec F S786x1024 .bf16) (x17 : Vec F S1x786 .f32) (x18 : Vec F S128x1024 .f32) (x19 : Vec F S1024x128 .bf16) (x20 : Vec F S128x1024 .f32) (x21 : Vec F S1024x128 .bf16) (x22 : Vec F S128x1024 .f32) (x23 : Vec F S1024x128 .bf16) (xo24 : Vec F S1x1 .f32) (xo25 : Vec F S1x1 .f32) : Vec F S1x1024 .i32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo24 xo25).2.2.2.2.1)

end Regions

end Cert.KRun

end
-- ==== Proof.Frame.Region0.lean ====
/- The first call: what its outputs hold point by point, and the body's triple. -/
module

public import proofs.«01_k».proof.Proof.Frame.CaseA
public import proofs.«01_k».proof.Proof.Frame.CaseB

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- THE ACCUMULATION. What the outputs' staging buffers hold after the body at position `n` (a tuple, in window order). -/
def outsAt0 (c : Dev nD) : (n : ℕ) → n < cfg0.N → Vec F S1x1 .f32 × Vec F S1x1 .f32 × Vec F S1024x3 .f32 × Vec F S1024x1 .i32 × Vec F S1x1024 .i32
  | 0, hn => (out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩) (iblk0 V c 15 ⟨0, hn⟩) (iblk0 V c 16 ⟨0, hn⟩) (iblk0 V c 17 ⟨0, hn⟩) (iblk0 V c 18 ⟨0, hn⟩) (iblk0 V c 19 ⟨0, hn⟩) (iblk0 V c 20 ⟨0, hn⟩) (iblk0 V c 21 ⟨0, hn⟩) (iblk0 V c 22 ⟨0, hn⟩) (iblk0 V c 23 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩) (iblk0 V c 15 ⟨0, hn⟩) (iblk0 V c 16 ⟨0, hn⟩) (iblk0 V c 17 ⟨0, hn⟩) (iblk0 V c 18 ⟨0, hn⟩) (iblk0 V c 19 ⟨0, hn⟩) (iblk0 V c 20 ⟨0, hn⟩) (iblk0 V c 21 ⟨0, hn⟩) (iblk0 V c 22 ⟨0, hn⟩) (iblk0 V c 23 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩) (iblk0 V c 15 ⟨0, hn⟩) (iblk0 V c 16 ⟨0, hn⟩) (iblk0 V c 17 ⟨0, hn⟩) (iblk0 V c 18 ⟨0, hn⟩) (iblk0 V c 19 ⟨0, hn⟩) (iblk0 V c 20 ⟨0, hn⟩) (iblk0 V c 21 ⟨0, hn⟩) (iblk0 V c 22 ⟨0, hn⟩) (iblk0 V c 23 ⟨0, hn⟩), out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩) (iblk0 V c 15 ⟨0, hn⟩) (iblk0 V c 16 ⟨0, hn⟩) (iblk0 V c 17 ⟨0, hn⟩) (iblk0 V c 18 ⟨0, hn⟩) (iblk0 V c 19 ⟨0, hn⟩) (iblk0 V c 20 ⟨0, hn⟩) (iblk0 V c 21 ⟨0, hn⟩) (iblk0 V c 22 ⟨0, hn⟩) (iblk0 V c 23 ⟨0, hn⟩), out0_A_28 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩) (iblk0 V c 15 ⟨0, hn⟩) (iblk0 V c 16 ⟨0, hn⟩) (iblk0 V c 17 ⟨0, hn⟩) (iblk0 V c 18 ⟨0, hn⟩) (iblk0 V c 19 ⟨0, hn⟩) (iblk0 V c 20 ⟨0, hn⟩) (iblk0 V c 21 ⟨0, hn⟩) (iblk0 V c 22 ⟨0, hn⟩) (iblk0 V c 23 ⟨0, hn⟩))
  | n + 1, hn =>
    if h0 : (n + 1) % 4 = 0 then
      (out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩), out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩), out0_A_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩))
    else
      (out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩) (outsAt0 c n (Nat.lt_of_succ_lt hn)).1 (outsAt0 c n (Nat.lt_of_succ_lt hn)).2.1, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩) (outsAt0 c n (Nat.lt_of_succ_lt hn)).1 (outsAt0 c n (Nat.lt_of_succ_lt hn)).2.1, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩) (outsAt0 c n (Nat.lt_of_succ_lt hn)).1 (outsAt0 c n (Nat.lt_of_succ_lt hn)).2.1, out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩) (outsAt0 c n (Nat.lt_of_succ_lt hn)).1 (outsAt0 c n (Nat.lt_of_succ_lt hn)).2.1, out0_B_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (iblk0 V c 15 ⟨n + 1, hn⟩) (iblk0 V c 16 ⟨n + 1, hn⟩) (iblk0 V c 17 ⟨n + 1, hn⟩) (iblk0 V c 18 ⟨n + 1, hn⟩) (iblk0 V c 19 ⟨n + 1, hn⟩) (iblk0 V c 20 ⟨n + 1, hn⟩) (iblk0 V c 21 ⟨n + 1, hn⟩) (iblk0 V c 22 ⟨n + 1, hn⟩) (iblk0 V c 23 ⟨n + 1, hn⟩) (outsAt0 c n (Nat.lt_of_succ_lt hn)).1 (outsAt0 c n (Nat.lt_of_succ_lt hn)).2.1)

/-- `outsAt0` at a point of case A: that case's contents. -/
theorem outsAt0_A (c : Dev nD) (t : Fin cfg0.N) (h0 : t.val % 4 = 0) :
    outsAt0 V c t.val t.isLt = (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (outsAt0 V c (t.val - 1) (Nat.lt_of_le_of_lt (Nat.sub_le _ _) t.isLt)).1 (outsAt0 V c (t.val - 1) (Nat.lt_of_le_of_lt (Nat.sub_le _ _) t.isLt)).2.1, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (outsAt0 V c (t.val - 1) (Nat.lt_of_le_of_lt (Nat.sub_le _ _) t.isLt)).1 (outsAt0 V c (t.val - 1) (Nat.lt_of_le_of_lt (Nat.sub_le _ _) t.isLt)).2.1, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (outsAt0 V c (t.val - 1) (Nat.lt_of_le_of_lt (Nat.sub_le _ _) t.isLt)).1 (outsAt0 V c (t.val - 1) (Nat.lt_of_le_of_lt (Nat.sub_le _ _) t.isLt)).2.1, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (outsAt0 V c (t.val - 1) (Nat.lt_of_le_of_lt (Nat.sub_le _ _) t.isLt)).1 (outsAt0 V c (t.val - 1) (Nat.lt_of_le_of_lt (Nat.sub_le _ _) t.isLt)).2.1, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (outsAt0 V c (t.val - 1) (Nat.lt_of_le_of_lt (Nat.sub_le _ _) t.isLt)).1 (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans rfl

/-- The proof data of pipeline 0 on core `c`: the arrays as the region finds them (`V`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => (outsAt0 V c t.val t.isLt).1
    | ⟨25, _⟩ => (outsAt0 V c t.val t.isLt).2.1
    | ⟨26, _⟩ => (outsAt0 V c t.val t.isLt).2.2.1
    | ⟨27, _⟩ => (outsAt0 V c t.val t.isLt).2.2.2.1
    | ⟨28, _⟩ => (outsAt0 V c t.val t.isLt).2.2.2.2
    | ⟨_ + 29, h⟩ => absurd h (Nat.not_lt.2 (Nat.le_add_left _ _))
  Φ _ := Pipeline.ΦA spec0 c
  q _ := fullShare
  owed _ := 0

/-- The proof data's arrays are the region-entry contents, by projecting the definition (`dsimp`): a region record cites this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What the body leaves in window 1 of call 0. -/
theorem after0_1 (c : Dev nD) (t : Fin cfg0.N) : (dat0 V c).after 1 t = iblk0 V c 1 t := by dsimp only [dat0]
/-- What the body leaves in window 2 of call 0. -/
theorem after0_2 (c : Dev nD) (t : Fin cfg0.N) : (dat0 V c).after 2 t = iblk0 V c 2 t := by dsimp only [dat0]
/-- What the body leaves in window 3 of call 0. -/
theorem after0_3 (c : Dev nD) (t : Fin cfg0.N) : (dat0 V c).after 3 t = iblk0 V c 3 t := by dsimp only [dat0]
/-- What the body leaves in window 4 of call 0. -/
theorem after0_4 (c : Dev nD) (t : Fin cfg0.N) : (dat0 V c).after 4 t = iblk0 V c 4 t := by dsimp only [dat0]
/-- What the body leaves in window 5 of call 0. -/
theorem after0_5 (c : Dev nD) (t : Fin cfg0.N) : (dat0 V c).after 5 t = iblk0 V c 5 t := by dsimp only [dat0]
/-- What the body leaves in window 6 of call 0. -/
theorem after0_6 (c : Dev nD) (t : Fin cfg0.N) : (dat0 V c).after 6 t = iblk0 V c 6 t := by dsimp only [dat0]
/-- What the body leaves in window 7 of call 0. -/
theorem after0_7 (c : Dev nD) (t : Fin cfg0.N) : (dat0 V c).after 7 t = iblk0 V c 7 t := by dsimp only [dat0]
/-- What the body leaves in window 8 of call 0. -/
theorem after0_8 (c : Dev nD) (t : Fin cfg0.N) : (dat0 V c).after 8 t = iblk0 V c 8 t := by dsimp only [dat0]
/-- What the body leaves in window 9 of call 0. -/
theorem after0_9 (c : Dev nD) (t : Fin cfg0.N) : (dat0 V c).after 9 t = iblk0 V c 9 t := by dsimp only [dat0]
/-- What the body leaves in window 10 of call 0. -/
theorem after0_10 (c : Dev nD) (t : Fin cfg0.N) : (dat0 V c).after 10 t = iblk0 V c 10 t := by dsimp only [dat0]
/-- What the body leaves in window 11 of call 0. -/
theorem after0_11 (c : Dev nD) (t : Fin cfg0.N) : (dat0 V c).after 11 t = iblk0 V c 11 t := by dsimp only [dat0]
/-- What the body leaves in window 12 of call 0. -/
theorem after0_12 (c : Dev nD) (t : Fin cfg0.N) : (dat0 V c).after 12 t = iblk0 V c 12 t := by dsimp only [dat0]
/-- What the body leaves in window 13 of call 0. -/
theorem after0_13 (c : Dev nD) (t : Fin cfg0.N) : (dat0 V c).after 13 t = iblk0 V c 13 t := by dsimp only [dat0]
/-- What the body leaves in window 14 of call 0. -/
theorem after0_14 (c : Dev nD) (t : Fin cfg0.N) : (dat0 V c).after 14 t = iblk0 V c 14 t := by dsimp only [dat0]
/-- What the body leaves in window 15 of call 0. -/
theorem after0_15 (c : Dev nD) (t : Fin cfg0.N) : (dat0 V c).after 15 t = iblk0 V c 15 t := by dsimp only [dat0]
/-- What the body leaves in window 16 of call 0. -/
theorem after0_16 (c : Dev nD) (t : Fin cfg0.N) : (dat0 V c).after 16 t = iblk0 V c 16 t := by dsimp only [dat0]
/-- What the body leaves in window 17 of call 0. -/
theorem after0_17 (c : Dev nD) (t : Fin cfg0.N) : (dat0 V c).after 17 t = iblk0 V c 17 t := by dsimp only [dat0]
/-- What the body leaves in window 18 of call 0. -/
theorem after0_18 (c : Dev nD) (t : Fin cfg0.N) : (dat0 V c).after 18 t = iblk0 V c 18 t := by dsimp only [dat0]
/-- What the body leaves in window 19 of call 0. -/
theorem after0_19 (c : Dev nD) (t : Fin cfg0.N) : (dat0 V c).after 19 t = iblk0 V c 19 t := by dsimp only [dat0]
/-- What the body leaves in window 20 of call 0. -/
theorem after0_20 (c : Dev nD) (t : Fin cfg0.N) : (dat0 V c).after 20 t = iblk0 V c 20 t := by dsimp only [dat0]
/-- What the body leaves in window 21 of call 0. -/
theorem after0_21 (c : Dev nD) (t : Fin cfg0.N) : (dat0 V c).after 21 t = iblk0 V c 21 t := by dsimp only [dat0]
/-- What the body leaves in window 22 of call 0. -/
theorem after0_22 (c : Dev nD) (t : Fin cfg0.N) : (dat0 V c).after 22 t = iblk0 V c 22 t := by dsimp only [dat0]
/-- What the body leaves in window 23 of call 0. -/
theorem after0_23 (c : Dev nD) (t : Fin cfg0.N) : (dat0 V c).after 23 t = iblk0 V c 23 t := by dsimp only [dat0]
/-- What the body leaves in window 24 of call 0. -/
theorem after0_24 (c : Dev nD) (t : Fin cfg0.N) : (dat0 V c).after 24 t = (outsAt0 V c t.val t.isLt).1 := by dsimp only [dat0]
/-- What the body leaves in window 25 of call 0. -/
theorem after0_25 (c : Dev nD) (t : Fin cfg0.N) : (dat0 V c).after 25 t = (outsAt0 V c t.val t.isLt).2.1 := by dsimp only [dat0]
/-- What the body leaves in window 26 of call 0. -/
theorem after0_26 (c : Dev nD) (t : Fin cfg0.N) : (dat0 V c).after 26 t = (outsAt0 V c t.val t.isLt).2.2.1 := by dsimp only [dat0]
/-- What the body leaves in window 27 of call 0. -/
theorem after0_27 (c : Dev nD) (t : Fin cfg0.N) : (dat0 V c).after 27 t = (outsAt0 V c t.val t.isLt).2.2.2.1 := by dsimp only [dat0]
/-- What the body leaves in window 28 of call 0. -/
theorem after0_28 (c : Dev nD) (t : Fin cfg0.N) : (dat0 V c).after 28 t = (outsAt0 V c t.val t.isLt).2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- The staging buffer of input 1 of call 0 holds its block at every point. -/
theorem before0_1 (c : Dev nD) (t : Fin cfg0.N) (d) : (dat0 V c).before 1 t d = iblk0 V c 1 t :=
  before0_1_of V (dat0 V c) (A_eq0 V c 1) (after0_1 V c) t d
/-- The staging buffer of input 2 of call 0 holds its block at every point. -/
theorem before0_2 (c : Dev nD) (t : Fin cfg0.N) (d) : (dat0 V c).before 2 t d = iblk0 V c 2 t :=
  before0_2_of V (dat0 V c) (A_eq0 V c 2) (after0_2 V c) t d
/-- The staging buffer of input 3 of call 0 holds its block at every point. -/
theorem before0_3 (c : Dev nD) (t : Fin cfg0.N) (d) : (dat0 V c).before 3 t d = iblk0 V c 3 t :=
  before0_3_of V (dat0 V c) (A_eq0 V c 3) (after0_3 V c) t d
/-- The staging buffer of input 4 of call 0 holds its block at every point. -/
theorem before0_4 (c : Dev nD) (t : Fin cfg0.N) (d) : (dat0 V c).before 4 t d = iblk0 V c 4 t :=
  before0_4_of V (dat0 V c) (A_eq0 V c 4) (after0_4 V c) t d
/-- The staging buffer of input 5 of call 0 holds its block at every point. -/
theorem before0_5 (c : Dev nD) (t : Fin cfg0.N) (d) : (dat0 V c).before 5 t d = iblk0 V c 5 t :=
  before0_5_of V (dat0 V c) (A_eq0 V c 5) (after0_5 V c) t d
/-- The staging buffer of input 6 of call 0 holds its block at every point. -/
theorem before0_6 (c : Dev nD) (t : Fin cfg0.N) (d) : (dat0 V c).before 6 t d = iblk0 V c 6 t :=
  before0_6_of V (dat0 V c) (A_eq0 V c 6) (after0_6 V c) t d
/-- The staging buffer of input 7 of call 0 holds its block at every point. -/
theorem before0_7 (c : Dev nD) (t : Fin cfg0.N) (d) : (dat0 V c).before 7 t d = iblk0 V c 7 t :=
  before0_7_of V (dat0 V c) (A_eq0 V c 7) (after0_7 V c) t d
/-- The staging buffer of input 8 of call 0 holds its block at every point. -/
theorem before0_8 (c : Dev nD) (t : Fin cfg0.N) (d) : (dat0 V c).before 8 t d = iblk0 V c 8 t :=
  before0_8_of V (dat0 V c) (A_eq0 V c 8) (after0_8 V c) t d
/-- The staging buffer of input 9 of call 0 holds its block at every point. -/
theorem before0_9 (c : Dev nD) (t : Fin cfg0.N) (d) : (dat0 V c).before 9 t d = iblk0 V c 9 t :=
  before0_9_of V (dat0 V c) (A_eq0 V c 9) (after0_9 V c) t d
/-- The staging buffer of input 10 of call 0 holds its block at every point. -/
theorem before0_10 (c : Dev nD) (t : Fin cfg0.N) (d) : (dat0 V c).before 10 t d = iblk0 V c 10 t :=
  before0_10_of V (dat0 V c) (A_eq0 V c 10) (after0_10 V c) t d
/-- The staging buffer of input 11 of call 0 holds its block at every point. -/
theorem before0_11 (c : Dev nD) (t : Fin cfg0.N) (d) : (dat0 V c).before 11 t d = iblk0 V c 11 t :=
  before0_11_of V (dat0 V c) (A_eq0 V c 11) (after0_11 V c) t d
/-- The staging buffer of input 12 of call 0 holds its block at every point. -/
theorem before0_12 (c : Dev nD) (t : Fin cfg0.N) (d) : (dat0 V c).before 12 t d = iblk0 V c 12 t :=
  before0_12_of V (dat0 V c) (A_eq0 V c 12) (after0_12 V c) t d
/-- The staging buffer of input 13 of call 0 holds its block at every point. -/
theorem before0_13 (c : Dev nD) (t : Fin cfg0.N) (d) : (dat0 V c).before 13 t d = iblk0 V c 13 t :=
  before0_13_of V (dat0 V c) (A_eq0 V c 13) (after0_13 V c) t d
/-- The staging buffer of input 14 of call 0 holds its block at every point. -/
theorem before0_14 (c : Dev nD) (t : Fin cfg0.N) (d) : (dat0 V c).before 14 t d = iblk0 V c 14 t :=
  before0_14_of V (dat0 V c) (A_eq0 V c 14) (after0_14 V c) t d
/-- The staging buffer of input 15 of call 0 holds its block at every point. -/
theorem before0_15 (c : Dev nD) (t : Fin cfg0.N) (d) : (dat0 V c).before 15 t d = iblk0 V c 15 t :=
  before0_15_of V (dat0 V c) (A_eq0 V c 15) (after0_15 V c) t d
/-- The staging buffer of input 16 of call 0 holds its block at every point. -/
theorem before0_16 (c : Dev nD) (t : Fin cfg0.N) (d) : (dat0 V c).before 16 t d = iblk0 V c 16 t :=
  before0_16_of V (dat0 V c) (A_eq0 V c 16) (after0_16 V c) t d
/-- The staging buffer of input 17 of call 0 holds its block at every point. -/
theorem before0_17 (c : Dev nD) (t : Fin cfg0.N) (d) : (dat0 V c).before 17 t d = iblk0 V c 17 t :=
  before0_17_of V (dat0 V c) (A_eq0 V c 17) (after0_17 V c) t d
/-- The staging buffer of input 18 of call 0 holds its block at every point. -/
theorem before0_18 (c : Dev nD) (t : Fin cfg0.N) (d) : (dat0 V c).before 18 t d = iblk0 V c 18 t :=
  before0_18_of V (dat0 V c) (A_eq0 V c 18) (after0_18 V c) t d
/-- The staging buffer of input 19 of call 0 holds its block at every point. -/
theorem before0_19 (c : Dev nD) (t : Fin cfg0.N) (d) : (dat0 V c).before 19 t d = iblk0 V c 19 t :=
  before0_19_of V (dat0 V c) (A_eq0 V c 19) (after0_19 V c) t d
/-- The staging buffer of input 20 of call 0 holds its block at every point. -/
theorem before0_20 (c : Dev nD) (t : Fin cfg0.N) (d) : (dat0 V c).before 20 t d = iblk0 V c 20 t :=
  before0_20_of V (dat0 V c) (A_eq0 V c 20) (after0_20 V c) t d
/-- The staging buffer of input 21 of call 0 holds its block at every point. -/
theorem before0_21 (c : Dev nD) (t : Fin cfg0.N) (d) : (dat0 V c).before 21 t d = iblk0 V c 21 t :=
  before0_21_of V (dat0 V c) (A_eq0 V c 21) (after0_21 V c) t d
/-- The staging buffer of input 22 of call 0 holds its block at every point. -/
theorem before0_22 (c : Dev nD) (t : Fin cfg0.N) (d) : (dat0 V c).before 22 t d = iblk0 V c 22 t :=
  before0_22_of V (dat0 V c) (A_eq0 V c 22) (after0_22 V c) t d
/-- The staging buffer of input 23 of call 0 holds its block at every point. -/
theorem before0_23 (c : Dev nD) (t : Fin cfg0.N) (d) : (dat0 V c).before 23 t d = iblk0 V c 23 t :=
  before0_23_of V (dat0 V c) (A_eq0 V c 23) (after0_23 V c) t d
/-- At a point of case B output 24's current staging buffer holds what the body left at the point before: the point is not the first, the buffer was not written back between (`flush0_24`), the window is live and uncut. -/
theorem before0_24_B (c : Dev nD) (t : Fin cfg0.N) (h0 : ¬t.val % 4 = 0) (d) :
    (dat0 V c).before 24 t d = (outsAt0 V c (t.val - 1) (Nat.lt_of_le_of_lt (Nat.sub_le _ _) t.isLt)).1 := by
  have hN : t.val < 4 := lt_of_lt_of_eq t.isLt (show cfg0.N = 4 from N_0)
  rw [Dat.before_out_kept _ 24 rfl t (by omega) (Bool.eq_false_iff.mpr fun h => by have := (flush0_24 _).mp h; dsimp only at this; omega)
    (fun _ => rfl) (fun _ _ => rfl)]
  dsimp only [dat0]
/-- At a point of case B output 25's current staging buffer holds what the body left at the point before: the point is not the first, the buffer was not written back between (`flush0_25`), the window is live and uncut. -/
theorem before0_25_B (c : Dev nD) (t : Fin cfg0.N) (h0 : ¬t.val % 4 = 0) (d) :
    (dat0 V c).before 25 t d = (outsAt0 V c (t.val - 1) (Nat.lt_of_le_of_lt (Nat.sub_le _ _) t.isLt)).2.1 := by
  have hN : t.val < 4 := lt_of_lt_of_eq t.isLt (show cfg0.N = 4 from N_0)
  rw [Dat.before_out_kept _ 25 rfl t (by omega) (Bool.eq_false_iff.mpr fun h => by have := (flush0_25 _).mp h; dsimp only at this; omega)
    (fun _ => rfl) (fun _ _ => rfl)]
  dsimp only [dat0]

/-- What the body is called with at point `t`,. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d))
    ∗ (∃ d, owns (c : Thread nD τ) (ms0_23 t) fullShare ((dat0 V c).before 23 t d))
    ∗ (∃ d, owns (c : Thread nD τ) (ms0_24 t) fullShare ((dat0 V c).before 24 t d))
    ∗ (∃ d, owns (c : Thread nD τ) (ms0_25 t) fullShare ((dat0 V c).before 25 t d))
    ∗ (∃ d, owns (c : Thread nD τ) (ms0_26 t) fullShare ((dat0 V c).before 26 t d))
    ∗ (∃ d, owns (c : Thread nD τ) (ms0_27 t) fullShare ((dat0 V c).before 27 t d))
    ∗ (∃ d, owns (c : Thread nD τ) (ms0_28 t) fullShare ((dat0 V c).before 28 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t)
    ∗ owns (c : Thread nD τ) (ms0_19 t) fullShare ((dat0 V c).after 19 t)
    ∗ owns (c : Thread nD τ) (ms0_20 t) fullShare ((dat0 V c).after 20 t)
    ∗ owns (c : Thread nD τ) (ms0_21 t) fullShare ((dat0 V c).after 21 t)
    ∗ owns (c : Thread nD τ) (ms0_22 t) fullShare ((dat0 V c).after 22 t)
    ∗ owns (c : Thread nD τ) (ms0_23 t) fullShare ((dat0 V c).after 23 t)
    ∗ owns (c : Thread nD τ) (ms0_24 t) fullShare ((dat0 V c).after 24 t)
    ∗ owns (c : Thread nD τ) (ms0_25 t) fullShare ((dat0 V c).after 25 t)
    ∗ owns (c : Thread nD τ) (ms0_26 t) fullShare ((dat0 V c).after 26 t)
    ∗ owns (c : Thread nD τ) (ms0_27 t) fullShare ((dat0 V c).after 27 t)
    ∗ owns (c : Thread nD τ) (ms0_28 t) fullShare ((dat0 V c).after 28 t))

set_option maxHeartbeats 40000000 in
/-- The body at any point: the inputs' memrefs hold their blocks (`before0_W`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  have hN : t.val < 4 := lt_of_lt_of_eq t.isLt (show cfg0.N = 4 from N_0)
  by_cases h0 : t.val % 4 = 0
  · rw [outsAt0_A V c t h0]
    unfold out0_A_24 out0_A_25 out0_A_26 out0_A_27 out0_A_28; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]
    · unfold owns; iexists _; isplitr
      swap; · iexact H24
      ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H25]
    · unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H26]
    · unfold owns; iexists _; isplitr
      swap; · iexact H26
      ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H27]
    · unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B V c t h0]
    simp only [before0_24_B V c t h0, before0_25_B V c t h0]
    unfold out0_B_24 out0_B_25 out0_B_26 out0_B_27 out0_B_28; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]
    · unfold owns; iexists _; isplitr
      swap; · iexact H24
      ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H25]
    · unfold owns; iexists _; isplitr
      swap; · iexact H25
      ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H26]
    · unfold owns; iexists _; isplitr
      swap; · iexact H26
      ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H27]
    · unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H28
    ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KRun

end
-- ==== Proof.Frame.Region1.lean ====
/- The second call: what its output holds point by point, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's `scf.if` 0 (`k1_h1`), from the grid coordinates (the skeleton's scalar chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, e0]
    word_cmp
   : ∀ t : Fin grid1.N, cond1_0 (grid1.coords t) ↔ t.val % 8 = 0)

/-- The condition of the body's `scf.if` 1 (`k1_h2`), from the grid coordinates (the skeleton's scalar chain substituted). -/
abbrev cond1_1 (i : grid1.Coords) : Prop := (Scalar.cmpi .ne (Scalar.extui (Scalar.cmpi .eq (BitVec.ofNat 32 (i 0).val) 7#32)) 0#32) = 1#1
/-- It holds at the last point only — by arithmetic of the point. -/
theorem hcond1_1 : ∀ t : Fin cfg1.N, cond1_1 (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [cond1_1, e0]
    word_cmp
   : ∀ t : Fin grid1.N, cond1_1 (grid1.coords t) ↔ t.val % 8 = 7)

/-- One staging buffer of output window 2, through which its contents are stated (`View.read_writes_of_cover`: the choice does not matter). -/
abbrev VO1_2 : View sig .tc .vmem S1x1 .f32 := (Memref.whole cc1_stg2_0 : Memref sig .tc .vmem S1x1 .f32).view
/-- Each window's current staging memref at point `t`, spelled as the pipeline passes it (`bodyAt1`), and its wholeness. -/
abbrev ms1_0 (t : Fin cfg1.N) : Memref sig .tc .vmem S512x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

set_option maxHeartbeats 40000000 in
/-- What the body's stores leave in each output's staging memref, as pieces (last first) IN CASE A (`scf.if` 0 taken, `scf.if` 1 not taken: points 0), WITH the proof that on whole staging memrefs. -/
noncomputable def kernelRun1_A (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : cond1_0 i) (hc1 : ¬cond1_1 i)
    (x0 : Vec F S512x1 .i32) (x1 : Vec F S1x4096 .i32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniq_body i arg1 harg1 arg2 harg2 arg3 harg3) K } := by
  refine ⟨?_, fun E K => ?run⟩
  case run =>
    simp only [cc1__uniq_body_eq_skeleton]; unfold cc1__uniq_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case A's stores into output 2 cover its block. -/
theorem cover1_A_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : cond1_0 i) (hc1 : ¬cond1_1 i)
    (x0 : Vec F S512x1 .i32) (x1 : Vec F S1x4096 .i32) (y : S1x1.Idx) :
    ∃ pc ∈ (kernelRun1_A c i arg1 harg1 arg2 harg2 arg3 harg3 hc0 hc1 x0 x1).1, y ∈ pc.1.set :=
  View.cover_of_tiledL (kernelRun1_A c i arg1 harg1 arg2 harg2 arg3 harg3 hc0 hc1 x0 x1).1 S1x1.size (by sl_kernel_rfl) y

/-- What case A leaves in output 2's staging buffer: its pieces read back over junk. -/
def out1_A_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : cond1_0 i) (hc1 : ¬cond1_1 i)
    (x0 : Vec F S512x1 .i32) (x1 : Vec F S1x4096 .i32) : Vec F S1x1 .f32 :=
  VO1_2.read (Elt F) (VO1_2.writes (Elt F) VO1_2.junk (kernelRun1_A c i arg1 harg1 arg2 harg2 arg3 harg3 hc0 hc1 x0 x1).1)

set_option maxHeartbeats 40000000 in
/-- What the body's stores leave in each output's staging memref, as pieces (last first) IN CASE B (`scf.if` 0 not taken, `scf.if` 1 not taken: points 1, 2, 3, 4, 5, 6), WITH the proof that on whole staging memrefs. -/
noncomputable def kernelRun1_B (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : ¬cond1_1 i)
    (x0 : Vec F S512x1 .i32) (x1 : Vec F S1x4096 .i32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniq_body i arg1 harg1 arg2 harg2 arg3 harg3) K } := by
  refine ⟨?_, fun E K => ?run⟩
  case run =>
    simp only [cc1__uniq_body_eq_skeleton]; unfold cc1__uniq_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case B's stores into output 2 cover its block. -/
theorem cover1_B_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : ¬cond1_1 i)
    (x0 : Vec F S512x1 .i32) (x1 : Vec F S1x4096 .i32) (xo2 : Vec F S1x1 .f32) (y : S1x1.Idx) :
    ∃ pc ∈ (kernelRun1_B c i arg1 harg1 arg2 harg2 arg3 harg3 hc0 hc1 x0 x1 xo2).1, y ∈ pc.1.set :=
  View.cover_of_tiledL (kernelRun1_B c i arg1 harg1 arg2 harg2 arg3 harg3 hc0 hc1 x0 x1 xo2).1 S1x1.size (by sl_kernel_rfl) y

/-- What case B leaves in output 2's staging buffer: its pieces read back over junk. -/
def out1_B_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : ¬cond1_1 i)
    (x0 : Vec F S512x1 .i32) (x1 : Vec F S1x4096 .i32) (xo2 : Vec F S1x1 .f32) : Vec F S1x1 .f32 :=
  VO1_2.read (Elt F) (VO1_2.writes (Elt F) VO1_2.junk (kernelRun1_B c i arg1 harg1 arg2 harg2 arg3 harg3 hc0 hc1 x0 x1 xo2).1)

set_option maxHeartbeats 40000000 in
/-- What the body's stores leave in each output's staging memref, as pieces (last first) IN CASE C (`scf.if` 0 not taken, `scf.if` 1 taken: points 7), WITH the proof that on whole staging memrefs. -/
noncomputable def kernelRun1_C (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : cond1_1 i)
    (x0 : Vec F S512x1 .i32) (x1 : Vec F S1x4096 .i32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__uniq_body i arg1 harg1 arg2 harg2 arg3 harg3) K } := by
  refine ⟨?_, fun E K => ?run⟩
  case run =>
    simp only [cc1__uniq_body_eq_skeleton]; unfold cc1__uniq_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case C's stores into output 2 cover its block. -/
theorem cover1_C_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : cond1_1 i)
    (x0 : Vec F S512x1 .i32) (x1 : Vec F S1x4096 .i32) (xo2 : Vec F S1x1 .f32) (y : S1x1.Idx) :
    ∃ pc ∈ (kernelRun1_C c i arg1 harg1 arg2 harg2 arg3 harg3 hc0 hc1 x0 x1 xo2).1, y ∈ pc.1.set :=
  View.cover_of_tiledL (kernelRun1_C c i arg1 harg1 arg2 harg2 arg3 harg3 hc0 hc1 x0 x1 xo2).1 S1x1.size (by sl_kernel_rfl) y

/-- What case C leaves in output 2's staging buffer: its pieces read back over junk. -/
def out1_C_2 (c : Dev nD) (i : grid1.Coords) (arg1 : Memref sig .tc .vmem S512x1 .i32) (harg1 : arg1.IsWhole) (arg2 : Memref sig .tc .vmem S1x4096 .i32) (harg2 : arg2.IsWhole) (arg3 : Memref sig .tc .vmem S1x1 .f32) (harg3 : arg3.IsWhole) (hc0 : ¬cond1_0 i) (hc1 : cond1_1 i)
    (x0 : Vec F S512x1 .i32) (x1 : Vec F S1x4096 .i32) (xo2 : Vec F S1x1 .f32) : Vec F S1x1 .f32 :=
  VO1_2.read (Elt F) (VO1_2.writes (Elt F) VO1_2.junk (kernelRun1_C c i arg1 harg1 arg2 harg2 arg3 harg3 hc0 hc1 x0 x1 xo2).1)

/-- THE ACCUMULATION. What the outputs' staging buffers hold after the body at position `n`. -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 8 = 0 then
      if h1 : (n + 1) % 8 = 7 then
        False.elim (by have hN : n + 1 < 8 := lt_of_lt_of_eq hn (show cfg1.N = 8 from N_1); omega)
      else
        out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 8 = 7 then
        out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn))
      else
        out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 8 = 0) (h1 : ¬t.val % 8 = 7) :
    outsAt1 V c t.val t.isLt = out1_A_2 c (grid1.coords t) (ms1_0 t) (hs1_0 t) (ms1_1 t) (hs1_1 t) (ms1_2 t) (hs1_2 t) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = out1_B_2 c (grid1.coords t) (ms1_0 t) (hs1_0 t) (ms1_1 t) (hs1_1 t) (ms1_2 t) (hs1_2 t) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = out1_C_2 c (grid1.coords t) (ms1_0 t) (hs1_0 t) (ms1_1 t) (hs1_1 t) (ms1_2 t) (hs1_2 t) (fun h => h0 ((hcond1_0 t).mp h)) ((hcond1_1 t).mpr h1) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of pipeline 1 on core `c`: the arrays as the region finds them (`V`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents, by projecting the definition (`dsimp`): a region record cites this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body leaves in window 1 of call 1. -/
theorem after1_1 (c : Dev nD) (t : Fin cfg1.N) : (dat1 V c).after 1 t = iblk1 V c 1 t := by dsimp only [dat1]
/-- What the body leaves in window 2 of call 1. -/
theorem after1_2 (c : Dev nD) (t : Fin cfg1.N) : (dat1 V c).after 2 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- The staging buffer of input 1 of call 1 holds its block at every point. -/
theorem before1_1 (c : Dev nD) (t : Fin cfg1.N) (d) : (dat1 V c).before 1 t d = iblk1 V c 1 t :=
  before1_1_of V (dat1 V c) (A_eq1 V c 1) (after1_1 V c) t d
/-- At a point of case B output 2's current staging buffer holds what the body left at the point before: the point is not the first, the buffer was not written back between (`flush1_2`), the window is live and uncut. -/
theorem before1_2_B (c : Dev nD) (t : Fin cfg1.N) (h0 : ¬t.val % 8 = 0) (h1 : ¬t.val % 8 = 7) (d) :
    (dat1 V c).before 2 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [dat1]
/-- At a point of case C output 2's current staging buffer holds what the body left at the point before: the point is not the first, the buffer was not written back between (`flush1_2`), the window is live and uncut. -/
theorem before1_2_C (c : Dev nD) (t : Fin cfg1.N) (h0 : ¬t.val % 8 = 0) (h1 : t.val % 8 = 7) (d) :
    (dat1 V c).before 2 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`,. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 40000000 in
/-- The body at any point: the inputs' memrefs hold their blocks (`before1_W`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 8 := lt_of_lt_of_eq t.isLt (show cfg1.N = 8 from N_1)
  by_cases h0 : t.val % 8 = 0
  · by_cases h1 : t.val % 8 = 7
    · exfalso; omega
    · rw [outsAt1_A V c t h0 h1]
      unfold out1_A_2
      iintro ⟨HΦ, Ho, ⟨%d0, H0⟩, ⟨%d1, H1⟩, ⟨%d2, H2⟩⟩
      iapply ((kernelRun1_A c (grid1.coords t) _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _)
  · by_cases h1 : t.val % 8 = 7
    · rw [outsAt1_C V c t h0 h1]
      simp only [before1_2_C V c t h0 h1]
      unfold out1_C_2
      iintro ⟨HΦ, Ho, ⟨%d0, H0⟩, ⟨%d1, H1⟩, ⟨%d2, H2⟩⟩
      iapply ((kernelRun1_C c (grid1.coords t) _ _ _ _ _ _ (fun h => h0 ((hcond1_0 t).mp h)) ((hcond1_1 t).mpr h1) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _)
    · rw [outsAt1_B V c t h0 h1]
      simp only [before1_2_B V c t h0 h1]
      unfold out1_B_2
      iintro ⟨HΦ, Ho, ⟨%d0, H0⟩, ⟨%d1, H1⟩, ⟨%d2, H2⟩⟩
      iapply ((kernelRun1_B c (grid1.coords t) _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KRun

end
-- ==== Proof.Frame.Hosts.lean ====
/- The host stretches: what each writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22]
/-- The operations before the first call write the buffers of the list only. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v25, main_cst, main_v26, main_v27, main_cst_0, main_v28, main_v29, main_v30]
/-- The operations after the second call write the buffers of the list only. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

end Cert.KRun

end
-- ==== Proof.Frame.Fold.lean ====
/- The buffers' contents at each boundary of the program. -/
module

public import proofs.«01_k».proof.Proof.Frame.Region0
public import proofs.«01_k».proof.Proof.Frame.Region1
public import proofs.«01_k».proof.Proof.Frame.Hosts

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The arguments are untouched at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are untouched before the first call. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs folded: `Dat.arrAt … N`), every other buffer as entered (region 1's entry). -/
def W2 (c : Dev nD) : Valuation τ sig (Elt F) :=
  Pipeline.withArrays spec0 c (W1 m ρ c) fun w => (dat0 (V1 m ρ) c).arrAt w cfg0.N
/-- After the first call its arrays hold what the call leaves in them. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves every buffer alone that is none of its arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
/-- The arguments are untouched after the first call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first call leaves the remaining buffers as they were. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs folded: `Dat.arrAt … N`), every other buffer as entered. -/
def W3 (c : Dev nD) : Valuation τ sig (Elt F) :=
  Pipeline.withArrays spec1 c (W2 m ρ c) fun w => (dat1 (V2 m ρ) c).arrAt w cfg1.N
/-- After the second call its arrays hold what the call leaves in them. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves every buffer alone that is none of its arrays. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
/-- The arguments are untouched after the second call. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The second call leaves the remaining buffers as they were. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments are untouched at the end. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

end Cert.KRun

end
-- ==== Proof.Frame.State.lean ====
/- The proof data of the two calls and the state between segments. -/
module

public import proofs.«01_k».proof.Proof.Frame.Fold

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along (its `post` is then those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KRun

end
-- ==== Proof.Frame.Record0.lean ====
/- Call 0 as a segment of the program. -/
module

public import proofs.«01_k».proof.Proof.Frame.State

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 0 (custom_call 0) over the thread state: entered from every unscoped buffer at `W1`, left at `W2` (what the next segment is entered from). Its arrays split out of the unscoped buffers (`arrays_of_unscopedBufs`) and put …. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KRun

end
-- ==== Proof.Frame.Record1.lean ====
/- Call 1 as a segment of the program. -/
module

public import proofs.«01_k».proof.Proof.Frame.State

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 1 (custom_call 1) over the thread state: entered from every unscoped buffer at `W2`, left at `W3` (what the next segment is entered from). Its arrays split out of the unscoped buffers (`arrays_of_unscopedBufs`) and put …. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KRun

end
-- ==== Proof.Frame.Run.lean ====
/- The whole program's run. -/
module

public import proofs.«01_k».proof.Proof.Frame.Record0
public import proofs.«01_k».proof.Proof.Frame.Record1

@[expose] public section

set_option maxRecDepth 16384

noncomputable section

namespace Cert.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: every unscoped buffer ends at the last boundary's contents, and every counter at zero. -/
theorem run : θ_run defs (onTc (τ := τ) (main (F := F))) ⟨m, fun _ => 0, ρ⟩ (fun r => (∀ c : Dev nD,
      ∀ b : Ref sig .tc, ¬ (Proc.devRef .tc b : DevRef τ sig).isScoped → r.2.mem ((c.tc : Thread nD τ).loc b) = W4 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b hb), funext fun g => hz g (.inr (no_unscoped g.2))⟩)

end Cert.KRun

end
-- ==== Proof.Quiet.lean ====
module

public import proofs.«01_k».proof.Proof.Frame.Run

/-!
The kernel program leaves its arguments alone and every counter at zero, whatever the float type.
-/

set_option maxRecDepth 16384

@[expose] public section

noncomputable section

namespace Cert.KRun

open Cert.KernelIdeal Cert.KernelIdeal.Gen Idealize.ShloMosaic Idealize.ShloMosaic.TcCoe Idealize.SL.Sem

variable {F : FTy → Type} [FloatOps F] [Named F]

/-- No argument is a scoped buffer. -/
theorem args_unscoped : ∀ a ∈ argRefs, ¬ (Proc.devRef .tc a : DevRef τ sig).isScoped := by decide

/-- What a state that keeps the arguments says. -/
def Kept (m : (ℓ : Loc nD τ sig) → Buf (Elt F) ℓ) (s : (ℓ : Loc nD τ sig) → Buf (Elt F) ℓ) (c : Dev nD) : Prop :=
  ∀ a ∈ argRefs, s ((c.tc : Thread nD τ).loc a) = m ((c.tc : Thread nD τ).loc a)

/-- The arguments end unchanged and every counter at zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD, Kept m r.2.mem c) ∧ r.2.sem = fun _ => 0) :=
  (θ_run defs _ _).mono (fun r h => ⟨fun c a ha => (h.1 c a (args_unscoped a ha)).trans (W4_args m ρ c a ha), h.2⟩) (run m ρ)

end Cert.KRun
-- ==== Proof.QuietBits.lean ====
module

public import proofs.«01_k».proof.Proof.Quiet
public import proofs.«01_k».proof.Proof.Gen.Kernel
public import Idealize.ShloMosaic.PureOps.BitExact
public import Idealize.ShloMosaic.Lib.Exec

/-!
The kernel program on bit patterns: the same program, each named constant read as its pattern.
-/

set_option maxRecDepth 16384

@[expose] public section

noncomputable section

namespace Cert.KRun

open Idealize.ShloMosaic Idealize.SL.Sem

/-- A named constant read as the pattern the program prints. -/
@[reducible] def bitsNamed : Named Bits where
  named _ _ {φ} bits := Scalar.ofBits φ bits

/-- The printed program's arguments. -/
abbrev bitsArgs : List (Ref Cert.Kernel.sig .tc) :=
  open Cert.Kernel in [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- The printed program is the named one with its names read as patterns, so both say the same of their arguments and counters. -/
theorem kernel_runs : (∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩ fun r =>
        (∀ c : Dev Cert.Kernel.nD, ∀ a ∈ bitsArgs, r.2.mem ((c.tc : Thread Cert.Kernel.nD Cert.Kernel.τ).loc a) = m ((c.tc : Thread Cert.Kernel.nD Cert.Kernel.τ).loc a))
          ∧ r.2.sem = fun _ => 0)
    = (letI := bitsNamed
      ∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ fun r =>
        (∀ c : Dev Cert.KernelIdeal.nD, Kept m r.2.mem c) ∧ r.2.sem = fun _ => 0) := by
  sl_kernel_rfl

/-- The printed program leaves its arguments alone and every counter at zero. -/
theorem quiet_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ fun r =>
      (∀ c : Dev Cert.Kernel.nD, ∀ a ∈ bitsArgs, r.2.mem ((c.tc : Thread Cert.Kernel.nD Cert.Kernel.τ).loc a) = m ((c.tc : Thread Cert.Kernel.nD Cert.Kernel.τ).loc a))
        ∧ r.2.sem = fun _ => 0 :=
  (cast kernel_runs.symm (letI := bitsNamed; fun m g => quiet (F := Bits) m g)) m g

end Cert.KRun
-- ==== Proof.Frame.Blocks.lean ====
module

public import proofs.«01_k».proof.Proof.Frame.Region0
public import Idealize.ShloMosaic.Lib.Pipeline.Value

/-!
What the first call's body computes from the blocks it reads, value by value, and that its outputs' blocks hold these
values.
-/

@[expose] public section

set_option maxRecDepth 16384

noncomputable section

namespace Cert.KRun

open Cert.KernelIdeal Cert.KernelIdeal.Gen Idealize.ShloMosaic Idealize.ShloMosaic.TcCoe Idealize.ShloMosaic.Tactic

variable {F : FTy → Type} [FloatOps F] [Named F]

variable (F) in
/-- The blocks one run of the first call's body reads. -/
structure Blocks where
  /-- the temperature -/
  x0 : Vec F S1x1 .f32
  /-- the rows -/
  x1 : Vec F S1024x786 .f32
  /-- the encoder -/
  x2 : Vec F S1024x786 .bf16
  x3 : Vec F S1x1024 .f32
  x4 : Vec F S512x1024 .bf16
  x5 : Vec F S1x512 .f32
  x6 : Vec F S256x512 .bf16
  x7 : Vec F S1x256 .f32
  x8 : Vec F S128x256 .bf16
  x9 : Vec F S1x128 .f32
  /-- the decoder -/
  x10 : Vec F S256x128 .bf16
  x11 : Vec F S1x256 .f32
  x12 : Vec F S512x256 .bf16
  x13 : Vec F S1x512 .f32
  x14 : Vec F S1024x512 .bf16
  x15 : Vec F S1x1024 .f32
  x16 : Vec F S786x1024 .bf16
  x17 : Vec F S1x786 .f32
  /-- the codebooks, each transposed and as it is -/
  x18 : Vec F S128x1024 .f32
  x19 : Vec F S1024x128 .bf16
  x20 : Vec F S128x1024 .f32
  x21 : Vec F S1024x128 .bf16
  x22 : Vec F S128x1024 .f32
  x23 : Vec F S1024x128 .bf16

namespace Blocks

variable (b : Blocks F)

/-- The encoder's third pre-activation. -/
def v36 : FVec F S1024x256 .f32 := k0_pay3 b.x1 b.x2 b.x3 b.x4 b.x5 b.x6 b.x7
/-- The encoder's output. -/
def v50 : FVec F S1024x128 .f32 := k0_pay4 b.v36 (FloatOps.ofBits .f32 0x3F000000#32) b.x8 b.x9
/-- The factor of the codebooks. -/
def v54 : FVec F S1x1 .f32 := k0_pay6 b.x0
/-- The factor of the codebooks' squared norms. -/
def v58 : FVec F S1x1 .f32 := k0_pay7 b.x0
/-- The first level's products. -/
def v76 : FVec F S1024x1024 .f32 := k0_pay13 b.v36 (FloatOps.ofBits .f32 0x3F000000#32) b.x8 b.x9 b.x0 b.x18
/-- The first level's scaled squared norms. -/
def v77 : FVec F S1024x1024 .f32 := k0_pay14 b.x0 b.x18
/-- The first level's share of the key. -/
def v106 : IVec S1024x1 32 := k0_pay17 k0_pay10 k0_pay11 b.v76 b.v77
/-- The first level's loss. -/
def v113 : FVec F S1024x1 .f32 := k0_pay18 b.v50 k0_pay9 b.v76 b.v77 b.x19
/-- The first level's embedding norm. -/
def v117 : FVec F S1024x1 .f32 := k0_pay19 b.v76 b.v77 b.x19
/-- The residual after the first level. -/
def v118 : FVec F S1024x128 .f32 := k0_pay20 b.v50 b.v76 b.v77 b.x19
/-- The quantised rows after the first level. -/
def v119 : FVec F S1024x128 .f32 := k0_pay21 k0_pay8 b.v76 b.v77 b.x19
/-- The second level's embedding. -/
def v148 : FVec F S1024x128 .f32 := k0_pay23 b.v54 b.v58 b.v118 b.x20 b.x21
/-- The key after the second level. -/
def v161 : IVec S1024x1 32 := k0_pay24 b.v54 b.v58 k0_pay11 b.v106 b.v118 b.x20
/-- The second level's squared error. -/
def v165 : FVec F S1024x1 .f32 := k0_pay25 b.v54 b.v58 b.v118 b.x20 b.x21
/-- The loss after the second level. -/
def v168 : FVec F S1024x1 .f32 := k0_pay26 b.v113 b.v165
/-- The second level's embedding norm. -/
def v172 : FVec F S1024x1 .f32 := k0_pay27 b.v148
/-- The residual after the second level. -/
def v173 : FVec F S1024x128 .f32 := k0_pay28 b.v118 b.v148
/-- The quantised rows after the second level. -/
def v174 : FVec F S1024x128 .f32 := k0_pay29 b.v119 b.v148
/-- The third level's embedding. -/
def v203 : FVec F S1024x128 .f32 := k0_pay31 b.v54 b.v58 b.v118 b.v148 b.x22 b.x23
/-- The third level's candidate words. -/
def v209 : IVec S1024x1024 32 := k0_pay32 b.v54 b.v58 k0_pay11 b.v118 b.v148 b.x22
/-- The key. -/
def v216 : IVec S1024x1 32 := k0_pay33 b.v161 b.v209
/-- The quantisation loss. -/
def v223 : FVec F S1024x1 .f32 := k0_pay34 b.v168 b.v173 b.v203
/-- The third level's embedding norm. -/
def v227 : FVec F S1024x1 .f32 := k0_pay35 b.v203
/-- The decoder's second pre-activation. -/
def v250 : FVec F S1024x512 .f32 := k0_pay36 b.v174 b.v203 b.x10 b.x11 b.x12 b.x13
/-- The decoder's normalised output. -/
def v288 : FVec F S1024x786 .f32 := k0_pay38 b.v250 k0_pay37 b.x14 b.x15 b.x16 b.x17
/-- Its first columns. -/
def v289 : FVec F S1024x768 .f32 := k0_pay39 b.v250 k0_pay37 b.x14 b.x15 b.x16 b.x17
/-- Their norm. -/
def v293 : FVec F S1024x1 .f32 := k0_pay40 b.v250 k0_pay37 b.x14 b.x15 b.x16 b.x17
/-- The running reconstruction loss after this block. -/
def rsum (old : FVec F S1x1 .f32) : FVec F S1x1 .f32 :=
  k0_pay43 b.x1 b.v288 b.v289 b.v293 (FloatOps.ofBits .f32 0x2B8CBCCC#32) old
/-- The running quantisation loss after this block. -/
def qsum (old : FVec F S1x1 .f32) : FVec F S1x1 .f32 := k0_pay44 b.v223 old
/-- The embedding norms. -/
def norms : FVec F S1024x3 .f32 := k0_pay1 b.v117 b.v172 b.v227
/-- The key as a row. -/
def keyT : IVec S1x1024 32 := k0_pay2 b.v216

end Blocks

variable (V : (c : Dev nD) → (b : Ref sig .tc) → Buf (Elt F) ((c : Thread nD τ).loc b))

/-- The blocks the body reads at a point. -/
def blocksAt (c : Dev nD) (t : Fin cfg0.N) : Blocks F :=
  ⟨iblk0 V c 0 t, iblk0 V c 1 t, iblk0 V c 2 t, iblk0 V c 3 t, iblk0 V c 4 t, iblk0 V c 5 t, iblk0 V c 6 t, iblk0 V c 7 t,
    iblk0 V c 8 t, iblk0 V c 9 t, iblk0 V c 10 t, iblk0 V c 11 t, iblk0 V c 12 t, iblk0 V c 13 t, iblk0 V c 14 t, iblk0 V c 15 t,
    iblk0 V c 16 t, iblk0 V c 17 t, iblk0 V c 18 t, iblk0 V c 19 t, iblk0 V c 20 t, iblk0 V c 21 t, iblk0 V c 22 t, iblk0 V c 23 t⟩

/-- The two written-out zero offsets are the constant zero offset. -/
theorem hz2 : (![0, 0] : Fin 2 → Nat) = fun _ => 0 := by decide

/-- A whole buffer loaded at once. -/
theorem load_whole {n k : ℕ} {e : EltTy} {M : Memref sig .tc .vmem ⟨2, ![n, k]⟩ e} (h : M.IsWhole) (inb) (x : Vec F ⟨2, ![n, k]⟩ e) :
    View.readAt (Elt F) M.view (Rect.unit (s := ⟨2, ![n, k]⟩) ![0, 0] ![n, k] inb).toLoadRect (h.unread x) = x := by
  rw [View.readAt_eq_ld, h.read_unread]
  exact View.ld_unit_zero (S := ⟨2, ![n, k]⟩) hz2 inb x

end Cert.KRun
-- ==== Proof.Level.lean ====
module

public import Mathlib.Analysis.SpecialFunctions.Pow.Real
public import Mathlib.Algebra.BigOperators.Field

/-!
One quantisation level on real numbers: squared distances to the codebook, softmax weights, the weighted mean of the
codebook and the first nearest entry; and the two ways the programs compute them.
-/

@[expose] public section

noncomputable section

namespace Cert.Rq

variable {K D : ℕ}

/-- Squared distance of `ρ` to codebook entry `j`, written out as both programs do. -/
def dist (ρ : Fin D → ℝ) (γ : Fin K → Fin D → ℝ) (j : Fin K) : ℝ :=
  (∑ i, ρ i * ρ i) - 2 * (∑ i, ρ i * γ j i) + ∑ i, γ j i * γ j i

/-- Unnormalised softmax weight of entry `j` at temperature `τ`. -/
def wt (τ : ℝ) (γ : Fin K → Fin D → ℝ) (ρ : Fin D → ℝ) (j : Fin K) : ℝ := Real.exp (-(dist ρ γ j) / τ)

/-- The softmax-weighted mean of the codebook. -/
def emb (τ : ℝ) (γ : Fin K → Fin D → ℝ) (ρ : Fin D → ℝ) (i : Fin D) : ℝ :=
  (∑ j, wt τ γ ρ j * γ j i) / ∑ j, wt τ γ ρ j

/-- `k` is the first place where `d` is least. -/
def IsFirst (d : Fin K → ℝ) (k : Fin K) : Prop := (∀ j, d k ≤ d j) ∧ ∀ j, j < k → d k < d j

/-- The first place where `d` is least is unique. -/
theorem IsFirst.unique {d : Fin K → ℝ} {k l : Fin K} (hk : IsFirst d k) (hl : IsFirst d l) : k = l := by
  rcases lt_trichotomy k l with h | h | h
  · exact absurd (hl.2 k h) (not_lt.mpr (hk.1 l))
  · exact h
  · exact absurd (hk.2 l h) (not_lt.mpr (hl.1 k))

/-- There is a first place where `d` is least. -/
theorem exists_isFirst [NeZero K] (d : Fin K → ℝ) : ∃ k, IsFirst d k := by
  classical
  obtain ⟨m, -, hm⟩ := Finset.exists_min_image Finset.univ d ⟨(0 : Fin K), Finset.mem_univ _⟩
  have hne : (Finset.univ.filter fun k => ∀ j, d k ≤ d j).Nonempty :=
    ⟨m, Finset.mem_filter.mpr ⟨Finset.mem_univ _, fun j => hm j (Finset.mem_univ _)⟩⟩
  refine ⟨_, (Finset.mem_filter.mp (Finset.min'_mem _ hne)).2, fun j hj => ?_⟩
  by_contra hc
  have hj' : j ∈ Finset.univ.filter fun k => ∀ j, d k ≤ d j :=
    Finset.mem_filter.mpr ⟨Finset.mem_univ _, fun i =>
      (not_lt.mp hc).trans ((Finset.mem_filter.mp (Finset.min'_mem _ hne)).2 i)⟩
  exact absurd (Finset.min'_le _ _ hj') (not_le.mpr hj)

/-- The first place where `d` is least. -/
def first [NeZero K] (d : Fin K → ℝ) : Fin K := (exists_isFirst d).choose

/-- Its defining property. -/
theorem first_spec [NeZero K] (d : Fin K → ℝ) : IsFirst d (first d) := (exists_isFirst d).choose_spec

/-- The kernel's score at entry `j`, with `c` for `log2 e`: a decreasing affine function of the distance. -/
theorem score_eq (c τ : ℝ) (hc : c ≠ 0) (hτ : τ ≠ 0) (ρ : Fin D → ℝ) (γ : Fin K → Fin D → ℝ) (j : Fin K) :
    (-τ / (4 * c)) * (∑ i, ((2 * c / τ) * γ j i) * ((2 * c / τ) * γ j i)) + ∑ i, ρ i * ((2 * c / τ) * γ j i)
      = (c / τ) * (∑ i, ρ i * ρ i) - (c / τ) * dist ρ γ j := by
  have h1 : ∀ i, ((2 * c / τ) * γ j i) * ((2 * c / τ) * γ j i) = (2 * c / τ) * (2 * c / τ) * (γ j i * γ j i) :=
    fun i => by ring
  have h2 : ∀ i, ρ i * ((2 * c / τ) * γ j i) = (2 * c / τ) * (ρ i * γ j i) := fun i => by ring
  simp only [h1, h2, ← Finset.mul_sum, dist]
  field_simp
  ring

/-- Softmax weights do not see a common shift of the scores. -/
theorem mean_shift (w : Fin K → ℝ) (g : Fin K → ℝ) (s : ℝ) (hs : s ≠ 0) :
    (∑ j, (s * w j) * g j) / (∑ j, s * w j) = (∑ j, w j * g j) / ∑ j, w j := by
  simp only [mul_assoc, ← Finset.mul_sum]
  exact mul_div_mul_left _ _ hs

/-- A positive weight sum. -/
theorem wt_sum_pos [NeZero K] (τ : ℝ) (γ : Fin K → Fin D → ℝ) (ρ : Fin D → ℝ) : 0 < ∑ j, wt τ γ ρ j :=
  Finset.sum_pos (fun _ _ => Real.exp_pos _) ⟨(0 : Fin K), Finset.mem_univ _⟩

/-- The kernel's weighted mean: scores shifted by any `M`, powers of two, then a division by the weight sum. -/
theorem kernel_emb (τ M : ℝ) (hτ : τ ≠ 0) (ρ : Fin D → ℝ) (γ : Fin K → Fin D → ℝ) (u : Fin K → ℝ)
    (hu : ∀ j, u j = ((Real.log 2)⁻¹ / τ) * (∑ i, ρ i * ρ i) - ((Real.log 2)⁻¹ / τ) * dist ρ γ j - M) (i : Fin D) :
    (∑ j, (2 : ℝ) ^ (u j) * γ j i) * (1 / ∑ j, (2 : ℝ) ^ (u j)) = emb τ γ ρ i := by
  have hl : Real.log 2 ≠ 0 := ne_of_gt (Real.log_pos (by norm_num))
  have h : ∀ j, (2 : ℝ) ^ (u j) = Real.exp ((∑ i, ρ i * ρ i) / τ - Real.log 2 * M) * wt τ γ ρ j := fun j => by
    rw [Real.rpow_def_of_pos (by norm_num), wt, ← Real.exp_add, hu]
    congr 1
    field_simp
    ring
  simp only [h]
  rw [mul_one_div, mean_shift _ _ _ (Real.exp_pos _).ne', emb]

/-- The reference's weighted mean: scores shifted by any `M`, exponentials, each divided by their sum. -/
theorem ref_emb (τ M : ℝ) (ρ : Fin D → ℝ) (γ : Fin K → Fin D → ℝ) (i : Fin D) :
    (∑ j, (Real.exp (-(dist ρ γ j) / τ - M) / ∑ k, Real.exp (-(dist ρ γ k) / τ - M)) * γ j i) = emb τ γ ρ i := by
  have h : ∀ j, Real.exp (-(dist ρ γ j) / τ - M) = Real.exp (-M) * wt τ γ ρ j := fun j => by
    rw [wt, ← Real.exp_add]; congr 1; ring
  simp only [h, div_mul_eq_mul_div, ← Finset.sum_div]
  rw [mean_shift _ _ _ (Real.exp_pos _).ne', emb]

/-- Where the kernel's shifted score is not negative, the distance is least. -/
theorem score_top {d s : Fin K → ℝ} {b c M : ℝ} (hc : 0 < c) (hs : ∀ j, s j = b - c * d j) (hM : ∀ j, s j ≤ M)
    (hmem : ∃ j, M = s j) (k : Fin K) : ¬ (s k - M < 0) ↔ ∀ j, d k ≤ d j := by
  obtain ⟨m, hm⟩ := hmem
  constructor
  · intro h j
    have h1 := hM j
    have h2 := hs j
    have h3 := hs k
    have h4 : s j ≤ s k := by linarith
    rw [h2, h3] at h4
    exact le_of_mul_le_mul_left (by linarith) hc
  · intro h
    have h1 := mul_le_mul_of_nonneg_left (h m) hc.le
    rw [hm, hs, hs]
    linarith

end Cert.Rq
-- ==== Proof.Words.lean ====
module

public import Idealize.ShloMosaic.Lib.SortNet.Extract
public import Idealize.ShloMosaic.PureOps.Reduce
public import proofs.«01_k».proof.Proof.Level

/-!
The two ways the programs find the first least place: a fold of the lexicographic minimum over (value, index) pairs,
and a signed maximum of words that are `-1` off the least places' complement. And the three indices packed in one key.
-/

set_option maxRecDepth 16384

@[expose] public section

noncomputable section

namespace Cert.Rq

open Idealize.ShloMosaic

/-- Reversed indices, masked by `-1` where `p` holds: the signed maximum names the first place where `p` fails. -/
theorem maxsi_first (g : Fin 1024 → BitVec 32) (p : Fin 1024 → Prop)
    (h1 : ∀ j, p j → g j = 4294967295#32) (h0 : ∀ j, ¬ p j → g j = BitVec.ofNat 32 (1023 - j.val))
    (k : Fin 1024) (hk : ¬ p k) (hfirst : ∀ j, j < k → p j) :
    (Finset.univ : Finset (Fin 1024)).fold IntOp.maxsi 2147483648#32 g = BitVec.ofNat 32 (1023 - k.val) := by
  obtain ⟨-, hge, hmem⟩ := SortNet.fold_maxsi_spec g Finset.univ 2147483648#32
  have hint : ∀ n : ℕ, n < 1024 → (BitVec.ofNat 32 n).toInt = n := fun n hn => by
    rw [BitVec.toInt_eq_toNat_of_lt (by rw [BitVec.toNat_ofNat]; omega), BitVec.toNat_ofNat]; omega
  have hkle := hge k (Finset.mem_univ _)
  rw [h0 k hk, hint _ (by omega)] at hkle
  rcases hmem with h | ⟨i, -, h⟩
  · rw [h] at hkle
    have : (2147483648#32 : BitVec 32).toInt = -2147483648 := by decide
    omega
  · by_cases hp : p i
    · rw [h, h1 i hp] at hkle
      have : (4294967295#32 : BitVec 32).toInt = -1 := by decide
      omega
    · rw [h, h0 i hp]
      rw [h, h0 i hp, hint _ (by omega)] at hkle
      have : ¬ i < k := fun hlt => hp (hfirst i hlt)
      have hki : k.val ≤ i.val := not_lt.mp this
      congr 1
      omega

/-- A fold that keeps the lexicographically smaller (value, index) pair ends at the first place of the least value. -/
theorem foldl_lexmin {f : EReal × BitVec 32 → EReal × BitVec 32 → EReal × BitVec 32}
    (hf : ∀ a b, f a b = if a.1 < b.1 ∨ (a.1 = b.1 ∧ a.2.toInt < b.2.toInt) then a else b)
    (l : List (EReal × BitVec 32)) (init : EReal × BitVec 32) :
    (l.foldl f init = init ∨ l.foldl f init ∈ l) ∧
      ∀ p, (p = init ∨ p ∈ l) → (l.foldl f init).1 < p.1 ∨ ((l.foldl f init).1 = p.1 ∧ (l.foldl f init).2.toInt ≤ p.2.toInt) := by
  induction l generalizing init with
  | nil => exact ⟨Or.inl rfl, fun p hp => by rcases hp with rfl | hp; exact Or.inr ⟨rfl, le_refl _⟩; exact absurd hp List.not_mem_nil⟩
  | cons a l ih =>
    rw [List.foldl_cons]
    obtain ⟨h1, h2⟩ := ih (f init a)
    have hcase : f init a = init ∨ f init a = a := by rw [hf]; split_ifs <;> simp
    refine ⟨?_, fun p hp => ?_⟩
    · rcases h1 with h1 | h1
      · rcases hcase with h | h
        · exact Or.inl (h1.trans h)
        · exact Or.inr (by rw [h1, h]; exact List.mem_cons_self)
      · exact Or.inr (List.mem_cons_of_mem _ h1)
    · have hle : ∀ q, (q = init ∨ q = a) → (f init a).1 < q.1 ∨ ((f init a).1 = q.1 ∧ (f init a).2.toInt ≤ q.2.toInt) := by
        intro q hq
        rw [hf]
        split_ifs with hc
        · rcases hq with rfl | rfl
          · exact Or.inr ⟨rfl, le_refl _⟩
          · rcases hc with hc | hc
            · exact Or.inl hc
            · exact Or.inr ⟨hc.1, hc.2.le⟩
        · rcases hq with rfl | rfl
          · rw [not_or, not_lt] at hc
            rcases lt_or_eq_of_le hc.1 with h | h
            · exact Or.inl h
            · exact Or.inr ⟨h, not_lt.mp fun hh => hc.2 ⟨h.symm, hh⟩⟩
          · exact Or.inr ⟨rfl, le_refl _⟩
      have hself := h2 (f init a) (Or.inl rfl)
      rcases hp with rfl | hp
      · rcases hle p (Or.inl rfl) with h | h <;> rcases hself with h' | h'
        · exact Or.inl (h'.trans h)
        · exact Or.inl (by rw [h'.1]; exact h)
        · exact Or.inl (by rw [← h.1]; exact h')
        · exact Or.inr ⟨h'.1.trans h.1, h'.2.trans h.2⟩
      · rcases List.mem_cons.mp hp with rfl | hp
        · rcases hle p (Or.inr rfl) with h | h <;> rcases hself with h' | h'
          · exact Or.inl (h'.trans h)
          · exact Or.inl (by rw [h'.1]; exact h)
          · exact Or.inl (by rw [← h.1]; exact h')
          · exact Or.inr ⟨h'.1.trans h.1, h'.2.trans h.2⟩
        · exact h2 p (Or.inr hp)

/-- The first least place from such a fold over the pairs `(d j, j)`, from the pair `(⊤, 0)`. -/
theorem foldl_lexmin_first {f : EReal × BitVec 32 → EReal × BitVec 32 → EReal × BitVec 32}
    (hf : ∀ a b, f a b = if a.1 < b.1 ∨ (a.1 = b.1 ∧ a.2.toInt < b.2.toInt) then a else b)
    (d : Fin 1024 → ℝ) (l : List (EReal × BitVec 32))
    (hl : ∀ p, p ∈ l ↔ ∃ j : Fin 1024, p = ((d j : EReal), BitVec.ofNat 32 j.val)) :
    (l.foldl f (⊤, 0#32)).2 = BitVec.ofNat 32 (first d).val := by
  obtain ⟨h1, h2⟩ := foldl_lexmin hf l (⊤, 0#32)
  have hk := h2 _ (Or.inr ((hl _).mpr ⟨first d, rfl⟩))
  have hint : ∀ n : ℕ, n < 1024 → (BitVec.ofNat 32 n).toInt = n := fun n hn => by
    rw [BitVec.toInt_eq_toNat_of_lt (by rw [BitVec.toNat_ofNat]; omega), BitVec.toNat_ofNat]; omega
  rcases h1 with h | h
  · rw [h] at hk
    rcases hk with hk | hk
    · exact absurd hk (not_lt.mpr le_top)
    · exact absurd hk.1.symm (EReal.coe_ne_top _)
  · obtain ⟨m, hm⟩ := (hl _).mp h
    rw [hm]
    show BitVec.ofNat 32 m.val = _
    refine congrArg (fun k : Fin 1024 => BitVec.ofNat 32 k.val) (IsFirst.unique (d := d) ?_ (first_spec d))
    have hall : ∀ j : Fin 1024, d m < d j ∨ (d m = d j ∧ m.val ≤ j.val) := fun j => by
      have := h2 _ (Or.inr ((hl _).mpr ⟨j, rfl⟩))
      rw [hm] at this
      simp only [EReal.coe_lt_coe_iff, EReal.coe_eq_coe_iff, hint _ m.isLt, hint _ j.isLt, Nat.cast_le] at this
      exact this
    refine ⟨fun j => (hall j).elim le_of_lt fun h => h.1.le, fun j hj => (hall j).elim id fun h => ?_⟩
    exact absurd h.2 (not_le.mpr hj)

/-- Three indices below 1024 packed in one word: the word tells them. -/
theorem pack_inj {a b c a' b' c' : Fin 1024}
    (h : (((0#32 * 1024#32 + BitVec.ofNat 32 a.val) * 1024#32 + BitVec.ofNat 32 b.val) * 1024#32 + BitVec.ofNat 32 c.val : BitVec 32)
      = ((0#32 * 1024#32 + BitVec.ofNat 32 a'.val) * 1024#32 + BitVec.ofNat 32 b'.val) * 1024#32 + BitVec.ofNat 32 c'.val) :
    a = a' ∧ b = b' ∧ c = c' := by
  have h' := congrArg BitVec.toNat h
  simp only [BitVec.toNat_add, BitVec.toNat_mul, BitVec.toNat_ofNat] at h'
  refine ⟨Fin.ext ?_, Fin.ext ?_, Fin.ext ?_⟩ <;> omega

end Cert.Rq
-- ==== Proof.Row.lean ====
module

public import Idealize.ShloMosaic.Lib.IdealHost
public import Idealize.ShloMosaic.PureOps.Ideal.Laws
public import Mathlib.Analysis.SpecialFunctions.Trigonometric.DerivHyp
public import proofs.«01_k».proof.Proof.Words

/-!
Rows of extended reals: linear layers, the SiLU activation and the normalisations as both programs use them; where the
values are real numbers; and one quantisation level of the kernel read on extended reals.
-/

set_option maxRecDepth 16384

@[expose] public section

noncomputable section

namespace Cert.Rq

open Idealize.ShloMosaic

/-- One output of a linear layer with weights `W` (a row per output) and bias `b`. -/
def lin {n m : ℕ} (W : Fin m → Fin n → EReal) (b : Fin m → EReal) (x : Fin n → EReal) (j : Fin m) : EReal :=
  (∑ k, x k * W j k) + b j

/-- The SiLU activation. -/
def silu (h : EReal) : EReal := h * Ideal.div 1 (1 + Ideal.exp (-h))

/-- Four linear layers, SiLU after each but the last. -/
def mlp {n₀ n₁ n₂ n₃ n₄ : ℕ} (W₀ : Fin n₁ → Fin n₀ → EReal) (b₀ : Fin n₁ → EReal) (W₁ : Fin n₂ → Fin n₁ → EReal)
    (b₁ : Fin n₂ → EReal) (W₂ : Fin n₃ → Fin n₂ → EReal) (b₂ : Fin n₃ → EReal) (W₃ : Fin n₄ → Fin n₃ → EReal)
    (b₃ : Fin n₄ → EReal) (x : Fin n₀ → EReal) : Fin n₄ → EReal :=
  lin W₃ b₃ fun k => silu (lin W₂ b₂ (fun k => silu (lin W₁ b₁ (fun k => silu (lin W₀ b₀ x k)) k)) k)

/-- The Euclidean norm of a row. -/
def nrm {n : ℕ} (y : Fin n → EReal) : EReal := Ideal.sqrt (∑ j, y j * y j)

/-- A row divided by its norm plus the guard `ε`. -/
def normed {n : ℕ} (ε : EReal) (y : Fin n → EReal) (j : Fin n) : EReal := Ideal.div (y j) (nrm y + ε)

/-! ## Real values -/

/-- An extended real that is a real number. -/
def IsReal (x : EReal) : Prop := ∃ r : ℝ, x = r

/-- A real number of the extended line is the embedding of its real part. -/
theorem IsReal.coe_toReal {x : EReal} (h : IsReal x) : (x.toReal : EReal) = x := by
  obtain ⟨r, rfl⟩ := h; rfl

/-- A sum of two real numbers is real. -/
theorem IsReal.add {x y : EReal} (hx : IsReal x) (hy : IsReal y) : IsReal (x + y) := by
  obtain ⟨r, rfl⟩ := hx; obtain ⟨s, rfl⟩ := hy; exact ⟨r + s, rfl⟩

/-- A product of two real numbers is real. -/
theorem IsReal.mul {x y : EReal} (hx : IsReal x) (hy : IsReal y) : IsReal (x * y) := by
  obtain ⟨r, rfl⟩ := hx; obtain ⟨s, rfl⟩ := hy; exact ⟨r * s, rfl⟩

/-- A sum of real numbers read as extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A finite sum of real numbers is real. -/
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A quotient of real numbers by one that is not zero. -/
theorem div_coe_coe (x : ℝ) {y : ℝ} (hy : y ≠ 0) : Ideal.div (x : EReal) (y : EReal) = ((x / y : ℝ) : EReal) := by
  rw [Ideal.div_coe hy, ← EReal.coe_mul, mul_one_div]

/-- The activation of a real number is real. -/
theorem IsReal.silu {h : EReal} (hh : IsReal h) : IsReal (silu h) := by
  obtain ⟨r, rfl⟩ := hh
  have hp : (1 + Real.exp (-r)) ≠ 0 := by positivity
  refine ⟨r * (1 / (1 + Real.exp (-r))), ?_⟩
  rw [Rq.silu, ← EReal.coe_neg, Ideal.exp_coe, ← EReal.coe_one, ← EReal.coe_add, div_coe_coe _ hp, ← EReal.coe_mul]

/-- A linear layer with real weights and biases takes a real row to a real row. -/
theorem IsReal.lin {n m : ℕ} {W : Fin m → Fin n → EReal} {b : Fin m → EReal} {x : Fin n → EReal}
    (hW : ∀ j k, IsReal (W j k)) (hb : ∀ j, IsReal (b j)) (hx : ∀ k, IsReal (x k)) (j : Fin m) : IsReal (lin W b x j) :=
  (IsReal.sum _ fun k => (hx k).mul (hW j k)).add (hb j)

/-- A network of real weights on a real row gives a real row. -/
theorem IsReal.mlp {n₀ n₁ n₂ n₃ n₄ : ℕ} {W₀ : Fin n₁ → Fin n₀ → EReal} {b₀ : Fin n₁ → EReal} {W₁ : Fin n₂ → Fin n₁ → EReal}
    {b₁ : Fin n₂ → EReal} {W₂ : Fin n₃ → Fin n₂ → EReal} {b₂ : Fin n₃ → EReal} {W₃ : Fin n₄ → Fin n₃ → EReal}
    {b₃ : Fin n₄ → EReal} {x : Fin n₀ → EReal} (h₀ : ∀ j k, IsReal (W₀ j k)) (c₀ : ∀ j, IsReal (b₀ j))
    (h₁ : ∀ j k, IsReal (W₁ j k)) (c₁ : ∀ j, IsReal (b₁ j)) (h₂ : ∀ j k, IsReal (W₂ j k)) (c₂ : ∀ j, IsReal (b₂ j))
    (h₃ : ∀ j k, IsReal (W₃ j k)) (c₃ : ∀ j, IsReal (b₃ j)) (hx : ∀ k, IsReal (x k)) (j : Fin n₄) :
    IsReal (mlp W₀ b₀ W₁ b₁ W₂ b₂ W₃ b₃ x j) :=
  IsReal.lin h₃ c₃ (fun k => (IsReal.lin h₂ c₂ (fun k => (IsReal.lin h₁ c₁ (fun k => (IsReal.lin h₀ c₀ hx k).silu) k).silu) k).silu) j

/-- A number whose absolute value is below `⊤` is real. -/
theorem isReal_of_abs_lt {x : EReal} (h : max x (-x) < ⊤) : IsReal x := by
  induction x with
  | bot => simp at h
  | top => simp at h
  | coe r => exact ⟨r, rfl⟩

/-! ## The kernel's SiLU -/

/-- Half of `h`, times one more than its hyperbolic tangent: SiLU. At the infinities too. -/
theorem kernel_silu (h : EReal) :
    (((1 / 2 : ℝ) : EReal) * h) * (Ideal.tanh (((1 / 2 : ℝ) : EReal) * h) + 1) = silu h := by
  have hhalf : (0 : ℝ) < 1 / 2 := by norm_num
  induction h with
  | bot =>
    rw [EReal.coe_mul_bot_of_pos hhalf, Ideal.tanh_bot, Rq.silu, EReal.neg_bot, Ideal.exp_top]
    have h1 : (-1 : EReal) + 1 = 0 := by
      rw [show (-1 : EReal) = ((-1 : ℝ) : EReal) by rw [EReal.coe_neg, EReal.coe_one], show (1 : EReal) = ((1 : ℝ) : EReal) by norm_cast, ← EReal.coe_add]
      norm_num
    rw [h1, mul_zero]
    have h2 : (1 : EReal) + ⊤ = ⊤ := by rw [← EReal.coe_one]; rfl
    rw [h2]
    have h3 : Ideal.div 1 ⊤ = 0 := by
      unfold Ideal.div
      rw [if_neg EReal.top_ne_zero, EReal.inv_top, mul_zero]
    rw [h3, mul_zero]
  | top =>
    rw [EReal.coe_mul_top_of_pos hhalf, Ideal.tanh_top, Rq.silu, EReal.neg_top, Ideal.exp_bot, add_zero]
    have h1 : (1 : EReal) + 1 = ((2 : ℝ) : EReal) := by
      rw [show (1 : EReal) = ((1 : ℝ) : EReal) by norm_cast, ← EReal.coe_add]; norm_num
    have h2 : Ideal.div 1 1 = 1 := by
      rw [show (1 : EReal) = ((1 : ℝ) : EReal) by norm_cast, div_coe_coe _ one_ne_zero]; norm_num
    rw [h1, h2, mul_one, EReal.top_mul_coe_of_pos (by norm_num)]
  | coe r =>
    have hp : (1 + Real.exp (-r)) ≠ 0 := by positivity
    rw [← EReal.coe_mul, Ideal.tanh_coe, Rq.silu, ← EReal.coe_neg, Ideal.exp_coe, ← EReal.coe_one, ← EReal.coe_add,
      ← EReal.coe_mul, ← EReal.coe_add, div_coe_coe _ hp, ← EReal.coe_mul]
    congr 1
    have he : Real.exp (-r) = Real.exp (-(1 / 2 * r)) * Real.exp (-(1 / 2 * r)) := by
      rw [← Real.exp_add]; congr 1; ring
    have hi : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, he]
    generalize Real.exp (1 / 2 * r) = a at *
    generalize Real.exp (-(1 / 2 * r)) = b at *
    have hb : b = 1 / a := by field_simp; linarith
    subst hb
    field_simp
    ring

/-! ## The guards -/

/-- A norm is not negative. -/
theorem nrm_nonneg {n : ℕ} (y : Fin n → EReal) : 0 ≤ nrm y := by
  have h : (0 : EReal) ≤ ∑ j, y j * y j := Finset.sum_nonneg fun j _ => by
    rcases le_total 0 (y j) with h | h
    · exact mul_nonneg h h
    · exact EReal.mul_nonneg_iff.mpr (Or.inr ⟨h, h⟩)
  unfold nrm
  generalize (∑ j, y j * y j) = s at *
  induction s with
  | bot => simp at h
  | top => simp
  | coe r =>
    rw [Ideal.sqrt_coe, if_neg (not_lt.mpr (EReal.coe_nonneg.mp h))]
    exact EReal.coe_nonneg.mpr (Real.sqrt_nonneg r)

/-- The kernel's normalisation: a product with the reciprocal of the norm plus a positive guard. -/
theorem kernel_normed {n : ℕ} {ε : EReal} (hε : 0 < ε) (y : Fin n → EReal) (j : Fin n) :
    y j * Ideal.div 1 (nrm y + ε) = normed ε y j :=
  Ideal.mul_one_div (ne_of_gt (lt_of_lt_of_le hε (by simpa using add_le_add_left (nrm_nonneg y) ε)))

/-! ## The kernel's quantisation level -/

/-- The largest of finitely many real numbers, as a fold of `max` from `⊥`. -/
theorem fold_max_coe {K : ℕ} [NeZero K] (s : Fin K → ℝ) :
    ∃ M : ℝ, (Finset.univ : Finset (Fin K)).fold max (⊥ : EReal) (fun j => (s j : EReal)) = M ∧ (∀ j, s j ≤ M) ∧ ∃ j, M = s j := by
  classical
  obtain ⟨m, -, hm⟩ := Finset.exists_max_image Finset.univ s ⟨(0 : Fin K), Finset.mem_univ _⟩
  refine ⟨s m, le_antisymm ?_ ?_, fun j => hm j (Finset.mem_univ _), m, rfl⟩
  · exact (Finset.fold_max_le _).mpr ⟨bot_le, fun j hj => EReal.coe_le_coe_iff.mpr (hm j hj)⟩
  · exact (Finset.le_fold_max _).mpr (Or.inr ⟨m, Finset.mem_univ _, le_refl _⟩)

variable {D : ℕ}

/-- The kernel's score of entry `j`: the scaled codebook's squared norm times `-τ / (4 log2 e)`, plus the product. -/
def kscore (τ : EReal) (ρ : Fin D → EReal) (γ : Fin 1024 → Fin D → EReal) (j : Fin 1024) : EReal :=
  Ideal.div (0 - τ) ((4 * (Real.log 2)⁻¹ : ℝ) : EReal)
      * (∑ i, (Ideal.div ((2 * (Real.log 2)⁻¹ : ℝ) : EReal) τ * γ j i) * (Ideal.div ((2 * (Real.log 2)⁻¹ : ℝ) : EReal) τ * γ j i))
    + ∑ i, ρ i * (Ideal.div ((2 * (Real.log 2)⁻¹ : ℝ) : EReal) τ * γ j i)

/-- The kernel's score less the row's largest. -/
def kshift (τ : EReal) (ρ : Fin D → EReal) (γ : Fin 1024 → Fin D → EReal) (j : Fin 1024) : EReal :=
  kscore τ ρ γ j - (Finset.univ : Finset (Fin 1024)).fold max ⊥ (kscore τ ρ γ)

/-- The kernel's score of real data. -/
theorem kscore_coe {τ : ℝ} (hτ : 0 < τ) (ρ : Fin D → ℝ) (γ : Fin 1024 → Fin D → ℝ) (j : Fin 1024) :
    kscore (τ : EReal) (fun i => (ρ i : EReal)) (fun j i => (γ j i : EReal)) j
      = ((((Real.log 2)⁻¹ / τ) * (∑ i, ρ i * ρ i) - ((Real.log 2)⁻¹ / τ) * dist ρ γ j : ℝ) : EReal) := by
  have hl : (Real.log 2)⁻¹ ≠ 0 := inv_ne_zero (ne_of_gt (Real.log_pos (by norm_num)))
  have h4 : (4 * (Real.log 2)⁻¹ : ℝ) ≠ 0 := mul_ne_zero (by norm_num) hl
  rw [← score_eq _ _ hl hτ.ne']
  unfold kscore
  rw [zero_sub, ← EReal.coe_neg, div_coe_coe _ h4, div_coe_coe _ hτ.ne']
  simp only [← EReal.coe_mul, ← coe_sum, ← EReal.coe_add]

/-- The level's facts about the shifted scores: real, and not negative exactly where the distance is least. -/
theorem kshift_coe {τ : ℝ} (hτ : 0 < τ) (ρ : Fin D → ℝ) (γ : Fin 1024 → Fin D → ℝ) :
    ∃ u : Fin 1024 → ℝ, ∃ M : ℝ, (∀ j, kshift (τ : EReal) (fun i => (ρ i : EReal)) (fun j i => (γ j i : EReal)) j = u j)
      ∧ (∀ j, u j = ((Real.log 2)⁻¹ / τ) * (∑ i, ρ i * ρ i) - ((Real.log 2)⁻¹ / τ) * dist ρ γ j - M)
      ∧ ∀ k, ¬ (u k < 0) ↔ ∀ j, dist ρ γ k ≤ dist ρ γ j := by
  have hs : kscore (τ : EReal) (fun i => (ρ i : EReal)) (fun j i => (γ j i : EReal)) = fun j => ((((Real.log 2)⁻¹ / τ) * (∑ i, ρ i * ρ i) - ((Real.log 2)⁻¹ / τ) * dist ρ γ j : ℝ) : EReal) :=
    funext (kscore_coe hτ ρ γ)
  obtain ⟨M, hM, hle, hmem⟩ := fold_max_coe fun j : Fin 1024 => ((Real.log 2)⁻¹ / τ) * (∑ i, ρ i * ρ i) - ((Real.log 2)⁻¹ / τ) * dist ρ γ j
  refine ⟨fun j => ((Real.log 2)⁻¹ / τ) * (∑ i, ρ i * ρ i) - ((Real.log 2)⁻¹ / τ) * dist ρ γ j - M, M, fun j => ?_, fun j => rfl, ?_⟩
  · unfold kshift
    rw [hs, hM, ← EReal.coe_sub]
  · exact score_top (div_pos (inv_pos.mpr (Real.log_pos (by norm_num))) hτ) (fun j => rfl) hle hmem

/-- The kernel's weighted mean of real data is the level's. -/
theorem kernel_level_emb {τ : ℝ} (hτ : 0 < τ) (ρ : Fin D → ℝ) (γ : Fin 1024 → Fin D → ℝ) {u : Fin 1024 → EReal}
    (hu : ∀ j, u j = kshift (τ : EReal) (fun i => (ρ i : EReal)) (fun j i => (γ j i : EReal)) j) (i : Fin D) :
    (∑ j, Ideal.exp2 (u j) * (γ j i : EReal)) * Ideal.div 1 (∑ j, Ideal.exp2 (u j)) = ((emb τ γ ρ i : ℝ) : EReal) := by
  obtain ⟨v, M, hv, hM, -⟩ := kshift_coe hτ ρ γ
  have he : ∀ j, Ideal.exp2 (u j) = (((2 : ℝ) ^ (v j) : ℝ) : EReal) := fun j => by
    rw [hu, hv, Ideal.exp2_coe]; rfl
  have hpos : 0 < ∑ j, (2 : ℝ) ^ (v j) :=
    Finset.sum_pos (fun j _ => Real.rpow_pos_of_pos (by norm_num) _) ⟨(0 : Fin 1024), Finset.mem_univ _⟩
  simp only [he, ← EReal.coe_mul, ← coe_sum]
  rw [← EReal.coe_one, div_coe_coe _ hpos.ne', ← EReal.coe_mul, kernel_emb τ M hτ.ne' ρ γ v hM]

/-- The kernel's index: the complement of the signed maximum of the masked reversed indices names the first least place. -/
theorem kernel_level_ids {τ : ℝ} (hτ : 0 < τ) (ρ : Fin D → ℝ) (γ : Fin 1024 → Fin D → ℝ) {u : Fin 1024 → EReal}
    (hu : ∀ j, u j = kshift (τ : EReal) (fun i => (ρ i : EReal)) (fun j i => (γ j i : EReal)) j) {g : Fin 1024 → BitVec 32}
    (h1 : ∀ j, u j < 0 → g j = 4294967295#32) (h0 : ∀ j, ¬ u j < 0 → g j = BitVec.ofNat 32 (1023 - j.val)) :
    1023#32 - (Finset.univ : Finset (Fin 1024)).fold IntOp.maxsi 2147483648#32 g
      = BitVec.ofNat 32 (first (dist ρ γ)).val := by
  obtain ⟨v, M, hv, -, htop⟩ := kshift_coe hτ ρ γ
  have hiff : ∀ j, u j < 0 ↔ v j < 0 := fun j => by
    rw [hu, hv, ← EReal.coe_zero, EReal.coe_lt_coe_iff]
  have hf := first_spec (dist ρ γ)
  rw [maxsi_first g (fun j => u j < 0) h1 h0 (first (dist ρ γ)) (by rw [hiff]; exact (htop _).mpr hf.1) fun j hj => by
    by_contra hc
    rw [hiff] at hc
    exact absurd ((htop j).mp hc (first (dist ρ γ))) (not_le.mpr (hf.2 j hj))]
  have := (first (dist ρ γ)).isLt
  apply BitVec.eq_of_toNat_eq
  simp only [BitVec.toNat_sub, BitVec.toNat_ofNat]
  omega

end Cert.Rq
-- ==== Proof.Arrays.lean ====
module

public import Idealize.ShloMosaic.Lib.ValueIdxCoords
public import Idealize.ShloMosaic.Lib.StackMember
public import Idealize.ShloMosaic.Lib.MatmulPlain
public import Idealize.ShloMosaic.Lib.KernelVsHost
public import Idealize.ShloMosaic.Lib.Pipeline.Value
public import proofs.«01_k».proof.Proof.Row

/-!
Array operations read at an index: transposes, broadcasts, row sums and row maxima, and the layers both programs are
built from, as the row functions of `Row`.
-/

set_option maxRecDepth 16384

@[expose] public section

noncomputable section

namespace Cert.Rq

open Idealize.ShloMosaic Idealize.ShloMosaic.ValueIdx

variable {n m k : ℕ} {α : Type} {φ : FTy}

/-! ## Literals -/

/-- The literal one half. -/
theorem lit_half : Ideal.ofBits .f32 0x3F000000#32 = ((1 / 2 : ℝ) : EReal) := by
  simp [Ideal.ofBits, Ideal.ieee, -EReal.coe_mul]; norm_num
/-- The literal one quarter. -/
theorem lit_quarter : Ideal.ofBits .f32 0x3E800000#32 = ((1 / 4 : ℝ) : EReal) := by
  simp [Ideal.ofBits, Ideal.ieee, -EReal.coe_mul]; norm_num
/-- The literal five quarters. -/
theorem lit_five_quarters : Ideal.ofBits .f32 0x3FA00000#32 = ((5 / 4 : ℝ) : EReal) := by
  simp [Ideal.ofBits, Ideal.ieee, -EReal.coe_mul]; norm_num
/-- The literal two. -/
theorem lit_two : Ideal.ofBits .f32 0x40000000#32 = ((2 : ℝ) : EReal) := by
  simp [Ideal.ofBits, Ideal.ieee, -EReal.coe_mul]; norm_num
/-- The literal 4096. -/
theorem lit_4096 : Ideal.ofBits .f32 0x45800000#32 = ((4096 : ℝ) : EReal) := by
  simp [Ideal.ofBits, Ideal.ieee, -EReal.coe_mul]; norm_num
/-- The literal minus infinity is the least element. -/
theorem lit_bot : Ideal.ofBits .f32 0xFF800000#32 = ⊥ := by
  simp [Ideal.ofBits, Ideal.ieee]
/-- The literal infinity is the greatest element. -/
theorem lit_top : Ideal.ofBits .f32 0x7F800000#32 = ⊤ := by
  simp [Ideal.ofBits, Ideal.ieee]

/-- The guard added to a norm. -/
def guard : EReal := Ideal.ofBits .f32 0x2B8CBCCC#32

/-- The small number that keeps a norm from zero is positive. -/
theorem guard_pos : 0 < guard := by
  have : ∃ r : ℝ, 0 < r ∧ guard = r := by
    refine ⟨(9223372 : ℝ) / 2 ^ 63, by positivity, ?_⟩
    simp [guard, Ideal.ofBits, Ideal.ieee, -EReal.coe_mul]; norm_num
  obtain ⟨r, h0, h⟩ := this
  rw [h]; exact_mod_cast h0

/-! ## Layout -/

/-- A transposed matrix, entry by entry. -/
theorem transpose2 (w : (⟨2, ![n, m]⟩ : Shape).Idx → α) (h : (⟨2, ![n, m]⟩ : Shape).Transposes [1, 0] ⟨2, ![m, n]⟩) (a : Fin m) (b : Fin n) :
    transpose ⟨2, ![m, n]⟩ [1, 0] w h (ix2 a b) = w (ix2 b a) :=
  transpose_apply _ w h (ix2 a b) (ix2 b a) fun c => by
    match c with
    | ⟨0, _⟩ => rfl
    | ⟨1, _⟩ => rfl

/-- One row repeated down an array. -/
theorem rowInDim (x : (⟨2, ![1, m]⟩ : Shape).Idx → α) (h : (⟨2, ![1, m]⟩ : Shape).BroadcastsInDim ⟨2, ![n, m]⟩ ![0, 1]) (r : Fin n) (c : Fin m) :
    broadcastInDim ⟨2, ![n, m]⟩ ![0, 1] h x (ix2 r c) = x (ix2 0 c) := broadcastInDim_oneRow_apply h x r c

/-- A list laid out as one row. -/
theorem listRow (x : (⟨1, ![m]⟩ : Shape).Idx → α) (h : (⟨1, ![m]⟩ : Shape).BroadcastsInDim ⟨2, ![1, m]⟩ ![1]) (r : Fin 1) (c : Fin m) :
    broadcastInDim ⟨2, ![1, m]⟩ ![1] h x (ix2 r c) = x (ix1 c) :=
  broadcastInDim_apply _ h x (ix2 r c) (ix1 c) fun a => by
    match a with
    | ⟨0, _⟩ =>
      show c.val = if m = 1 then 0 else c.val
      split
      · have := c.isLt; omega
      · rfl

/-- A list laid out as one column. -/
theorem listCol (x : (⟨1, ![n]⟩ : Shape).Idx → α) (h : (⟨1, ![n]⟩ : Shape).BroadcastsInDim ⟨2, ![n, 1]⟩ ![0]) (r : Fin n) (c : Fin 1) :
    broadcastInDim ⟨2, ![n, 1]⟩ ![0] h x (ix2 r c) = x (ix1 r) :=
  broadcastInDim_apply _ h x (ix2 r c) (ix1 r) fun a => by
    match a with
    | ⟨0, _⟩ =>
      show r.val = if n = 1 then 0 else r.val
      split
      · have := r.isLt; omega
      · rfl

/-- One column repeated across an array. -/
theorem colInDim (x : (⟨2, ![n, 1]⟩ : Shape).Idx → α) (h : (⟨2, ![n, 1]⟩ : Shape).BroadcastsInDim ⟨2, ![n, m]⟩ ![0, 1]) (r : Fin n) (c : Fin m) :
    broadcastInDim ⟨2, ![n, m]⟩ ![0, 1] h x (ix2 r c) = x (ix2 r 0) :=
  broadcastInDim_apply _ h x (ix2 r c) (ix2 r 0) fun a => by
    match a with
    | ⟨0, _⟩ =>
      show r.val = if n = 1 then 0 else r.val
      split
      · have := r.isLt; omega
      · rfl
    | ⟨1, _⟩ => rfl

/-- The kernel's row repeated down an array. -/
theorem rowTo (x : (⟨2, ![1, m]⟩ : Shape).Idx → α) (h : (⟨2, ![1, m]⟩ : Shape).Broadcasts ⟨2, ![n, m]⟩) (r : Fin n) (c : Fin m) :
    broadcastTo ⟨2, ![n, m]⟩ x h (ix2 r c) = x (ix2 0 c) :=
  broadcastTo_apply x h (ix2 r c) (ix2 0 c) fun a => by
    match a with
    | ⟨0, _⟩ => rfl
    | ⟨1, _⟩ =>
      show c.val = if m = 1 then 0 else c.val
      split
      · have := c.isLt; omega
      · rfl

/-- The kernel's column repeated across an array. -/
theorem colTo (x : (⟨2, ![n, 1]⟩ : Shape).Idx → α) (h : (⟨2, ![n, 1]⟩ : Shape).Broadcasts ⟨2, ![n, m]⟩) (r : Fin n) (c : Fin m) :
    broadcastTo ⟨2, ![n, m]⟩ x h (ix2 r c) = x (ix2 r 0) :=
  broadcastTo_apply x h (ix2 r c) (ix2 r 0) fun a => by
    match a with
    | ⟨0, _⟩ =>
      show r.val = if n = 1 then 0 else r.val
      split
      · have := r.isLt; omega
      · rfl
    | ⟨1, _⟩ => rfl

/-- One entry repeated over an array. -/
theorem oneTo (x : (⟨2, ![1, 1]⟩ : Shape).Idx → α) (h : (⟨2, ![1, 1]⟩ : Shape).Broadcasts ⟨2, ![n, m]⟩) (r : Fin n) (c : Fin m) :
    broadcastTo ⟨2, ![n, m]⟩ x h (ix2 r c) = x (ix2 0 0) :=
  broadcastTo_apply x h (ix2 r c) (ix2 0 0) fun a => by
    match a with
    | ⟨0, _⟩ => rfl
    | ⟨1, _⟩ => rfl

/-- A list reshaped to one column. -/
theorem castCol (x : (⟨1, ![n]⟩ : Shape).Idx → α) (h : (⟨1, ![n]⟩ : Shape).ShapeCasts ⟨2, ![n, 1]⟩) (r : Fin n) (c : Fin 1) :
    shapeCast ⟨2, ![n, 1]⟩ x h (ix2 r c) = x (ix1 r) := by
  refine shapeCast_apply _ h (ix2 r c) (ix1 r) ?_
  rw [Shape.rowMajor_val_one, Shape.rowMajor_val_two]; simp; rfl

/-- A list reshaped to one row. -/
theorem castRow (x : (⟨1, ![m]⟩ : Shape).Idx → α) (h : (⟨1, ![m]⟩ : Shape).ShapeCasts ⟨2, ![1, m]⟩) (r : Fin 1) (c : Fin m) :
    shapeCast ⟨2, ![1, m]⟩ x h (ix2 r c) = x (ix1 c) := by
  refine shapeCast_apply _ h (ix2 r c) (ix1 c) ?_
  rw [Shape.rowMajor_val_one, Shape.rowMajor_val_two]; simp; rfl

/-! ## Sums and maxima along rows -/

/-- The entry of a matrix that a reduction along the rows reads at row `r` and column `c`. -/
theorem lift_row (h : (⟨2, ![n, m]⟩ : Shape).Reduces [1] ⟨1, ![n]⟩) (r : Fin n) (c : Fin m) : h.lift (ix1 r) c = ix2 r c := by
  funext a; apply Fin.ext
  match a with
  | ⟨0, _⟩ => rfl
  | ⟨1, _⟩ => rfl

/-- The entry of a matrix that a reduction along the columns reads at column `c` and row `r`. -/
theorem lift_col (h : (⟨2, ![n, m]⟩ : Shape).Reduces [0] ⟨1, ![m]⟩) (c : Fin m) (r : Fin n) : h.lift (ix1 c) r = ix2 r c := by
  funext a; apply Fin.ext
  match a with
  | ⟨0, _⟩ => rfl
  | ⟨1, _⟩ => rfl

/-- A reduction of a matrix along its rows that keeps no unit axis is a reduction in the sense of the vector operations. -/
theorem rowReduces (h : (⟨2, ![n, m]⟩ : Shape).ReducesTo [1] ⟨1, ![n]⟩) : (⟨2, ![n, m]⟩ : Shape).Reduces [1] ⟨1, ![n]⟩ :=
  ⟨h.1, Nat.one_pos, h.2⟩

/-- The host's row sum. -/
theorem hostRowSum (x : FVec Ideal ⟨2, ![n, m]⟩ .f32) (h : (⟨2, ![n, m]⟩ : Shape).ReducesTo [1] ⟨1, ![n]⟩) (hu : 0 < (⟨0, ![]⟩ : Shape).numel) (r : Fin n) :
    Host.reduceAdd x (constant (F := Ideal) ⟨0, ![]⟩ .f32 0x00000000#32) h hu (ix1 r) = ∑ c, x (ix2 r c) := by
  rw [hostReduceAdd_apply, Ideal.hostReduceAdd_single h (rowReduces h), constant_apply, Ideal.ofBits_zero_f32, zero_add]
  exact Finset.sum_congr rfl fun c _ => congrArg x (lift_row (rowReduces h) r c)

/-- The kernel's row sum. -/
theorem rowSum (x : FVec Ideal ⟨2, ![n, m]⟩ .f32) (h : (⟨2, ![n, m]⟩ : Shape).Reduces [1] ⟨1, ![n]⟩) (hφ hacc) (r : Fin n) :
    multiReduction .add [1] ⟨1, ![n]⟩ x 0x00000000#32 h hφ hacc (ix1 r) = ∑ c, x (ix2 r c) := by
  rw [Ideal.multiReduction_add_single]; exact Finset.sum_congr rfl fun c _ => congrArg x (lift_row h r c)

/-- The kernel's column sum. -/
theorem colSum (x : FVec Ideal ⟨2, ![n, m]⟩ .f32) (h : (⟨2, ![n, m]⟩ : Shape).Reduces [0] ⟨1, ![m]⟩) (hφ hacc) (c : Fin m) :
    multiReduction .add [0] ⟨1, ![m]⟩ x 0x00000000#32 h hφ hacc (ix1 c) = ∑ r, x (ix2 r c) := by
  rw [Ideal.multiReduction_add_single]; exact Finset.sum_congr rfl fun r _ => congrArg x (lift_col h c r)

/-- The kernel's row maximum. -/
theorem rowMax (x : FVec Ideal ⟨2, ![n, m]⟩ .f32) (h : (⟨2, ![n, m]⟩ : Shape).Reduces [1] ⟨1, ![n]⟩) (hφ hacc) (r : Fin n) :
    multiReduction .maximumf [1] ⟨1, ![n]⟩ x 0xFF800000#32 h hφ hacc (ix1 r)
      = (Finset.univ : Finset (Fin m)).fold max ⊥ fun c => x (ix2 r c) := by
  rw [Ideal.multiReduction_maximumf_single, show FloatOps.ofBits (F := Ideal) .f32 0xFF800000#32 = ⊥ from lit_bot]
  exact congrArg (fun f => (Finset.univ : Finset (Fin m)).fold max ⊥ f) (funext fun c => congrArg x (lift_row h r c))

/-- The host's row maximum. -/
theorem hostRowMax (x : FVec Ideal ⟨2, ![n, m]⟩ .f32) (h : (⟨2, ![n, m]⟩ : Shape).ReducesTo [1] ⟨1, ![n]⟩) (hu : 0 < (⟨0, ![]⟩ : Shape).numel) (r : Fin n) :
    Host.reduce FloatOps.maximumf x (constant (F := Ideal) ⟨0, ![]⟩ .f32 0xFF800000#32) h hu (ix1 r)
      = (Finset.univ : Finset (Fin m)).fold max ⊥ fun c => x (ix2 r c) := by
  exact (congrFun (hostReduce_maximumf_eq_multiReduction x 0xFF800000#32 h hu (rowReduces h) (.inl rfl) rfl) _).trans
    (rowMax x (rowReduces h) (.inl rfl) rfl r)

/-- The kernel's row maximum of signed words. -/
theorem rowMaxI (x : IVec ⟨2, ![n, m]⟩ 32) (h : (⟨2, ![n, m]⟩ : Shape).Reduces [1] ⟨1, ![n]⟩) (hacc) (r : Fin n) :
    multiReductionI .maxsi [1] ⟨1, ![n]⟩ x 2147483648#32 h hacc (ix1 r)
      = (Finset.univ : Finset (Fin m)).fold IntOp.maxsi 2147483648#32 fun c => x (ix2 r c) := by
  rw [multiReductionI_eq_fold]
  refine (h.fold_filter_drop_single _ _ x (ix1 r)).trans ?_
  exact congrArg (fun f => (Finset.univ : Finset (Fin m)).fold IntOp.maxsi 2147483648#32 f) (funext fun c => congrArg x (lift_row h r c))

end Cert.Rq
-- ==== Proof.Layers.lean ====
module

public import proofs.«01_k».proof.Proof.Arrays

/-!
The kernel's layers read at an entry: linear layers, SiLU, one quantisation level's scores, weights, embedding and
words, squared norms and the normalisation.
-/

set_option maxRecDepth 16384

@[expose] public section

noncomputable section

namespace Cert.Rq

open Idealize.ShloMosaic Idealize.ShloMosaic.ValueIdx

variable {n m k : ℕ}

/-- Row `r` of an array. -/
abbrev row {α : Type} (x : (⟨2, ![n, m]⟩ : Shape).Idx → α) (r : Fin n) (c : Fin m) : α := x (ix2 r c)

/-- The kernel's linear layer. -/
theorem kLin {d : DotDims ⟨2, ![n, k]⟩ ⟨2, ![m, k]⟩ ⟨2, ![n, m]⟩} (hd : d = DotDims.transposedRhs n k m) {prec}
    (x : FVec Ideal ⟨2, ![n, k]⟩ .f32) (w : FVec Ideal ⟨2, ![m, k]⟩ .bf16) (b : FVec Ideal ⟨2, ![1, m]⟩ .f32) (hx hw hb hbb)
    (r : Fin n) (c : Fin m) :
    addf (matmul d prec (truncf .bf16 x hx) (shapeCast ⟨2, ![m, k]⟩ w hw) (constant (F := Ideal) ⟨2, ![n, m]⟩ .f32 0x00000000#32))
      (broadcastTo ⟨2, ![n, m]⟩ (shapeCast ⟨2, ![1, m]⟩ b hb) hbb) (ix2 r c) = lin (row w) (row b 0) (row x r) c := by
  subst hd
  rw [addf_apply, rowTo, shapeCast_self, shapeCast_self]
  refine congrArg (· + _) ?_
  refine (Ideal.matmul_transposedRhs_apply ..).trans ?_
  rw [constant_apply, Ideal.ofBits_zero_f32, zero_add]
  rfl

/-- The kernel's SiLU. -/
theorem kSilu {s : Shape} (h : FVec Ideal s .f32) (c : Ideal .f32) (hc : c = Ideal.ofBits .f32 0x3F000000#32) (i : s.Idx) :
    mulf (mulf (broadcast s c) h) (addf (tanh (mulf (broadcast s c) h)) (broadcast s (Scalar.ofBits (F := Ideal) .f32 0x3F800000#32))) i = silu (h i) := by
  rw [← kernel_silu (h i), ← lit_half, ← hc]
  show (c * h i) * (Ideal.tanh (c * h i) + Ideal.ofBits .f32 0x3F800000#32) = _
  rw [Ideal.ofBits_one_f32]

/-- The kernel's squared norm of a row. -/
theorem kSq (x : FVec Ideal ⟨2, ![n, m]⟩ .f32) (h hφ hacc hc) (r : Fin n) (c : Fin 1) :
    shapeCast ⟨2, ![n, 1]⟩ (multiReduction .add [1] ⟨1, ![n]⟩ (mulf x x) 0x00000000#32 h hφ hacc) hc (ix2 r c) = ∑ j, x (ix2 r j) * x (ix2 r j) := by
  rw [castCol, rowSum]; rfl

/-- The kernel's normalisation. -/
theorem kNormed (x : FVec Ideal ⟨2, ![n, m]⟩ .f32) (g : Ideal .f32) (hg : g = guard) (q : FVec Ideal ⟨2, ![n, 1]⟩ .f32) (hb) (r : Fin n)
    (hq : q (ix2 r 0) = nrm (row x r)) (c : Fin m) :
    mulf x (broadcastTo ⟨2, ![n, m]⟩ (divf (broadcast ⟨2, ![n, 1]⟩ (Scalar.ofBits (F := Ideal) .f32 0x3F800000#32)) (addf q (broadcast ⟨2, ![n, 1]⟩ g))) hb) (ix2 r c)
      = normed guard (row x r) c := by
  rw [mulf_apply, colTo, ← kernel_normed guard_pos (row x r) c, ← hq, ← hg, ← Ideal.ofBits_one_f32]
  rfl

/-- The kernel's scores of one level: scaled squared norms of the codes plus products with them. -/
theorem kScore {d : DotDims ⟨2, ![n, k]⟩ ⟨2, ![k, 1024]⟩ ⟨2, ![n, 1024]⟩} (hd : d = DotDims.plain n k 1024) {prec}
    (a q : FVec Ideal ⟨2, ![1, 1]⟩ .f32) (x : FVec Ideal ⟨2, ![n, k]⟩ .f32) (w : FVec Ideal ⟨2, ![k, 1024]⟩ .f32) (t : EReal)
    (ha : a (ix2 0 0) = Ideal.div ((2 * (Real.log 2)⁻¹ : ℝ) : EReal) t) (hq : q (ix2 0 0) = Ideal.div (0 - t) ((4 * (Real.log 2)⁻¹ : ℝ) : EReal))
    (h1 h2 h3 h4 h5 h6 h7 h8 hφ hacc) (r : Fin n) (c : Fin 1024) :
    addf (broadcastTo ⟨2, ![n, 1024]⟩ (mulf (broadcastTo ⟨2, ![1, 1024]⟩ q h1)
        (shapeCast ⟨2, ![1, 1024]⟩ (multiReduction .add [0] ⟨1, ![1024]⟩
          (mulf (mulf (broadcastTo ⟨2, ![k, 1024]⟩ a h2) (shapeCast ⟨2, ![k, 1024]⟩ w h3)) (mulf (broadcastTo ⟨2, ![k, 1024]⟩ a h2) (shapeCast ⟨2, ![k, 1024]⟩ w h3)))
          0x00000000#32 h4 hφ hacc) h5)) h6)
      (matmul d prec (truncf .bf16 x h7) (truncf .bf16 (mulf (broadcastTo ⟨2, ![k, 1024]⟩ a h2) (shapeCast ⟨2, ![k, 1024]⟩ w h3)) h8)
        (constant (F := Ideal) ⟨2, ![n, 1024]⟩ .f32 0x00000000#32)) (ix2 r c)
      = kscore t (row x r) (fun j i => w (ix2 i j)) c := by
  subst hd
  have hw : ∀ i, mulf (broadcastTo ⟨2, ![k, 1024]⟩ a h2) (shapeCast ⟨2, ![k, 1024]⟩ w h3) (ix2 i c) = Ideal.div ((2 * (Real.log 2)⁻¹ : ℝ) : EReal) t * w (ix2 i c) := fun i => by
    rw [mulf_apply, oneTo, shapeCast_self, ha]
  rw [addf_apply, rowTo, mulf_apply, oneTo, castRow, colSum, hq]
  refine congrArg₂ (· + ·) (congrArg _ (Finset.sum_congr rfl fun i _ => ?_)) ?_
  · rw [mulf_apply, hw]
  · refine (Ideal.matmul_plain_apply ..).trans ?_
    rw [constant_apply, Ideal.ofBits_zero_f32, zero_add]
    exact Finset.sum_congr rfl fun i _ => congrArg (x (ix2 r i) * ·) (hw i)

/-- The kernel's scores less their row's largest. -/
theorem kShift (s : FVec Ideal ⟨2, ![n, m]⟩ .f32) (h1 h2 h3 hφ hacc) (r : Fin n) (c : Fin m) :
    subf s (broadcastTo ⟨2, ![n, m]⟩ (shapeCast ⟨2, ![n, 1]⟩ (multiReduction .maximumf [1] ⟨1, ![n]⟩ s 0xFF800000#32 h1 hφ hacc) h2) h3) (ix2 r c)
      = s (ix2 r c) - (Finset.univ : Finset (Fin m)).fold max ⊥ fun c => s (ix2 r c) := by
  rw [subf_apply, colTo, castCol, rowMax]

/-- The kernel's embedding of one level. -/
theorem kEmb {d : DotDims ⟨2, ![n, k]⟩ ⟨2, ![k, m]⟩ ⟨2, ![n, m]⟩} (hd : d = DotDims.plain n k m) {prec}
    (u : FVec Ideal ⟨2, ![n, k]⟩ .f32) (w : FVec Ideal ⟨2, ![k, m]⟩ .bf16) (h1 h2 h3 h4 h5 hφ hacc) (r : Fin n) (c : Fin m) :
    mulf (matmul d prec (truncf .bf16 (exp2 u) h1) (shapeCast ⟨2, ![k, m]⟩ w h2) (constant (F := Ideal) ⟨2, ![n, m]⟩ .f32 0x00000000#32))
      (broadcastTo ⟨2, ![n, m]⟩ (divf (broadcast ⟨2, ![n, 1]⟩ (Scalar.ofBits (F := Ideal) .f32 0x3F800000#32))
        (shapeCast ⟨2, ![n, 1]⟩ (multiReduction .add [1] ⟨1, ![n]⟩ (exp2 u) 0x00000000#32 h3 hφ hacc) h4)) h5) (ix2 r c)
      = (∑ j, Ideal.exp2 (u (ix2 r j)) * w (ix2 j c)) * Ideal.div 1 (∑ j, Ideal.exp2 (u (ix2 r j))) := by
  subst hd
  rw [mulf_apply, colTo, divf_apply, castCol, rowSum, shapeCast_self]
  refine congrArg₂ (· * ·) ?_ ?_
  · refine (Ideal.matmul_plain_apply ..).trans ?_
    rw [constant_apply, Ideal.ofBits_zero_f32, zero_add]
    rfl
  · show Ideal.div (Ideal.ofBits .f32 0x3F800000#32) _ = _
    rw [Ideal.ofBits_one_f32]; rfl

/-- The word the kernel gives a code: minus one where the score is below the largest, else the code's place from the end. -/
theorem kWord (u : FVec Ideal ⟨2, ![n, 1024]⟩ .f32) (h1) (r : Fin n) (c : Fin 1024) :
    (u (ix2 r c) < 0 → ori (select (cmpf .olt u (broadcast ⟨2, ![n, 1024]⟩ (Scalar.ofBits (F := Ideal) .f32 0x00000000#32))) (broadcast ⟨2, ![n, 1024]⟩ 4294967295#32) (broadcast ⟨2, ![n, 1024]⟩ 0#32))
        (subi (broadcast ⟨2, ![n, 1024]⟩ 1023#32) (iota .tc ⟨2, ![n, 1024]⟩ 32 [1] h1)) (ix2 r c) = 4294967295#32)
    ∧ (¬ u (ix2 r c) < 0 → ori (select (cmpf .olt u (broadcast ⟨2, ![n, 1024]⟩ (Scalar.ofBits (F := Ideal) .f32 0x00000000#32))) (broadcast ⟨2, ![n, 1024]⟩ 4294967295#32) (broadcast ⟨2, ![n, 1024]⟩ 0#32))
        (subi (broadcast ⟨2, ![n, 1024]⟩ 1023#32) (iota .tc ⟨2, ![n, 1024]⟩ 32 [1] h1)) (ix2 r c) = BitVec.ofNat 32 (1023 - c.val)) := by
  have hi : subi (broadcast ⟨2, ![n, 1024]⟩ 1023#32) (iota .tc ⟨2, ![n, 1024]⟩ 32 [1] h1) (ix2 r c) = BitVec.ofNat 32 (1023 - c.val) := by
    show 1023#32 - iota .tc ⟨2, ![n, 1024]⟩ 32 [1] h1 (ix2 r c) = _
    rw [iota_single_apply]
    show 1023#32 - BitVec.ofNat 32 c.val = _
    have := c.isLt
    apply BitVec.eq_of_toNat_eq
    simp only [BitVec.toNat_sub, BitVec.toNat_ofNat]
    omega
  have hs : ∀ b : BitVec 1, cmpf .olt u (broadcast ⟨2, ![n, 1024]⟩ (Scalar.ofBits (F := Ideal) .f32 0x00000000#32)) (ix2 r c) = b →
      ori (select (cmpf .olt u (broadcast ⟨2, ![n, 1024]⟩ (Scalar.ofBits (F := Ideal) .f32 0x00000000#32))) (broadcast ⟨2, ![n, 1024]⟩ 4294967295#32) (broadcast ⟨2, ![n, 1024]⟩ 0#32))
        (subi (broadcast ⟨2, ![n, 1024]⟩ 1023#32) (iota .tc ⟨2, ![n, 1024]⟩ 32 [1] h1)) (ix2 r c)
      = (if b = 1#1 then 4294967295#32 else 0#32) ||| BitVec.ofNat 32 (1023 - c.val) := fun b hb => by
    rw [← hi]
    show (select _ _ _ (ix2 r c)) ||| _ = _
    rw [select_apply, hb]
    rfl
  have hcmp : cmpf .olt u (broadcast ⟨2, ![n, 1024]⟩ (Scalar.ofBits (F := Ideal) .f32 0x00000000#32)) (ix2 r c) = BitVec.ofBool (decide (u (ix2 r c) < 0)) := by
    show BitVec.ofBool (decide (u (ix2 r c) < Ideal.ofBits .f32 0x00000000#32)) = _
    rw [Ideal.ofBits_zero_f32]
  refine ⟨fun h => ?_, fun h => ?_⟩
  · rw [hs 1#1 (by rw [hcmp]; simp [h]), if_pos rfl]
    apply BitVec.eq_of_getLsbD_eq
    intro i hi
    have : (4294967295#32) = BitVec.allOnes 32 := by decide
    rw [this, BitVec.getLsbD_or, BitVec.getLsbD_allOnes]; simp [hi]
  · rw [hs 0#1 (by rw [hcmp]; simp [h]), if_neg (by decide)]
    simp

/-- The kernel's row result of the words. -/
theorem kFold (g : IVec ⟨2, ![n, m]⟩ 32) (h1 h2 hacc) (r : Fin n) (c : Fin 1) :
    subi (broadcast ⟨2, ![n, 1]⟩ 1023#32) (shapeCast ⟨2, ![n, 1]⟩ (multiReductionI .maxsi [1] ⟨1, ![n]⟩ g 2147483648#32 h1 hacc) h2) (ix2 r c)
      = 1023#32 - (Finset.univ : Finset (Fin m)).fold IntOp.maxsi 2147483648#32 fun c => g (ix2 r c) := by
  show 1023#32 - shapeCast _ _ _ (ix2 r c) = _
  rw [castCol, rowMaxI]

end Cert.Rq
-- ==== Proof.Unique.lean ====
module

public import Mathlib.Algebra.BigOperators.Field
public import Mathlib.Algebra.Order.BigOperators.Group.Finset
public import Mathlib.Data.Real.Basic
public import Mathlib.Data.Fintype.Card
public import Mathlib.Data.Finset.Max
public import Mathlib.Tactic.FieldSimp

/-!
Counting distinct keys in two ways: the sum of the reciprocals of the multiplicities, and the number of places that no
later place repeats.
-/

@[expose] public section

namespace Cert.Rq

variable {n : ℕ} {α : Type} [DecidableEq α]

/-- The sum of the reciprocals of the multiplicities is the number of distinct keys. -/
theorem sum_inv_mult (key : Fin n → α) :
    (∑ i, (1 : ℝ) / ((Finset.univ.filter fun j => key i = key j).card : ℝ)) = ((Finset.univ.image key).card : ℝ) := by
  rw [← Finset.sum_fiberwise_of_maps_to (t := Finset.univ.image key) (g := key)
    (fun i _ => Finset.mem_image_of_mem key (Finset.mem_univ i)), Finset.card_eq_sum_ones, Nat.cast_sum]
  refine Finset.sum_congr rfl fun b hb => ?_
  obtain ⟨i₀, -, rfl⟩ := Finset.mem_image.mp hb
  have h : ∀ i ∈ Finset.univ.filter (fun i => key i = key i₀),
      (1 : ℝ) / ((Finset.univ.filter fun j => key i = key j).card : ℝ)
        = 1 / ((Finset.univ.filter fun j => key j = key i₀).card : ℝ) := fun i hi => by
    have hi' := (Finset.mem_filter.mp hi).2
    rw [hi']
    congr 3
    ext j
    simp [eq_comm]
  rw [Finset.sum_congr rfl h, Finset.sum_const, nsmul_eq_mul, Nat.cast_one]
  have hpos : 0 < (Finset.univ.filter fun j => key j = key i₀).card :=
    Finset.card_pos.mpr ⟨i₀, Finset.mem_filter.mpr ⟨Finset.mem_univ _, rfl⟩⟩
  have : ((Finset.univ.filter fun j => key j = key i₀).card : ℝ) ≠ 0 := by exact_mod_cast hpos.ne'
  field_simp

/-- The places that no later place repeats are as many as the distinct keys. -/
theorem card_last (key : Fin n → α) :
    (Finset.univ.filter fun i => ∀ j, i < j → key i ≠ key j).card = (Finset.univ.image key).card := by
  refine Finset.card_bij (fun i _ => key i) (fun i _ => Finset.mem_image_of_mem key (Finset.mem_univ i)) ?_ ?_
  · intro i hi j hj h
    rcases lt_trichotomy i j with hlt | he | hlt
    · exact absurd h ((Finset.mem_filter.mp hi).2 j hlt)
    · exact he
    · exact absurd h.symm ((Finset.mem_filter.mp hj).2 i hlt)
  · intro b hb
    obtain ⟨i₀, -, rfl⟩ := Finset.mem_image.mp hb
    have hne : (Finset.univ.filter fun i => key i = key i₀).Nonempty :=
      ⟨i₀, Finset.mem_filter.mpr ⟨Finset.mem_univ _, rfl⟩⟩
    have hm := (Finset.mem_filter.mp (Finset.max'_mem _ hne)).2
    refine ⟨_, Finset.mem_filter.mpr ⟨Finset.mem_univ _, fun j hj hk => ?_⟩, hm⟩
    have hj' : j ∈ Finset.univ.filter fun i => key i = key i₀ :=
      Finset.mem_filter.mpr ⟨Finset.mem_univ _, hk.symm.trans hm⟩
    exact absurd (Finset.le_max' _ _ hj') (not_le.mpr hj)

end Cert.Rq
-- ==== Proof.Spec.lean ====
module

public import proofs.«01_k».proof.Proof.Layers
public import proofs.«01_k».proof.Proof.Unique

/-!
The residual quantiser on one row: encoder, three quantisation levels, decoder, losses, norms and indices, as functions
of the weights and the row.
-/

set_option maxRecDepth 16384

@[expose] public section

noncomputable section

namespace Cert.Rq

open Idealize.ShloMosaic Idealize.ShloMosaic.ValueIdx

/-- The quantiser's parameters: temperature, encoder, decoder and codebooks. -/
structure Par where
  t : EReal
  W0 : Fin 1024 → Fin 786 → EReal
  b0 : Fin 1024 → EReal
  W1 : Fin 512 → Fin 1024 → EReal
  b1 : Fin 512 → EReal
  W2 : Fin 256 → Fin 512 → EReal
  b2 : Fin 256 → EReal
  W3 : Fin 128 → Fin 256 → EReal
  b3 : Fin 128 → EReal
  D0 : Fin 256 → Fin 128 → EReal
  c0 : Fin 256 → EReal
  D1 : Fin 512 → Fin 256 → EReal
  c1 : Fin 512 → EReal
  D2 : Fin 1024 → Fin 512 → EReal
  c2 : Fin 1024 → EReal
  D3 : Fin 786 → Fin 1024 → EReal
  c3 : Fin 786 → EReal
  cb0 : Fin 1024 → Fin 128 → EReal
  cb1 : Fin 1024 → Fin 128 → EReal
  cb2 : Fin 1024 → Fin 128 → EReal

namespace Par

variable (P : Par) (x : Fin 786 → EReal)

/-- The parameters the quantisation depends on are real, and the temperature is positive. -/
structure Good : Prop where
  t : ∃ τ : ℝ, 0 < τ ∧ P.t = τ
  W0 : ∀ j k, IsReal (P.W0 j k)
  b0 : ∀ j, IsReal (P.b0 j)
  W1 : ∀ j k, IsReal (P.W1 j k)
  b1 : ∀ j, IsReal (P.b1 j)
  W2 : ∀ j k, IsReal (P.W2 j k)
  b2 : ∀ j, IsReal (P.b2 j)
  W3 : ∀ j k, IsReal (P.W3 j k)
  b3 : ∀ j, IsReal (P.b3 j)
  cb0 : ∀ j k, IsReal (P.cb0 j k)
  cb1 : ∀ j k, IsReal (P.cb1 j k)
  cb2 : ∀ j k, IsReal (P.cb2 j k)

/-- The temperature as a real number. -/
def τ : ℝ := P.t.toReal
/-- The codebooks as real numbers. -/
def γ0 (j : Fin 1024) (i : Fin 128) : ℝ := (P.cb0 j i).toReal
def γ1 (j : Fin 1024) (i : Fin 128) : ℝ := (P.cb1 j i).toReal
def γ2 (j : Fin 1024) (i : Fin 128) : ℝ := (P.cb2 j i).toReal
/-- The encoder's output. -/
def z : Fin 128 → EReal := mlp P.W0 P.b0 P.W1 P.b1 P.W2 P.b2 P.W3 P.b3 x
/-- The residuals and embeddings of the levels. -/
def ρ0 (i : Fin 128) : ℝ := (P.z x i).toReal
def e0 : Fin 128 → ℝ := emb P.τ P.γ0 (P.ρ0 x)
def ρ1 (i : Fin 128) : ℝ := P.ρ0 x i - P.e0 x i
def e1 : Fin 128 → ℝ := emb P.τ P.γ1 (P.ρ1 x)
def ρ2 (i : Fin 128) : ℝ := P.ρ1 x i - P.e1 x i
def e2 : Fin 128 → ℝ := emb P.τ P.γ2 (P.ρ2 x)
/-- The nearest codes. -/
def id0 : Fin 1024 := first (dist (P.ρ0 x) P.γ0)
def id1 : Fin 1024 := first (dist (P.ρ1 x) P.γ1)
def id2 : Fin 1024 := first (dist (P.ρ2 x) P.γ2)
/-- The three nearest codes. -/
def ids : Fin 1024 × Fin 1024 × Fin 1024 := (P.id0 x, P.id1 x, P.id2 x)
/-- The quantised row. -/
def zhat (i : Fin 128) : EReal := ((P.e0 x i + P.e1 x i + P.e2 x i : ℝ) : EReal)
/-- The decoder's output, normalised. -/
def y : Fin 786 → EReal := normed guard (mlp P.D0 P.c0 P.D1 P.c1 P.D2 P.c2 P.D3 P.c3 (P.zhat x))
/-- The first columns of a row, and the last. -/
def head {α : Type} (y : Fin 786 → α) (i : Fin 768) : α := y ⟨i.val, by have := i.isLt; omega⟩
def tail {α : Type} (y : Fin 786 → α) (i : Fin 18) : α := y ⟨768 + i.val, by have := i.isLt; omega⟩
/-- The first columns normalised once more. -/
def yc : Fin 768 → EReal := normed guard (head (P.y x))
/-- The squared error of the first columns. -/
def mse : EReal := ∑ i, (P.yc x i - head x i) * (P.yc x i - head x i)
/-- Cross entropy of one logit. -/
def ce (l v : EReal) : EReal := (max l 0 - l * v) + Ideal.log (1 + Ideal.exp (-(max l (-l))))
/-- The reconstruction loss. -/
def recon : EReal := P.mse x + ∑ i, ce (tail (P.y x) i) (tail x i)
/-- The squared error of one level. -/
def sq (e ρ : Fin 128 → ℝ) : ℝ := ∑ i, (e i - ρ i) * (e i - ρ i)
/-- The quantisation loss. -/
def q : ℝ := 5 / 4 * sq (P.e0 x) (P.ρ0 x) + 5 / 4 * sq (P.e1 x) (P.ρ1 x) + 5 / 4 * sq (P.e2 x) (P.ρ2 x)
/-- The embeddings' norms. -/
def norms : Fin 3 → EReal := ![nrm fun i => (P.e0 x i : EReal), nrm fun i => (P.e1 x i : EReal), nrm fun i => (P.e2 x i : EReal)]
/-- The nearest codes packed in one word. -/
def key : BitVec 32 := ((0#32 * 1024#32 + BitVec.ofNat 32 (P.id0 x).val) * 1024#32 + BitVec.ofNat 32 (P.id1 x).val) * 1024#32 + BitVec.ofNat 32 (P.id2 x).val

variable {P} {x}

/-- The temperature is the embedding of its real part. -/
theorem Good.t_eq (h : P.Good) : P.t = (P.τ : EReal) := by
  obtain ⟨τ, -, ht⟩ := h.t
  unfold Par.τ; rw [ht]; rfl
/-- The temperature is positive. -/
theorem Good.τ_pos (h : P.Good) : 0 < P.τ := by
  obtain ⟨τ, h0, ht⟩ := h.t
  unfold Par.τ; rw [ht]; exact h0
/-- The first codebook's entries are the embeddings of their real parts. -/
theorem Good.cb0_eq (h : P.Good) (j i) : P.cb0 j i = (P.γ0 j i : EReal) := (h.cb0 j i).coe_toReal.symm
/-- The second codebook's entries are the embeddings of their real parts. -/
theorem Good.cb1_eq (h : P.Good) (j i) : P.cb1 j i = (P.γ1 j i : EReal) := (h.cb1 j i).coe_toReal.symm
/-- The third codebook's entries are the embeddings of their real parts. -/
theorem Good.cb2_eq (h : P.Good) (j i) : P.cb2 j i = (P.γ2 j i : EReal) := (h.cb2 j i).coe_toReal.symm
/-- A real row's code is real. -/
theorem Good.z_eq (h : P.Good) (hx : ∀ k, IsReal (x k)) (i) : P.z x i = (P.ρ0 x i : EReal) :=
  (IsReal.mlp h.W0 h.b0 h.W1 h.b1 h.W2 h.b2 h.W3 h.b3 hx i).coe_toReal.symm

/-- The packed words agree exactly where the nearest codes do. -/
theorem key_inj {x' : Fin 786 → EReal} : P.key x = P.key x' ↔ P.ids x = P.ids x' := by
  refine ⟨fun h => ?_, fun h => ?_⟩
  · obtain ⟨h0, h1, h2⟩ := pack_inj h
    exact Prod.ext h0 (Prod.ext h1 h2)
  · have h0 : P.id0 x = P.id0 x' := congrArg (fun p => p.1) h
    have h1 : P.id1 x = P.id1 x' := congrArg (fun p => p.2.1) h
    have h2 : P.id2 x = P.id2 x' := congrArg (fun p => p.2.2) h
    unfold key
    rw [h0, h1, h2]

end Par

/-! ## The whole batch -/

variable (P : Par) (X : Fin 4096 → Fin 786 → EReal)

/-- The mean reconstruction loss. -/
def reconMean : EReal := Ideal.div (∑ r, P.recon (X r)) ((4096 : ℝ) : EReal)
/-- The mean quantisation loss. -/
def qMean : EReal := Ideal.div (∑ r, (P.q (X r) : EReal)) ((4096 : ℝ) : EReal)
/-- The share of distinct code triples. -/
def uniqueShare : EReal := (((Finset.univ.image fun r => P.ids (X r)).card / 4096 : ℝ) : EReal)

end Cert.Rq
-- ==== Proof.BlockVals.lean ====
module

public import proofs.«01_k».proof.Proof.Frame.Blocks
public import proofs.«01_k».proof.Proof.Spec

/-!
The values one run of the first call's body computes, row by row: those of the quantiser on the block's rows.
-/

set_option maxRecDepth 16384

@[expose] public section

noncomputable section

namespace Cert.KRun

open Cert.KernelIdeal Cert.KernelIdeal.Gen Idealize.ShloMosaic Idealize.ShloMosaic.ValueIdx Cert.Rq

/-- The blocks hold the quantiser's parameters. -/
structure Holds (b : Blocks Ideal) (P : Par) : Prop where
  t : b.x0 (ix2 0 0) = P.t
  W0 : row b.x2 = P.W0
  b0 : row b.x3 0 = P.b0
  W1 : row b.x4 = P.W1
  b1 : row b.x5 0 = P.b1
  W2 : row b.x6 = P.W2
  b2 : row b.x7 0 = P.b2
  W3 : row b.x8 = P.W3
  b3 : row b.x9 0 = P.b3
  D0 : row b.x10 = P.D0
  c0 : row b.x11 0 = P.c0
  D1 : row b.x12 = P.D1
  c1 : row b.x13 0 = P.c1
  D2 : row b.x14 = P.D2
  c2 : row b.x15 0 = P.c2
  D3 : row b.x16 = P.D3
  c3 : row b.x17 0 = P.c3
  cbT0 : ∀ j i, b.x18 (ix2 i j) = P.cb0 j i
  cb0 : ∀ j i, b.x19 (ix2 j i) = P.cb0 j i
  cbT1 : ∀ j i, b.x20 (ix2 i j) = P.cb1 j i
  cb1 : ∀ j i, b.x21 (ix2 j i) = P.cb1 j i
  cbT2 : ∀ j i, b.x22 (ix2 i j) = P.cb2 j i
  cb2 : ∀ j i, b.x23 (ix2 j i) = P.cb2 j i

variable {b : Blocks Ideal} {P : Par} (H : Holds b P)

include H

/-- The factors of the codebooks and of their squared norms. -/
theorem v54_val : b.v54 (ix2 0 0) = Ideal.div ((2 * (Real.log 2)⁻¹ : ℝ) : EReal) P.t := by
  unfold Blocks.v54 k0_pay6 k0_pay5
  rw [← H.t, shapeCast_self]
  exact congrArg (fun f : EReal => Ideal.div f _) (IdealRules.named_const.ideal_named_scalar _ _ _ _ rfl)

/-- The kernel's factor of the codes' squared norms: minus the temperature over four times the logarithm's base change. -/
theorem v58_val : b.v58 (ix2 0 0) = Ideal.div (0 - P.t) ((4 * (Real.log 2)⁻¹ : ℝ) : EReal) := by
  unfold Blocks.v58 k0_pay7 k0_pay5
  rw [← H.t, shapeCast_self]
  exact congrArg₂ (fun a f : EReal => Ideal.div (a - _) f) Ideal.ofBits_zero_f32 (IdealRules.named_const.ideal_named_scalar _ _ _ _ rfl)

/-- The encoder's output. -/
theorem v50_val (r : Fin 1024) (c : Fin 128) : b.v50 (ix2 r c) = P.z (row b.x1 r) c := by
  unfold Blocks.v50 Blocks.v36 k0_pay4 k0_pay3 Par.z mlp
  rw [← H.W0, ← H.b0, ← H.W1, ← H.b1, ← H.W2, ← H.b2, ← H.W3, ← H.b3]
  refine (kLin rfl _ _ _ _ _ _ _ r c).trans ?_
  refine congrArg (fun f => lin _ _ f c) (funext fun k => (kSilu _ _ rfl _).trans (congrArg silu ?_))
  refine (kLin rfl _ _ _ _ _ _ _ r k).trans ?_
  refine congrArg (fun f => lin _ _ f k) (funext fun k => (kSilu _ _ rfl _).trans (congrArg silu ?_))
  refine (kLin rfl _ _ _ _ _ _ _ r k).trans ?_
  refine congrArg (fun f => lin _ _ f k) (funext fun k => (kSilu _ _ rfl _).trans (congrArg silu ?_))
  exact kLin rfl _ _ _ _ _ _ _ r k

variable (hP : P.Good) (r : Fin 1024) (hx : ∀ k, IsReal (row b.x1 r k))

include hP hx

/-- The encoder's code of a row, as a real number. -/
theorem v50_real (c : Fin 128) : b.v50 (ix2 r c) = (P.ρ0 (row b.x1 r) c : EReal) := (v50_val H r c).trans (hP.z_eq hx c)

/-! ## The first level -/

/-- The kernel's shifted scores of the first level. -/
theorem u0_val (j : Fin 1024) : k0_pay15 b.v76 b.v77 (ix2 r j)
    = kshift (P.τ : EReal) (fun i => (P.ρ0 (row b.x1 r) i : EReal)) (fun j i => (P.γ0 j i : EReal)) j := by
  have hs : ∀ c, addf b.v77 b.v76 (ix2 r c) = kscore (P.τ : EReal) (fun i => (P.ρ0 (row b.x1 r) i : EReal)) (fun j i => (P.γ0 j i : EReal)) c := fun c => by
    refine (kScore (prec := none) rfl b.v54 b.v58 b.v50 b.x18 P.t (v54_val H) (v58_val H) broadcasts_S1x1_S1x1024 broadcasts_S1x1_S128x1024 shapeCasts_S128x1024_S128x1024 reduces_S128x1024_S1024 shapeCasts_S1024_S1x1024 broadcasts_S1x1024_S1024x1024 bitsLt_bf16_f32 bitsLt_bf16_f32 (.inl rfl) rfl r c).trans ?_
    rw [hP.t_eq]
    refine congrArg₂ (fun f g => kscore _ f g c) (funext fun i => v50_real H hP r hx i) (funext fun j => funext fun i => ?_)
    rw [H.cbT0, hP.cb0_eq]
  refine (kShift _ _ _ _ _ _ r j).trans ?_
  unfold kshift
  rw [hs]
  exact congrArg (fun f => _ - (Finset.univ : Finset (Fin 1024)).fold max ⊥ f) (funext hs)

/-- The kernel's embedding of the first level. -/
theorem e0_val (i : Fin 128) : k0_pay16 b.v76 b.v77 b.x19 (ix2 r i) = (P.e0 (row b.x1 r) i : EReal) := by
  refine (kEmb rfl _ _ _ _ _ _ _ _ _ r i).trans ?_
  simp only [H.cb0, hP.cb0_eq]
  exact kernel_level_emb hP.τ_pos (P.ρ0 (row b.x1 r)) P.γ0 (u0_val H hP r hx) i

/-- The kernel's key after the first level. -/
theorem v106_val : b.v106 (ix2 r 0) = 0#32 * 1024#32 + BitVec.ofNat 32 (P.id0 (row b.x1 r)).val := by
  refine congrArg (0#32 * 1024#32 + ·) ((kFold _ _ _ _ r 0).trans ?_)
  exact kernel_level_ids hP.τ_pos (P.ρ0 (row b.x1 r)) P.γ0 (u0_val H hP r hx)
    (fun j => (kWord (k0_pay15 b.v76 b.v77) _ r j).1) (fun j => (kWord (k0_pay15 b.v76 b.v77) _ r j).2)

/-- The kernel's residual after the first level. -/
theorem v118_val (i : Fin 128) : b.v118 (ix2 r i) = (P.ρ1 (row b.x1 r) i : EReal) := by
  show b.v50 (ix2 r i) - k0_pay16 b.v76 b.v77 b.x19 (ix2 r i) = _
  rw [v50_real H hP r hx, e0_val H hP r hx, ← EReal.coe_sub]; rfl

/-! ## The second level -/

/-- The kernel's shifted scores of the second level. -/
theorem u1_val (j : Fin 1024) : k0_pay22 b.v54 b.v58 b.v118 b.x20 (ix2 r j)
    = kshift (P.τ : EReal) (fun i => (P.ρ1 (row b.x1 r) i : EReal)) (fun j i => (P.γ1 j i : EReal)) j := by
  refine (kShift _ _ _ _ _ _ r j).trans ?_
  have hs : ∀ c, _ = kscore (P.τ : EReal) (fun i => (P.ρ1 (row b.x1 r) i : EReal)) (fun j i => (P.γ1 j i : EReal)) c := fun c => by
    refine (kScore (prec := none) rfl b.v54 b.v58 b.v118 b.x20 P.t (v54_val H) (v58_val H) broadcasts_S1x1_S1x1024 broadcasts_S1x1_S128x1024 shapeCasts_S128x1024_S128x1024 reduces_S128x1024_S1024 shapeCasts_S1024_S1x1024 broadcasts_S1x1024_S1024x1024 bitsLt_bf16_f32 bitsLt_bf16_f32 (.inl rfl) rfl r c).trans ?_
    rw [hP.t_eq]
    refine congrArg₂ (fun f g => kscore _ f g c) (funext fun i => v118_val H hP r hx i) (funext fun j => funext fun i => ?_)
    rw [H.cbT1, hP.cb1_eq]
  unfold kshift
  exact congrArg₂ (fun a f => a - (Finset.univ : Finset (Fin 1024)).fold max ⊥ f) (hs j) (funext hs)

/-- The kernel's embedding of the second level. -/
theorem e1_val (i : Fin 128) : b.v148 (ix2 r i) = (P.e1 (row b.x1 r) i : EReal) := by
  refine (kEmb rfl _ _ _ _ _ _ _ _ _ r i).trans ?_
  simp only [H.cb1, hP.cb1_eq]
  exact kernel_level_emb hP.τ_pos (P.ρ1 (row b.x1 r)) P.γ1 (u1_val H hP r hx) i

/-- The kernel's key after the second level. -/
theorem v161_val : b.v161 (ix2 r 0)
    = (0#32 * 1024#32 + BitVec.ofNat 32 (P.id0 (row b.x1 r)).val) * 1024#32 + BitVec.ofNat 32 (P.id1 (row b.x1 r)).val := by
  refine congrArg₂ (fun a c => a * 1024#32 + c) (v106_val H hP r hx) ((kFold _ _ _ _ r 0).trans ?_)
  exact kernel_level_ids hP.τ_pos (P.ρ1 (row b.x1 r)) P.γ1 (u1_val H hP r hx)
    (fun j => (kWord (k0_pay22 b.v54 b.v58 b.v118 b.x20) _ r j).1) (fun j => (kWord (k0_pay22 b.v54 b.v58 b.v118 b.x20) _ r j).2)

/-- The kernel's residual after the second level. -/
theorem v173_val (i : Fin 128) : b.v173 (ix2 r i) = (P.ρ2 (row b.x1 r) i : EReal) := by
  show b.v118 (ix2 r i) - b.v148 (ix2 r i) = _
  rw [v118_val H hP r hx, e1_val H hP r hx, ← EReal.coe_sub]; rfl

/-! ## The third level -/

/-- The kernel's shifted scores of the third level. -/
theorem u2_val (j : Fin 1024) : k0_pay30 b.v54 b.v58 b.v118 b.v148 b.x22 (ix2 r j)
    = kshift (P.τ : EReal) (fun i => (P.ρ2 (row b.x1 r) i : EReal)) (fun j i => (P.γ2 j i : EReal)) j := by
  refine (kShift _ _ _ _ _ _ r j).trans ?_
  have hs : ∀ c, _ = kscore (P.τ : EReal) (fun i => (P.ρ2 (row b.x1 r) i : EReal)) (fun j i => (P.γ2 j i : EReal)) c := fun c => by
    refine (kScore (prec := none) rfl b.v54 b.v58 b.v173 b.x22 P.t (v54_val H) (v58_val H) broadcasts_S1x1_S1x1024 broadcasts_S1x1_S128x1024 shapeCasts_S128x1024_S128x1024 reduces_S128x1024_S1024 shapeCasts_S1024_S1x1024 broadcasts_S1x1024_S1024x1024 bitsLt_bf16_f32 bitsLt_bf16_f32 (.inl rfl) rfl r c).trans ?_
    rw [hP.t_eq]
    refine congrArg₂ (fun f g => kscore _ f g c) (funext fun i => v173_val H hP r hx i) (funext fun j => funext fun i => ?_)
    rw [H.cbT2, hP.cb2_eq]
  unfold kshift
  exact congrArg₂ (fun a f => a - (Finset.univ : Finset (Fin 1024)).fold max ⊥ f) (hs j) (funext hs)

/-- The kernel's embedding of the third level. -/
theorem e2_val (i : Fin 128) : b.v203 (ix2 r i) = (P.e2 (row b.x1 r) i : EReal) := by
  refine (kEmb rfl _ _ _ _ _ _ _ _ _ r i).trans ?_
  simp only [H.cb2, hP.cb2_eq]
  exact kernel_level_emb hP.τ_pos (P.ρ2 (row b.x1 r)) P.γ2 (u2_val H hP r hx) i

/-- The key. -/
theorem key_val : b.v216 (ix2 r 0) = P.key (row b.x1 r) := by
  refine congrArg₂ (fun a c => a * 1024#32 + c) (v161_val H hP r hx) ((kFold _ _ _ _ r 0).trans ?_)
  exact kernel_level_ids hP.τ_pos (P.ρ2 (row b.x1 r)) P.γ2 (u2_val H hP r hx)
    (fun j => (kWord (k0_pay30 b.v54 b.v58 b.v118 b.v148 b.x22) _ r j).1) (fun j => (kWord (k0_pay30 b.v54 b.v58 b.v118 b.v148 b.x22) _ r j).2)

/-! ## Losses and norms -/

omit H hP hx in
/-- The squared error of a level, where both rows are real. -/
theorem sq_val {n : ℕ} (e p : FVec Ideal ⟨2, ![n, 128]⟩ .f32) (h hφ hacc hc) (r : Fin n) {e' p' : Fin 128 → ℝ}
    (he : ∀ i, e (ix2 r i) = (e' i : EReal)) (hp : ∀ i, p (ix2 r i) = (p' i : EReal)) :
    shapeCast ⟨2, ![n, 1]⟩ (multiReduction .add [1] ⟨1, ![n]⟩ (mulf (subf e p) (subf e p)) 0x00000000#32 h hφ hacc) hc (ix2 r 0)
      = (Par.sq e' p' : EReal) := by
  refine (kSq (subf e p) h hφ hacc hc r 0).trans ?_
  unfold Par.sq
  rw [coe_sum]
  refine Finset.sum_congr rfl fun i _ => ?_
  rw [subf_apply, he, hp, ← EReal.coe_sub, ← EReal.coe_mul]

/-- The quantisation loss. -/
theorem q_val : b.v223 (ix2 r 0) = (P.q (row b.x1 r) : EReal) := by
  have h0 : b.v113 (ix2 r 0) = ((0 + 5 / 4 * Par.sq (P.e0 (row b.x1 r)) (P.ρ0 (row b.x1 r)) : ℝ) : EReal) := by
    have := sq_val (k0_pay16 b.v76 b.v77 b.x19) b.v50 reduces_S1024x128_S1024 (.inl rfl) rfl shapeCasts_S1024_S1024x1 r (e0_val H hP r hx) (v50_real H hP r hx)
    rw [EReal.coe_add, EReal.coe_mul, ← this, EReal.coe_zero, ← Ideal.ofBits_zero_f32, ← lit_five_quarters]
    rfl
  have h1 : b.v168 (ix2 r 0) = ((0 + 5 / 4 * Par.sq (P.e0 (row b.x1 r)) (P.ρ0 (row b.x1 r)) + 5 / 4 * Par.sq (P.e1 (row b.x1 r)) (P.ρ1 (row b.x1 r)) : ℝ) : EReal) := by
    have := sq_val b.v148 b.v118 reduces_S1024x128_S1024 (.inl rfl) rfl shapeCasts_S1024_S1024x1 r (e1_val H hP r hx) (v118_val H hP r hx)
    rw [EReal.coe_add, ← h0, EReal.coe_mul, ← this, ← lit_five_quarters]
    rfl
  have := sq_val b.v203 b.v173 reduces_S1024x128_S1024 (.inl rfl) rfl shapeCasts_S1024_S1024x1 r (e2_val H hP r hx) (v173_val H hP r hx)
  have hq : P.q (row b.x1 r) = (0 + 5 / 4 * Par.sq (P.e0 (row b.x1 r)) (P.ρ0 (row b.x1 r)) + 5 / 4 * Par.sq (P.e1 (row b.x1 r)) (P.ρ1 (row b.x1 r)))
      + 5 / 4 * Par.sq (P.e2 (row b.x1 r)) (P.ρ2 (row b.x1 r)) := by unfold Par.q; ring
  rw [hq, EReal.coe_add, ← h1, EReal.coe_mul, ← this, ← lit_five_quarters]
  rfl

omit H hP hx in
/-- The norm of an embedding. -/
theorem nrm_val {n m : ℕ} (e : FVec Ideal ⟨2, ![n, m]⟩ .f32) (h hφ hacc hc) (r : Fin n) {f : Fin m → EReal} (he : ∀ i, e (ix2 r i) = f i) :
    sqrt (shapeCast ⟨2, ![n, 1]⟩ (multiReduction .add [1] ⟨1, ![n]⟩ (mulf e e) 0x00000000#32 h hφ hacc) hc) (ix2 r 0) = nrm f := by
  refine (congrArg Ideal.sqrt (kSq e h hφ hacc hc r 0)).trans ?_
  unfold nrm
  simp only [he]

/-- The embeddings' norms. -/
theorem norms_val (l : Fin 3) : b.norms (ix2 r l) = P.norms (row b.x1 r) l := by
  have h0 : b.v117 (ix2 r 0) = _ := nrm_val (k0_pay16 b.v76 b.v77 b.x19) reduces_S1024x128_S1024 (.inl rfl) rfl shapeCasts_S1024_S1024x1 r (e0_val H hP r hx)
  have h1 : b.v172 (ix2 r 0) = _ := nrm_val b.v148 reduces_S1024x128_S1024 (.inl rfl) rfl shapeCasts_S1024_S1024x1 r (e1_val H hP r hx)
  have h2 : b.v227 (ix2 r 0) = _ := nrm_val b.v203 reduces_S1024x128_S1024 (.inl rfl) rfl shapeCasts_S1024_S1024x1 r (e2_val H hP r hx)
  have off : ∀ (j : Fin 3) (c : Fin 2), c.cast (rfl : S1024x1.rank = S1024x3.rank) ≠ 1 →
      ((ix2 r 0 : S1024x1.Idx) c).val = ((ix2 r j : S1024x3.Idx) (c.cast rfl)).val := fun j c hc => by
    match c with
    | ⟨0, _⟩ => rfl
    | ⟨1, _⟩ => exact absurd rfl hc
  let xs : List ((s : Shape) × (s.Idx → Ideal .f32)) := [⟨S1024x1, b.v117⟩, ⟨S1024x1, b.v172⟩, ⟨S1024x1, b.v227⟩]
  have hc := concatenates_S1024x1_S1024x1_S1024x1_S1024x3_d1
  match l with
  | 0 => exact (concatenate_apply_piece (t := S1024x3) 1 xs hc (ix2 r 0) 0 (show 0 < 3 by decide) S1024x1 b.v117 rfl rfl 0 rfl (ix2 r 0) (off 0) rfl).trans h0
  | 1 => exact (concatenate_apply_piece (t := S1024x3) 1 xs hc (ix2 r 1) 1 (show 1 < 3 by decide) S1024x1 b.v172 rfl rfl 1 rfl (ix2 r 0) (off 1) rfl).trans h1
  | 2 => exact (concatenate_apply_piece (t := S1024x3) 1 xs hc (ix2 r 2) 2 (show 2 < 3 by decide) S1024x1 b.v227 rfl rfl 2 rfl (ix2 r 0) (off 2) rfl).trans h2

/-- The key as a row. -/
theorem keyT_val : b.keyT (ix2 0 r) = P.key (row b.x1 r) := (transpose2 b.v216 _ 0 r).trans (key_val H hP r hx)

/-! ## The decoder -/

/-- The quantised row. -/
theorem zhat_val (i : Fin 128) : addf b.v174 b.v203 (ix2 r i) = P.zhat (row b.x1 r) i := by
  show Ideal.ofBits .f32 0x00000000#32 + k0_pay16 b.v76 b.v77 b.x19 (ix2 r i) + b.v148 (ix2 r i) + b.v203 (ix2 r i) = _
  rw [Ideal.ofBits_zero_f32, e0_val H hP r hx, e1_val H hP r hx, e2_val H hP r hx, zero_add, ← EReal.coe_add, ← EReal.coe_add]
  rfl

/-- The decoder's second pre-activation. -/
theorem v250_val (c : Fin 512) : b.v250 (ix2 r c) = lin P.D1 P.c1 (fun k => silu (lin P.D0 P.c0 (P.zhat (row b.x1 r)) k)) c := by
  unfold Blocks.v250 k0_pay36
  rw [← H.D0, ← H.c0, ← H.D1, ← H.c1]
  refine (kLin rfl _ _ _ _ _ _ _ r c).trans ?_
  refine congrArg (fun f => lin _ _ f c) (funext fun k => (kSilu _ _ rfl _).trans (congrArg silu ?_))
  refine (kLin rfl _ _ _ _ _ _ _ r k).trans ?_
  exact congrArg (fun f => lin _ _ f k) (funext fun k => zhat_val H hP r hx k)

/-- The decoder's normalised output. -/
theorem y_val (c : Fin 786) : b.v288 (ix2 r c) = P.y (row b.x1 r) c := by
  unfold Blocks.v288 k0_pay38 Par.y
  rw [← H.D2, ← H.c2, ← H.D3, ← H.c3]
  refine (kNormed _ _ rfl _ _ r (nrm_val _ _ _ _ _ r fun _ => rfl) c).trans ?_
  refine congrArg (fun f => normed guard f c) (funext fun k => ?_)
  refine (kLin rfl _ _ _ _ _ _ _ r k).trans ?_
  refine congrArg (fun f => lin _ _ f k) (funext fun k => (kSilu _ _ rfl _).trans (congrArg silu ?_))
  refine (kLin rfl _ _ _ _ _ _ _ r k).trans ?_
  exact congrArg (fun f => lin _ _ f k) (funext fun k => (kSilu _ _ rfl _).trans (congrArg silu (v250_val H hP r hx k)))

omit H hP hx in
/-- The first columns of a block. -/
theorem slice_head {n : ℕ} (x : FVec Ideal ⟨2, ![n, 786]⟩ .f32) (h) (r : Fin n) (c : Fin 768) :
    extractStridedSlice ⟨2, ![n, 768]⟩ ![0, 0] x h (ix2 r c) = Par.head (row x r) c :=
  extractStridedSlice_apply _ x h (ix2 r c) (ix2 r _) fun a => by
    match a with
    | ⟨0, _⟩ => exact (Nat.zero_add _).symm
    | ⟨1, _⟩ => exact (Nat.zero_add _).symm

omit H hP hx in
/-- The last columns of a block. -/
theorem slice_tail {n : ℕ} (x : FVec Ideal ⟨2, ![n, 786]⟩ .f32) (h) (r : Fin n) (c : Fin 18) :
    extractStridedSlice ⟨2, ![n, 18]⟩ ![0, 768] x h (ix2 r c) = Par.tail (row x r) c :=
  extractStridedSlice_apply _ x h (ix2 r c) (ix2 r _) fun a => by
    match a with
    | ⟨0, _⟩ => exact (Nat.zero_add _).symm
    | ⟨1, _⟩ => rfl

/-- The first columns normalised once more. -/
theorem yc_val (hb) (c : Fin 768) :
    mulf b.v289 (broadcastTo S1024x768 (divf (broadcast S1024x1 (Scalar.ofBits (F := Ideal) .f32 0x3F800000#32)) (addf b.v293 (broadcast S1024x1 (Ideal.ofBits .f32 0x2B8CBCCC#32)))) hb) (ix2 r c)
      = P.yc (row b.x1 r) c := by
  have hd : ∀ c, b.v289 (ix2 r c) = Par.head (P.y (row b.x1 r)) c := fun c =>
    (slice_head b.v288 slices_S1024x786_o0_0_S1024x768 r c).trans (y_val H hP r hx _)
  refine (kNormed b.v289 _ rfl b.v293 _ r (nrm_val b.v289 _ _ _ _ r fun _ => rfl) c).trans ?_
  exact congrArg (fun f => normed guard f c) (funext hd)

omit hx

/-- The running reconstruction loss. -/
theorem rsum_val (hx : ∀ r k, IsReal (row b.x1 r k)) (old : FVec Ideal S1x1 .f32) :
    b.rsum old (ix2 0 0) = old (ix2 0 0) + ∑ r, P.recon (row b.x1 r) := by
  unfold Blocks.rsum k0_pay43
  refine congrArg₂ (· + ·) (congrFun (shapeCast_self ..) _) ((castRow _ _ 0 0).trans ((colSum _ _ _ _ 0).trans (Finset.sum_congr rfl fun r _ => ?_)))
  refine congrArg₂ (· + ·) ((kSq _ _ _ _ _ r 0).trans (Finset.sum_congr rfl fun c _ => ?_)) ((castCol _ _ r 0).trans ((rowSum _ _ _ _ r).trans (Finset.sum_congr rfl fun c _ => ?_)))
  · have := congrArg₂ (fun a b : EReal => a - b) (yc_val H hP r (hx r) broadcasts_S1024x1_S1024x768 c) (slice_head b.x1 slices_S1024x786_o0_0_S1024x768 r c)
    exact congrArg₂ (· * ·) this this
  · have hl := (slice_tail b.v288 slices_S1024x786_o0_768_S1024x18 r c).trans (y_val H hP r (hx r) _)
    have hv := slice_tail b.x1 slices_S1024x786_o0_768_S1024x18 r c
    rw [← hv]
    unfold Par.tail Par.ce
    rw [← hl]
    show (max _ (Ideal.ofBits .f32 0x00000000#32) - _) + Ideal.log (Ideal.ofBits .f32 0x3F800000#32 + Ideal.exp (Ideal.ofBits .f32 0x00000000#32 - max _ (-_))) = _
    rw [Ideal.ofBits_zero_f32, Ideal.ofBits_one_f32, zero_sub]
    rfl

/-- The running quantisation loss. -/
theorem qsum_val (hx : ∀ r k, IsReal (row b.x1 r k)) (old : FVec Ideal S1x1 .f32) :
    b.qsum old (ix2 0 0) = old (ix2 0 0) + ∑ r, (P.q (row b.x1 r) : EReal) := by
  unfold Blocks.qsum k0_pay44
  exact congrArg₂ (· + ·) (congrFun (shapeCast_self ..) _) ((castRow _ _ 0 0).trans ((colSum _ _ _ _ 0).trans
    (Finset.sum_congr rfl fun r _ => q_val H hP r (hx r))))

end Cert.KRun
-- ==== Proof.Held.lean ====
module

public import proofs.«01_k».proof.Proof.BlockVals
public import proofs.«01_k».proof.Proof.Frame.Fold
public import Idealize.ShloMosaic.Lib.StableHlo.RunRead
public import Idealize.ShloMosaic.Lib.Pipeline.Value

/-!
What the first call's blocks hold, in terms of the argument arrays: the quantiser's parameters and the batch's rows.
-/

set_option maxRecDepth 16384

@[expose] public section

noncomputable section

namespace Cert.KRun

open Cert.KernelIdeal Cert.KernelIdeal.Gen Idealize.ShloMosaic Idealize.ShloMosaic.TcCoe Idealize.ShloMosaic.ValueIdx Cert.Rq

variable (m : (ℓ : Loc nD τ sig) → Buf (Elt Ideal) ℓ) (ρ : Dev nD → PrngReg) (c : Dev nD)

/-- The quantiser's parameters, as the argument arrays hold them. -/
def par : Par where
  t := m ((c : Thread nD τ).loc main_arg1) ix0
  W0 j k := m ((c : Thread nD τ).loc main_arg2) (ix2 j k)
  b0 j := m ((c : Thread nD τ).loc main_arg3) (ix1 j)
  W1 j k := m ((c : Thread nD τ).loc main_arg4) (ix2 j k)
  b1 j := m ((c : Thread nD τ).loc main_arg5) (ix1 j)
  W2 j k := m ((c : Thread nD τ).loc main_arg6) (ix2 j k)
  b2 j := m ((c : Thread nD τ).loc main_arg7) (ix1 j)
  W3 j k := m ((c : Thread nD τ).loc main_arg8) (ix2 j k)
  b3 j := m ((c : Thread nD τ).loc main_arg9) (ix1 j)
  D0 j k := m ((c : Thread nD τ).loc main_arg10) (ix2 j k)
  c0 j := m ((c : Thread nD τ).loc main_arg11) (ix1 j)
  D1 j k := m ((c : Thread nD τ).loc main_arg12) (ix2 j k)
  c1 j := m ((c : Thread nD τ).loc main_arg13) (ix1 j)
  D2 j k := m ((c : Thread nD τ).loc main_arg14) (ix2 j k)
  c2 j := m ((c : Thread nD τ).loc main_arg15) (ix1 j)
  D3 j k := m ((c : Thread nD τ).loc main_arg16) (ix2 j k)
  c3 j := m ((c : Thread nD τ).loc main_arg17) (ix1 j)
  cb0 j k := m ((c : Thread nD τ).loc main_arg18) (ix2 j k)
  cb1 j k := m ((c : Thread nD τ).loc main_arg19) (ix2 j k)
  cb2 j k := m ((c : Thread nD τ).loc main_arg20) (ix2 j k)

/-- The batch's rows. -/
def rows (r : Fin 4096) (k : Fin 786) : EReal := m ((c : Thread nD τ).loc main_arg0) (ix2 r k)

/-- A block that is the whole array. -/
theorem read_whole {b : Ref sig .tc} {idx : Fin b.ty.shape.rank → ℕ} (h : ∀ a, idx a = 0) (inb) (f : b.ty.Contents (Elt Ideal)) :
    ((Memref.whole b).access (Rect.unit (fun a => idx a * b.ty.shape.size a) b.ty.shape.size inb) : View sig .tc _ _ _).read (Elt Ideal) f = f :=
  Memref.read_access_unit_zero (Elt Ideal) b (funext fun a => by rw [h a, Nat.zero_mul]) inb f

/-- Both offsets of a whole block are zero. -/
theorem zero2 : ∀ a : Fin 2, ![(0#32).toNat, (0#32).toNat] a = 0 := by decide

/-- What the blocks of the parameters hold at every point: casts, reshapes and transposes of the argument arrays. -/
theorem blocks_eq (t : Fin cfg0.N) :
    (blocksAt (V1 m ρ) c t).x0 = shapeCast S1x1 (m ((c : Thread nD τ).loc main_arg1)) shapeCasts_S_S1x1 ∧
    (blocksAt (V1 m ρ) c t).x2 = (truncf .bf16 (m ((c : Thread nD τ).loc main_arg2)) bitsLt_bf16_f32 : FVec Ideal S1024x786 .bf16) ∧
    (blocksAt (V1 m ρ) c t).x3 = shapeCast S1x1024 (m ((c : Thread nD τ).loc main_arg3)) shapeCasts_S1024_S1x1024 ∧
    (blocksAt (V1 m ρ) c t).x4 = (truncf .bf16 (m ((c : Thread nD τ).loc main_arg4)) bitsLt_bf16_f32 : FVec Ideal S512x1024 .bf16) ∧
    (blocksAt (V1 m ρ) c t).x5 = shapeCast S1x512 (m ((c : Thread nD τ).loc main_arg5)) shapeCasts_S512_S1x512 ∧
    (blocksAt (V1 m ρ) c t).x6 = (truncf .bf16 (m ((c : Thread nD τ).loc main_arg6)) bitsLt_bf16_f32 : FVec Ideal S256x512 .bf16) ∧
    (blocksAt (V1 m ρ) c t).x7 = shapeCast S1x256 (m ((c : Thread nD τ).loc main_arg7)) shapeCasts_S256_S1x256 ∧
    (blocksAt (V1 m ρ) c t).x8 = (truncf .bf16 (m ((c : Thread nD τ).loc main_arg8)) bitsLt_bf16_f32 : FVec Ideal S128x256 .bf16) ∧
    (blocksAt (V1 m ρ) c t).x9 = shapeCast S1x128 (m ((c : Thread nD τ).loc main_arg9)) shapeCasts_S128_S1x128 ∧
    (blocksAt (V1 m ρ) c t).x10 = (truncf .bf16 (m ((c : Thread nD τ).loc main_arg10)) bitsLt_bf16_f32 : FVec Ideal S256x128 .bf16) ∧
    (blocksAt (V1 m ρ) c t).x11 = shapeCast S1x256 (m ((c : Thread nD τ).loc main_arg11)) shapeCasts_S256_S1x256 ∧
    (blocksAt (V1 m ρ) c t).x12 = (truncf .bf16 (m ((c : Thread nD τ).loc main_arg12)) bitsLt_bf16_f32 : FVec Ideal S512x256 .bf16) ∧
    (blocksAt (V1 m ρ) c t).x13 = shapeCast S1x512 (m ((c : Thread nD τ).loc main_arg13)) shapeCasts_S512_S1x512 ∧
    (blocksAt (V1 m ρ) c t).x14 = (truncf .bf16 (m ((c : Thread nD τ).loc main_arg14)) bitsLt_bf16_f32 : FVec Ideal S1024x512 .bf16) ∧
    (blocksAt (V1 m ρ) c t).x15 = shapeCast S1x1024 (m ((c : Thread nD τ).loc main_arg15)) shapeCasts_S1024_S1x1024 ∧
    (blocksAt (V1 m ρ) c t).x16 = (truncf .bf16 (m ((c : Thread nD τ).loc main_arg16)) bitsLt_bf16_f32 : FVec Ideal S786x1024 .bf16) ∧
    (blocksAt (V1 m ρ) c t).x17 = shapeCast S1x786 (m ((c : Thread nD τ).loc main_arg17)) shapeCasts_S786_S1x786 ∧
    (blocksAt (V1 m ρ) c t).x18 = transpose S128x1024 [1, 0] (m ((c : Thread nD τ).loc main_arg18)) transposes_S1024x128_S128x1024_1_0 ∧
    (blocksAt (V1 m ρ) c t).x19 = (truncf .bf16 (m ((c : Thread nD τ).loc main_arg18)) bitsLt_bf16_f32 : FVec Ideal S1024x128 .bf16) ∧
    (blocksAt (V1 m ρ) c t).x20 = transpose S128x1024 [1, 0] (m ((c : Thread nD τ).loc main_arg19)) transposes_S1024x128_S128x1024_1_0 ∧
    (blocksAt (V1 m ρ) c t).x21 = (truncf .bf16 (m ((c : Thread nD τ).loc main_arg19)) bitsLt_bf16_f32 : FVec Ideal S1024x128 .bf16) ∧
    (blocksAt (V1 m ρ) c t).x22 = transpose S128x1024 [1, 0] (m ((c : Thread nD τ).loc main_arg20)) transposes_S1024x128_S128x1024_1_0 ∧
    (blocksAt (V1 m ρ) c t).x23 = (truncf .bf16 (m ((c : Thread nD τ).loc main_arg20)) bitsLt_bf16_f32 : FVec Ideal S1024x128 .bf16) := by
  refine ⟨?_, ?_, ?_, ?_, ?_, ?_, ?_, ?_, ?_, ?_, ?_, ?_, ?_, ?_, ?_, ?_, ?_, ?_, ?_, ?_, ?_, ?_, ?_⟩
  all_goals
    dsimp only [blocksAt]
    refine Eq.trans (read_whole ?_ _ _) ?_
    · exact zero2
    dsimp only [V1, W1]
    after_reads_simp
  all_goals rfl

/-- A rounded matrix's rows. -/
theorem row_of_trunc {n k : ℕ} {x : FVec Ideal ⟨2, ![n, k]⟩ .bf16} {a : FVec Ideal ⟨2, ![n, k]⟩ .f32} {hb} (h : x = truncf .bf16 a hb) :
    row x = fun j i => a (ix2 j i) := by subst h; rfl
/-- A reshaped list's row. -/
theorem row_of_cast {k : ℕ} {x : FVec Ideal ⟨2, ![1, k]⟩ .f32} {a : FVec Ideal ⟨1, ![k]⟩ .f32} {hb} (h : x = shapeCast _ a hb) :
    row x 0 = fun j => a (ix1 j) := by subst h; exact funext fun j => castRow a hb 0 j
/-- A transposed matrix's entries. -/
theorem of_transpose {n k : ℕ} {x : FVec Ideal ⟨2, ![n, k]⟩ .f32} {a : FVec Ideal ⟨2, ![k, n]⟩ .f32} {hb} (h : x = transpose _ [1, 0] a hb) (i j) :
    x (ix2 i j) = a (ix2 j i) := by subst h; exact transpose2 a hb i j

/-- The blocks hold the quantiser's parameters. -/
theorem holds (t : Fin cfg0.N) : Holds (blocksAt (V1 m ρ) c t) (par m c) := by
  obtain ⟨h0, h2, h3, h4, h5, h6, h7, h8, h9, h10, h11, h12, h13, h14, h15, h16, h17, h18, h19, h20, h21, h22, h23⟩ := blocks_eq m ρ c t
  exact {
    t := (congrFun h0 _).trans (shapeCast_apply _ _ (ix2 0 0) ix0 rfl)
    W0 := row_of_trunc h2
    b0 := row_of_cast h3
    W1 := row_of_trunc h4
    b1 := row_of_cast h5
    W2 := row_of_trunc h6
    b2 := row_of_cast h7
    W3 := row_of_trunc h8
    b3 := row_of_cast h9
    D0 := row_of_trunc h10
    c0 := row_of_cast h11
    D1 := row_of_trunc h12
    c1 := row_of_cast h13
    D2 := row_of_trunc h14
    c2 := row_of_cast h15
    D3 := row_of_trunc h16
    c3 := row_of_cast h17
    cbT0 j i := of_transpose h18 i j
    cb0 j i := congrFun (congrFun (row_of_trunc h19) j) i
    cbT1 j i := of_transpose h20 i j
    cb1 j i := congrFun (congrFun (row_of_trunc h21) j) i
    cbT2 j i := of_transpose h22 i j
    cb2 j i := congrFun (congrFun (row_of_trunc h23) j) i }

/-- The row of the batch that a row of a block is. -/
def rowAt (t : Fin cfg0.N) (r : Fin 1024) : Fin 4096 := ⟨1024 * t.val + r.val, by have := lt_of_lt_of_eq t.isLt N_0; have := r.isLt; omega⟩

/-- The first call's block of rows number `t` is the `t`-th. -/
theorem index1 : ∀ t : Fin cfg0.N, win0_1.index t 0 = t.val := by decide +kernel

/-- A row of the first call's block of rows, read from its array. -/
theorem x1_read (V : (c : Dev nD) → (b : Ref sig .tc) → Buf (Elt Ideal) ((c : Thread nD τ).loc b)) (t : Fin cfg0.N) (r : Fin 1024) (k : Fin 786) :
    iblk0 V c 1 t (ix2 r k) = V c main_arg0 (ix2 (rowAt t r) k) := by
  unfold iblk0
  rw [View.read_apply]
  refine congrArg (V c main_arg0) (funext fun a => Fin.ext ?_)
  match a with
  | ⟨0, _⟩ =>
    show win0_1.index t 0 * 1024 + 1 * r.val = 1024 * t.val + r.val
    rw [index1]; omega
  | ⟨1, _⟩ =>
    show win0_1.index t 1 * 786 + 1 * k.val = k.val
    rw [show win0_1.index t 1 = 0 from rfl]; omega

/-- The first call's block of rows. -/
theorem x1_val (t : Fin cfg0.N) (r : Fin 1024) : row (blocksAt (V1 m ρ) c t).x1 r = rows m c (rowAt t r) :=
  funext fun k => (x1_read c (V1 m ρ) t r k).trans (congrFun (W1_args m ρ c main_arg0 (by decide)) _)

end Cert.KRun
-- ==== Proof.Frame.Outs0.lean ====
module

public import proofs.«01_k».proof.Proof.Frame.Blocks

/-!
What the outputs' blocks hold after each point of the first call, as functions of the blocks read.
-/

set_option maxRecDepth 16384

@[expose] public section

noncomputable section

namespace Cert.KRun

open Cert.KernelIdeal Cert.KernelIdeal.Gen Idealize.ShloMosaic Idealize.ShloMosaic.TcCoe Idealize.ShloMosaic.Tactic

variable {F : FTy → Type} [FloatOps F] [Named F]

variable (V : (c : Dev nD) → (b : Ref sig .tc) → Buf (Elt F) ((c : Thread nD τ).loc b))

set_option maxHeartbeats 4000000 in
/-- The outputs' blocks after a point that is not the first. -/
theorem outs_B (c : Dev nD) (t : Fin cfg0.N) (h0 : ¬t.val % 4 = 0) :
    outsAt0 V c t.val t.isLt = ((blocksAt V c t).rsum (outsAt0 V c (t.val - 1) (by omega)).1,
      (blocksAt V c t).qsum (outsAt0 V c (t.val - 1) (by omega)).2.1, (blocksAt V c t).norms, (blocksAt V c t).v216, (blocksAt V c t).keyT) := by
  rw [outsAt0_B V c t h0]
  refine Prod.ext ?_ (Prod.ext ?_ (Prod.ext ?_ (Prod.ext ?_ ?_)))
  all_goals dsimp only
  · unfold out0_B_24
    rw [View.read_writes_eq_canon _ _ _ (fun y => cover0_B_24 (F := F) (y := y) ..)]
    unfold kernelRun0_B
    dsimp only
    sl_unfold_words
    rw [View.canon_unit_zero hz2]
    simp only [load_whole]
    rfl
  · unfold out0_B_25
    rw [View.read_writes_eq_canon _ _ _ (fun y => cover0_B_25 (F := F) (y := y) ..)]
    unfold kernelRun0_B
    dsimp only
    sl_unfold_words
    rw [View.canon_unit_zero hz2]
    simp only [load_whole]
    rfl
  · unfold out0_B_26
    rw [View.read_writes_eq_canon _ _ _ (fun y => cover0_B_26 (F := F) (y := y) ..)]
    unfold kernelRun0_B
    dsimp only
    sl_unfold_words
    rw [View.canon_unit_zero hz2]
    simp only [load_whole]
    rfl
  · unfold out0_B_27
    rw [View.read_writes_eq_canon _ _ _ (fun y => cover0_B_27 (F := F) (y := y) ..)]
    unfold kernelRun0_B
    dsimp only
    sl_unfold_words
    rw [View.canon_unit_zero hz2]
    simp only [load_whole]
    rfl
  · unfold out0_B_28
    rw [View.read_writes_eq_canon _ _ _ (fun y => cover0_B_28 (F := F) (y := y) ..)]
    unfold kernelRun0_B
    dsimp only
    sl_unfold_words
    rw [View.canon_unit_zero hz2]
    simp only [load_whole]
    rfl

set_option maxHeartbeats 4000000 in
/-- The outputs' blocks after the first point. -/
theorem outs_A (c : Dev nD) (t : Fin cfg0.N) (h0 : t.val % 4 = 0) :
    outsAt0 V c t.val t.isLt = ((blocksAt V c t).rsum k0_pay41,
      (blocksAt V c t).qsum k0_pay42, (blocksAt V c t).norms, (blocksAt V c t).v216, (blocksAt V c t).keyT) := by
  rw [outsAt0_A V c t h0]
  refine Prod.ext ?_ (Prod.ext ?_ (Prod.ext ?_ (Prod.ext ?_ ?_)))
  all_goals dsimp only
  · unfold out0_A_24
    rw [View.read_writes_eq_canon _ _ _ (fun y => cover0_A_24 (F := F) (y := y) ..)]
    unfold kernelRun0_A
    dsimp only
    sl_unfold_words
    rw [View.canon_cons_unit_zero hz2, View.readCov_unit_zero _ hz2]
    simp only [load_whole]
    rfl
  · unfold out0_A_25
    rw [View.read_writes_eq_canon _ _ _ (fun y => cover0_A_25 (F := F) (y := y) ..)]
    unfold kernelRun0_A
    dsimp only
    sl_unfold_words
    rw [View.canon_cons_unit_zero hz2, View.readCov_unit_zero _ hz2]
    simp only [load_whole]
    rfl
  · unfold out0_A_26
    rw [View.read_writes_eq_canon _ _ _ (fun y => cover0_A_26 (F := F) (y := y) ..)]
    unfold kernelRun0_A
    dsimp only
    sl_unfold_words
    rw [View.canon_unit_zero hz2]
    simp only [load_whole]
    rfl
  · unfold out0_A_27
    rw [View.read_writes_eq_canon _ _ _ (fun y => cover0_A_27 (F := F) (y := y) ..)]
    unfold kernelRun0_A
    dsimp only
    sl_unfold_words
    rw [View.canon_unit_zero hz2]
    simp only [load_whole]
    rfl
  · unfold out0_A_28
    rw [View.read_writes_eq_canon _ _ _ (fun y => cover0_A_28 (F := F) (y := y) ..)]
    unfold kernelRun0_A
    dsimp only
    sl_unfold_words
    rw [View.canon_unit_zero hz2]
    simp only [load_whole]
    rfl

end Cert.KRun
-- ==== Proof.Final0.lean ====
module

public import proofs.«01_k».proof.Proof.Held
public import proofs.«01_k».proof.Proof.Frame.Outs0

/-!
What the first call's result arrays hold at the end: the two summed losses, the embeddings' norms and the packed codes.
-/

set_option maxRecDepth 16384

@[expose] public section

noncomputable section

namespace Cert.KRun

open Cert.KernelIdeal Cert.KernelIdeal.Gen Idealize.ShloMosaic Idealize.ShloMosaic.TcCoe Idealize.ShloMosaic.ValueIdx Cert.Rq

/-- The only index of a single entry. -/
theorem ix_one (j : S1x1.Idx) : j = ix2 (n0 := 1) (n1 := 1) 0 0 :=
  funext fun a => match a with
    | ⟨0, _⟩ => Subsingleton.elim (α := Fin 1) _ _
    | ⟨1, _⟩ => Subsingleton.elim (α := Fin 1) _ _

/-- A sum cut into blocks. -/
theorem sum_blocks {a b n : ℕ} (h : n = a * b) (g : Fin n → EReal) :
    ∑ r, g r = ∑ i : Fin a, ∑ j : Fin b, g ⟨b * i.val + j.val, by
      have := i.isLt; have := j.isLt
      calc b * i.val + j.val < b * i.val + b := by omega
        _ = b * (i.val + 1) := by ring
        _ ≤ b * a := Nat.mul_le_mul_left _ (by omega)
        _ = n := by rw [h, Nat.mul_comm]⟩ := by
  subst h
  rw [← finProdFinEquiv.sum_comp, Fintype.sum_prod_type]
  refine Finset.sum_congr rfl fun i _ => Finset.sum_congr rfl fun j _ => congrArg g (Fin.ext ?_)
  exact Nat.add_comm _ _

/-- A running sum that starts from zero. -/
theorem running {N : ℕ} (A : (n : ℕ) → n < N → EReal) (f : Fin N → EReal) (h0 : ∀ h, A 0 h = 0 + f ⟨0, h⟩)
    (hs : ∀ n h, A (n + 1) h = A n (by omega) + f ⟨n + 1, h⟩) : ∀ n h, A n h = ∑ i : Fin (n + 1), f ⟨i.val, by have := i.isLt; omega⟩
  | 0, h => by rw [h0, zero_add, Fin.sum_univ_one]; rfl
  | n + 1, h => by
    rw [hs, running A f h0 hs n]
    exact (Fin.sum_univ_castSucc (fun i : Fin (n + 1 + 1) => f ⟨i.val, by have := i.isLt; omega⟩)).symm

variable (m : (ℓ : Loc nD τ sig) → Buf (Elt Ideal) ℓ) (ρ : Dev nD → PrngReg) (c : Dev nD)

/-- The result arrays, as functions of the arguments. -/
def reconArr : Buf (Elt Ideal) ((c : Thread nD τ).loc main_v23_0) := fun _ : S1x1.Idx => (∑ r, (par m c).recon (rows m c r) : EReal)
def qArr : Buf (Elt Ideal) ((c : Thread nD τ).loc main_v23_1) := fun _ : S1x1.Idx => (∑ r, ((par m c).q (rows m c r) : EReal) : EReal)
def normsArr : Buf (Elt Ideal) ((c : Thread nD τ).loc main_v23_2) := fun i : S4096x3.Idx => ((par m c).norms (rows m c (i 0)) (i 1) : EReal)
def keyArr : Buf (Elt Ideal) ((c : Thread nD τ).loc main_v23_3) := fun i : S4096x1.Idx => (par m c).key (rows m c (i 0))
def keyTArr : Buf (Elt Ideal) ((c : Thread nD τ).loc main_v23_4) := fun i : S1x4096.Idx => (par m c).key (rows m c (i 1))

variable (hP : (par m c).Good) (hx : ∀ r k, IsReal (rows m c r k))

/-- The arrays written row by row, at every point. -/
theorem outs_rows (t : Fin cfg0.N) : (outsAt0 (V1 m ρ) c t.val t.isLt).2.2
    = ((blocksAt (V1 m ρ) c t).norms, (blocksAt (V1 m ρ) c t).v216, (blocksAt (V1 m ρ) c t).keyT) := by
  by_cases h0 : t.val % 4 = 0
  · exact congrArg (fun o => o.2.2) (outs_A (V1 m ρ) c t h0)
  · exact congrArg (fun o => o.2.2) (outs_B (V1 m ρ) c t h0)

include hx in
/-- The rows of a block hold real numbers where the input does. -/
theorem x1_real (t : Fin cfg0.N) (r : Fin 1024) (k) : IsReal (row (blocksAt (V1 m ρ) c t).x1 r k) := by
  rw [x1_val]; exact hx _ _

include hP hx

/-- The norms' array. -/
theorem final26 : (dat0 (V1 m ρ) c).arrAt 26 cfg0.N = normsArr m c :=
  (dat0 (V1 m ρ) c).arrAt_eq_of_cover 26 (normsArr m c)
    (fun t _ => by
      show (cfg0.win 26).cut (grid0.coords t) ((dat0 (V1 m ρ) c).after 26 t) = _
      rw [after0_26, outs_rows]
      funext j
      rw [View.read_apply]
      obtain ⟨r, l, rfl⟩ : ∃ (r : Fin 1024) (l : Fin 3), j = ix2 r l := ⟨j 0, j 1, eq_ix2 j⟩
      refine (norms_val (holds m ρ c t) hP r (x1_real m ρ c hx t r) l).trans ?_
      rw [x1_val]
      refine Eq.trans (b := normsArr m c (ix2 (rowAt t r) l)) rfl (congrArg (normsArr m c) (funext fun a => Fin.ext ?_))
      match a with
      | ⟨0, _⟩ =>
        show 1024 * t.val + r.val = win0_26.index t 0 * 1024 + 1 * r.val
        rw [show win0_26.index t 0 = t.val from index1 t]; omega
      | ⟨1, _⟩ =>
        show l.val = win0_26.index t 1 * 3 + 1 * l.val
        rw [show win0_26.index t 1 = 0 from rfl]; omega)
    fun i => by
      have h0 : (i 0 : ℕ) < 4096 := (i 0).isLt
      have h1 : (i 1 : ℕ) < 3 := (i 1).isLt
      have hN : cfg0.N = 4 := N_0
      let t : Fin cfg0.N := ⟨(i 0 : ℕ) / 1024, by omega⟩
      refine ⟨t, flush0_26 t, ?_⟩
      show i ∈ ((View.whole main_v23_2).slice (win0_26.rect t)).set
      rw [View.set_slice_whole, Rect.mem_set_unit]
      intro a
      match a with
      | ⟨0, _⟩ =>
        show win0_26.index t 0 * 1024 ≤ (i 0 : ℕ) ∧ (i 0 : ℕ) < win0_26.index t 0 * 1024 + 1024
        rw [show win0_26.index t 0 = (i 0 : ℕ) / 1024 from index1 t]; omega
      | ⟨1, _⟩ =>
        show win0_26.index t 1 * 3 ≤ (i 1 : ℕ) ∧ (i 1 : ℕ) < win0_26.index t 1 * 3 + 3
        rw [show win0_26.index t 1 = 0 from rfl]; omega

/-- The packed codes, as a column. -/
theorem final27 : (dat0 (V1 m ρ) c).arrAt 27 cfg0.N = keyArr m c :=
  (dat0 (V1 m ρ) c).arrAt_eq_of_cover 27 (keyArr m c)
    (fun t _ => by
      show (cfg0.win 27).cut (grid0.coords t) ((dat0 (V1 m ρ) c).after 27 t) = _
      rw [after0_27, outs_rows]
      funext j
      rw [View.read_apply]
      obtain ⟨r, l, rfl⟩ : ∃ (r : Fin 1024) (l : Fin 1), j = ix2 r l := ⟨j 0, j 1, eq_ix2 j⟩
      refine (congrArg _ (congrArg (ix2 r) (Subsingleton.elim l 0))).trans ((key_val (holds m ρ c t) hP r (x1_real m ρ c hx t r)).trans ?_)
      rw [x1_val]
      refine Eq.trans (b := keyArr m c (ix2 (rowAt t r) l)) rfl (congrArg (keyArr m c) (funext fun a => Fin.ext ?_))
      match a with
      | ⟨0, _⟩ =>
        show 1024 * t.val + r.val = win0_27.index t 0 * 1024 + 1 * r.val
        rw [show win0_27.index t 0 = t.val from index1 t]; omega
      | ⟨1, _⟩ =>
        show l.val = win0_27.index t 1 * 1 + 1 * l.val
        rw [show win0_27.index t 1 = 0 from rfl]; omega)
    fun i => by
      have h0 : (i 0 : ℕ) < 4096 := (i 0).isLt
      have h1 : (i 1 : ℕ) < 1 := (i 1).isLt
      have hN : cfg0.N = 4 := N_0
      let t : Fin cfg0.N := ⟨(i 0 : ℕ) / 1024, by omega⟩
      refine ⟨t, flush0_27 t, ?_⟩
      show i ∈ ((View.whole main_v23_3).slice (win0_27.rect t)).set
      rw [View.set_slice_whole, Rect.mem_set_unit]
      intro a
      match a with
      | ⟨0, _⟩ =>
        show win0_27.index t 0 * 1024 ≤ (i 0 : ℕ) ∧ (i 0 : ℕ) < win0_27.index t 0 * 1024 + 1024
        rw [show win0_27.index t 0 = (i 0 : ℕ) / 1024 from index1 t]; omega
      | ⟨1, _⟩ =>
        show win0_27.index t 1 * 1 ≤ (i 1 : ℕ) ∧ (i 1 : ℕ) < win0_27.index t 1 * 1 + 1
        rw [show win0_27.index t 1 = 0 from rfl]; omega

/-- The packed codes, as a row. -/
theorem final28 : (dat0 (V1 m ρ) c).arrAt 28 cfg0.N = keyTArr m c :=
  (dat0 (V1 m ρ) c).arrAt_eq_of_cover 28 (keyTArr m c)
    (fun t _ => by
      show (cfg0.win 28).cut (grid0.coords t) ((dat0 (V1 m ρ) c).after 28 t) = _
      rw [after0_28, outs_rows]
      funext j
      rw [View.read_apply]
      obtain ⟨l, r, rfl⟩ : ∃ (l : Fin 1) (r : Fin 1024), j = ix2 l r := ⟨j 0, j 1, eq_ix2 j⟩
      refine (congrArg _ (congrArg (fun l => ix2 l r) (Subsingleton.elim l 0))).trans ((keyT_val (holds m ρ c t) hP r (x1_real m ρ c hx t r)).trans ?_)
      rw [x1_val]
      refine Eq.trans (b := keyTArr m c (ix2 l (rowAt t r))) rfl (congrArg (keyTArr m c) (funext fun a => Fin.ext ?_))
      match a with
      | ⟨0, _⟩ =>
        show l.val = win0_28.index t 0 * 1 + 1 * l.val
        rw [show win0_28.index t 0 = 0 from rfl]; omega
      | ⟨1, _⟩ =>
        show 1024 * t.val + r.val = win0_28.index t 1 * 1024 + 1 * r.val
        rw [show win0_28.index t 1 = t.val from index1 t]; omega)
    fun i => by
      have h0 : (i 0 : ℕ) < 1 := (i 0).isLt
      have h1 : (i 1 : ℕ) < 4096 := (i 1).isLt
      have hN : cfg0.N = 4 := N_0
      let t : Fin cfg0.N := ⟨(i 1 : ℕ) / 1024, by omega⟩
      refine ⟨t, flush0_28 t, ?_⟩
      show i ∈ ((View.whole main_v23_4).slice (win0_28.rect t)).set
      rw [View.set_slice_whole, Rect.mem_set_unit]
      intro a
      match a with
      | ⟨0, _⟩ =>
        show win0_28.index t 0 * 1 ≤ (i 0 : ℕ) ∧ (i 0 : ℕ) < win0_28.index t 0 * 1 + 1
        rw [show win0_28.index t 0 = 0 from rfl]; omega
      | ⟨1, _⟩ =>
        show win0_28.index t 1 * 1024 ≤ (i 1 : ℕ) ∧ (i 1 : ℕ) < win0_28.index t 1 * 1024 + 1024
        rw [show win0_28.index t 1 = (i 1 : ℕ) / 1024 from index1 t]; omega

omit hP hx in
/-- The batch's sum, cut into the call's points. -/
theorem sum_rows (g : Fin 4096 → EReal) : ∑ r, g r = ∑ t : Fin cfg0.N, ∑ r : Fin 1024, g (rowAt t r) :=
  sum_blocks (a := cfg0.N) (b := 1024) (by rw [show cfg0.N = 4 from N_0]) g

/-- The running reconstruction loss. -/
theorem recon_running (n : ℕ) (h : n < cfg0.N) : (outsAt0 (V1 m ρ) c n h).1 (ix2 0 0)
    = ∑ i : Fin (n + 1), ∑ r : Fin 1024, (par m c).recon (rows m c (rowAt ⟨i.val, by have := i.isLt; omega⟩ r)) := by
  refine running (fun n h => (outsAt0 (V1 m ρ) c n h).1 (ix2 0 0)) (fun t => ∑ r : Fin 1024, (par m c).recon (rows m c (rowAt t r))) (fun h => ?_) (fun n h => ?_) n h
  · refine (congrFun (congrArg (fun o => o.1) (outs_A (V1 m ρ) c ⟨0, h⟩ rfl)) _).trans ((rsum_val (holds m ρ c ⟨0, h⟩) hP (x1_real m ρ c hx _) _).trans ?_)
    refine congrArg₂ (· + ·) Ideal.ofBits_zero_f32 (Finset.sum_congr rfl fun r _ => ?_)
    rw [x1_val]
  · have hn : ¬ (n + 1) % 4 = 0 := by have := lt_of_lt_of_eq h N_0; omega
    refine (congrFun (congrArg (fun o => o.1) (outs_B (V1 m ρ) c ⟨n + 1, h⟩ hn)) _).trans ((rsum_val (holds m ρ c ⟨n + 1, h⟩) hP (x1_real m ρ c hx _) _).trans ?_)
    refine congrArg₂ (· + ·) rfl (Finset.sum_congr rfl fun r _ => ?_)
    rw [x1_val]

/-- The running quantisation loss. -/
theorem q_running (n : ℕ) (h : n < cfg0.N) : (outsAt0 (V1 m ρ) c n h).2.1 (ix2 0 0)
    = ∑ i : Fin (n + 1), ∑ r : Fin 1024, ((par m c).q (rows m c (rowAt ⟨i.val, by have := i.isLt; omega⟩ r)) : EReal) := by
  refine running (fun n h => (outsAt0 (V1 m ρ) c n h).2.1 (ix2 0 0)) (fun t => ∑ r : Fin 1024, ((par m c).q (rows m c (rowAt t r)) : EReal)) (fun h => ?_) (fun n h => ?_) n h
  · refine (congrFun (congrArg (fun o => o.2.1) (outs_A (V1 m ρ) c ⟨0, h⟩ rfl)) _).trans ((qsum_val (holds m ρ c ⟨0, h⟩) hP (x1_real m ρ c hx _) _).trans ?_)
    refine congrArg₂ (· + ·) Ideal.ofBits_zero_f32 (Finset.sum_congr rfl fun r _ => ?_)
    rw [x1_val]
  · have hn : ¬ (n + 1) % 4 = 0 := by have := lt_of_lt_of_eq h N_0; omega
    refine (congrFun (congrArg (fun o => o.2.1) (outs_B (V1 m ρ) c ⟨n + 1, h⟩ hn)) _).trans ((qsum_val (holds m ρ c ⟨n + 1, h⟩) hP (x1_real m ρ c hx _) _).trans ?_)
    refine congrArg₂ (· + ·) rfl (Finset.sum_congr rfl fun r _ => ?_)
    rw [x1_val]

/-- The summed reconstruction loss. -/
theorem final24 : (dat0 (V1 m ρ) c).arrAt 24 cfg0.N = reconArr m c :=
  (dat0 (V1 m ρ) c).arrAt_eq_of_cover 24 (reconArr m c)
    (fun t hf => by
      have hN : cfg0.N = 4 := N_0
      obtain rfl : t = ⟨3, lt_of_lt_of_eq (by decide : 3 < 4) N_0.symm⟩ := Fin.ext (by have := (flush0_24 t).mp hf; have := t.isLt; dsimp only; omega)
      show (cfg0.win 24).cut (grid0.coords _) ((dat0 (V1 m ρ) c).after 24 _) = _
      rw [after0_24]
      refine Eq.trans (funext fun j => ?_) (Memref.read_access_unit_zero (Elt Ideal) main_v23_0 (funext fun a => by fin_cases a <;> rfl) _ (reconArr m c)).symm
      refine (congrArg (outsAt0 (V1 m ρ) c 3 _).1 (ix_one j)).trans ((recon_running m ρ c hP hx 3 (by rw [hN]; omega)).trans ?_)
      refine Eq.trans ?_ (sum_rows fun s => (par m c).recon (rows m c s)).symm
      rfl)
    fun i => by
      have h0 : (i 0 : ℕ) < 1 := (i 0).isLt
      have h1 : (i 1 : ℕ) < 1 := (i 1).isLt
      have hN : cfg0.N = 4 := N_0
      let t : Fin cfg0.N := ⟨3, by omega⟩
      refine ⟨t, (flush0_24 t).mpr rfl, ?_⟩
      show i ∈ ((View.whole main_v23_0).slice (win0_24.rect t)).set
      rw [View.set_slice_whole, Rect.mem_set_unit]
      intro a
      match a with
      | ⟨0, _⟩ => exact ⟨Nat.zero_le _, h0⟩
      | ⟨1, _⟩ => exact ⟨Nat.zero_le _, h1⟩

/-- The summed quantisation loss. -/
theorem final25 : (dat0 (V1 m ρ) c).arrAt 25 cfg0.N = qArr m c :=
  (dat0 (V1 m ρ) c).arrAt_eq_of_cover 25 (qArr m c)
    (fun t hf => by
      have hN : cfg0.N = 4 := N_0
      obtain rfl : t = ⟨3, lt_of_lt_of_eq (by decide : 3 < 4) N_0.symm⟩ := Fin.ext (by have := (flush0_25 t).mp hf; have := t.isLt; dsimp only; omega)
      show (cfg0.win 25).cut (grid0.coords _) ((dat0 (V1 m ρ) c).after 25 _) = _
      rw [after0_25]
      refine Eq.trans (funext fun j => ?_) (Memref.read_access_unit_zero (Elt Ideal) main_v23_1 (funext fun a => by fin_cases a <;> rfl) _ (qArr m c)).symm
      refine (congrArg (outsAt0 (V1 m ρ) c 3 _).2.1 (ix_one j)).trans ((q_running m ρ c hP hx 3 (by rw [hN]; omega)).trans ?_)
      refine Eq.trans ?_ (sum_rows fun s => ((par m c).q (rows m c s) : EReal)).symm
      rfl)
    fun i => by
      have h0 : (i 0 : ℕ) < 1 := (i 0).isLt
      have h1 : (i 1 : ℕ) < 1 := (i 1).isLt
      have hN : cfg0.N = 4 := N_0
      let t : Fin cfg0.N := ⟨3, by omega⟩
      refine ⟨t, (flush0_25 t).mpr rfl, ?_⟩
      show i ∈ ((View.whole main_v23_1).slice (win0_25.rect t)).set
      rw [View.set_slice_whole, Rect.mem_set_unit]
      intro a
      match a with
      | ⟨0, _⟩ => exact ⟨Nat.zero_le _, h0⟩
      | ⟨1, _⟩ => exact ⟨Nat.zero_le _, h1⟩

end Cert.KRun
-- ==== Proof.Frame.Outs1.lean ====
module

public import proofs.«01_k».proof.Proof.Frame.Blocks
public import proofs.«01_k».proof.Proof.Frame.Region1

/-!
What the second call's result block holds after each point, as functions of the blocks read.
-/

set_option maxRecDepth 16384

@[expose] public section

noncomputable section

namespace Cert.KRun

open Cert.KernelIdeal Cert.KernelIdeal.Gen Idealize.ShloMosaic Idealize.ShloMosaic.TcCoe Idealize.ShloMosaic.Tactic

variable {F : FTy → Type} [FloatOps F] [Named F]

variable (V : (c : Dev nD) → (b : Ref sig .tc) → Buf (Elt F) ((c : Thread nD τ).loc b))

/-- The second call's block of packed codes, and all of them. -/
def colAt (c : Dev nD) (t : Fin cfg1.N) : Vec F S512x1 .i32 := iblk1 V c 0 t
def allAt (c : Dev nD) (t : Fin cfg1.N) : Vec F S1x4096 .i32 := iblk1 V c 1 t

set_option maxHeartbeats 4000000 in
/-- After the first point. -/
theorem outs1_A (c : Dev nD) (t : Fin cfg1.N) (h0 : t.val % 8 = 0) :
    outsAt1 V c t.val t.isLt = k1_pay2 (colAt V c t) (allAt V c t) k1_pay1 := by
  rw [outsAt1_A V c t h0 (by omega)]
  unfold out1_A_2
  rw [View.read_writes_eq_canon _ _ _ (fun y => cover1_A_2 (F := F) (y := y) ..)]
  unfold kernelRun1_A
  dsimp only
  sl_unfold_words
  rw [View.canon_cons_unit_zero hz2, View.readCov_unit_zero _ hz2]
  simp only [load_whole]
  rfl

set_option maxHeartbeats 4000000 in
/-- After a point between the first and the last. -/
theorem outs1_B (c : Dev nD) (t : Fin cfg1.N) (h0 : ¬t.val % 8 = 0) (h1 : ¬t.val % 8 = 7) :
    outsAt1 V c t.val t.isLt = k1_pay2 (colAt V c t) (allAt V c t) (outsAt1 V c (t.val - 1) (by omega)) := by
  rw [outsAt1_B V c t h0 h1]
  unfold out1_B_2
  rw [View.read_writes_eq_canon _ _ _ (fun y => cover1_B_2 (F := F) (y := y) ..)]
  unfold kernelRun1_B
  dsimp only
  sl_unfold_words
  rw [View.canon_unit_zero hz2]
  simp only [load_whole]
  rfl

set_option maxHeartbeats 4000000 in
/-- After the last point. -/
theorem outs1_C (c : Dev nD) (t : Fin cfg1.N) (h0 : ¬t.val % 8 = 0) (h1 : t.val % 8 = 7) :
    outsAt1 V c t.val t.isLt = k1_pay3 (k1_pay2 (colAt V c t) (allAt V c t) (outsAt1 V c (t.val - 1) (by omega))) := by
  rw [outsAt1_C V c t h0 h1]
  unfold out1_C_2
  rw [View.read_writes_eq_canon _ _ _ (fun y => cover1_C_2 (F := F) (y := y) ..)]
  unfold kernelRun1_C
  dsimp only
  sl_unfold_words
  rw [View.canon_cons_unit_zero hz2, View.readCov_unit_zero _ hz2]
  simp only [load_whole]
  rfl

end Cert.KRun
-- ==== Proof.Final1.lean ====
module

public import proofs.«01_k».proof.Proof.Final0
public import proofs.«01_k».proof.Proof.Frame.Outs1
public import proofs.«01_k».proof.Proof.Frame.Fold

/-!
What the second call's result array holds at the end: the share of distinct code triples.
-/

set_option maxRecDepth 16384

@[expose] public section

noncomputable section

namespace Cert.KRun

open Cert.KernelIdeal Cert.KernelIdeal.Gen Idealize.ShloMosaic Idealize.ShloMosaic.TcCoe Idealize.ShloMosaic.ValueIdx Cert.Rq

/-- How often a row's packed code occurs in the batch. -/
def mult (key : Fin 4096 → BitVec 32) (i : Fin 4096) : ℕ := (Finset.univ.filter fun j => key i = key j).card

/-- Every key occurs at least once: at its own row. -/
theorem mult_pos (key : Fin 4096 → BitVec 32) (i) : 0 < mult key i := Finset.card_pos.mpr ⟨i, by simp⟩

/-- The number of entries that carry a mark, as a sum of ones. -/
theorem sum_marks (key : Fin 4096 → BitVec 32) (k : BitVec 32) :
    (∑ j, (if k = key j then (1 : EReal) else 0)) = (((Finset.univ.filter fun j => k = key j).card : ℝ) : EReal) := by
  rw [Finset.sum_boole]; rfl

/-- One point of the second call: the inverse multiplicities of a block of rows are added. -/
theorem pay2_val (a : IVec S512x1 32) (b : IVec S1x4096 32) (old : FVec Ideal S1x1 .f32) (key : Fin 4096 → BitVec 32) (at' : Fin 512 → Fin 4096)
    (ha : ∀ r, a (ix2 r 0) = key (at' r)) (hb : ∀ j, b (ix2 0 j) = key j) :
    k1_pay2 (F := Ideal) a b old (ix2 0 0) = old (ix2 0 0) + ∑ r, ((1 / (mult key (at' r) : ℝ) : ℝ) : EReal) := by
  unfold k1_pay2
  simp only [shapeCast_self]
  rw [addf_apply, castCol]
  refine congrArg (fun v : EReal => old (ix2 0 0) + v) ((colSum _ _ _ _ _).trans (Finset.sum_congr rfl fun r _ => ?_))
  rw [divf_apply, castCol]
  have : (∑ c : Fin 4096, select (cmpi .eq (broadcastTo S512x4096 a broadcasts_S512x1_S512x4096) (broadcastTo S512x4096 b broadcasts_S1x4096_S512x4096))
      (broadcast S512x4096 (FloatOps.ofBits (F := Ideal) .f32 0x3F800000#32)) (broadcast S512x4096 (FloatOps.ofBits (F := Ideal) .f32 0x00000000#32)) (ix2 r c))
      = ((mult key (at' r) : ℝ) : EReal) := by
    refine Eq.trans (Finset.sum_congr rfl fun j _ => ?_) (sum_marks key (key (at' r)))
    refine (show _ = bif decide (broadcastTo S512x4096 a broadcasts_S512x1_S512x4096 (ix2 r j) = broadcastTo S512x4096 b broadcasts_S1x4096_S512x4096 (ix2 r j)) then Ideal.ofBits .f32 0x3F800000#32 else Ideal.ofBits .f32 0x00000000#32 from ?_).trans ?_
    · rw [select_apply]
      show (if IntOp.cmpi .eq _ _ = 1#1 then _ else _) = _
      by_cases h : broadcastTo S512x4096 a broadcasts_S512x1_S512x4096 (ix2 r j) = broadcastTo S512x4096 b broadcasts_S1x4096_S512x4096 (ix2 r j)
      · simp [IntOp.cmpi, h]; rfl
      · rw [decide_eq_false h, show IntOp.cmpi .eq _ _ = 0#1 from congrArg BitVec.ofBool (beq_false_of_ne h)]; rfl
    · rw [colTo, rowTo, ha, hb, Ideal.ofBits_one_f32, Ideal.ofBits_zero_f32]
      by_cases h : key (at' r) = key j <;> simp [h]
  refine (congrArg (Ideal.div _) ((rowSum _ _ _ _ r).trans this)).trans ?_
  rw [broadcast_apply]
  refine (congrArg (fun z => Ideal.div z _) (Ideal.ofBits_one_f32.trans EReal.coe_one.symm)).trans ?_
  exact div_coe_coe _ (by have := mult_pos key (at' r); positivity)

/-- Rounding a whole number to the nearest one leaves it. -/
theorem pay3_val (x : FVec Ideal S1x1 .f32) (n : ℕ) (h : x (ix2 0 0) = ((n : ℝ) : EReal)) :
    k1_pay3 (F := Ideal) x (ix2 0 0) = (((n : ℝ) / 4096 : ℝ) : EReal) := by
  unfold k1_pay3
  rw [divf_apply, shapeCast_self]
  show Ideal.div (FloatOps.floor (F := Ideal) (φ := .f32) (x (ix2 0 0) + Ideal.ofBits .f32 0x3F000000#32)) (Ideal.ofBits .f32 0x45800000#32) = _
  rw [h, lit_half, lit_4096, ← EReal.coe_add]
  have : FloatOps.floor (F := Ideal) (φ := .f32) (((n : ℝ) + 1 / 2 : ℝ) : EReal) = ((n : ℝ) : EReal) := by
    show ((⌊((n : ℝ) + 1 / 2 : ℝ)⌋ : ℝ) : EReal) = _
    rw [show ⌊((n : ℝ) + 1 / 2 : ℝ)⌋ = (n : ℤ) from Int.floor_eq_iff.mpr ⟨by simp, by push_cast; linarith⟩]
    simp
  rw [this]
  exact div_coe_coe _ (by norm_num)

variable (m : (ℓ : Loc nD τ sig) → Buf (Elt Ideal) ℓ) (ρ : Dev nD → PrngReg) (c : Dev nD)

/-- The batch's packed codes. -/
def keyOf (r : Fin 4096) : BitVec 32 := (par m c).key (rows m c r)
/-- The row of the batch that a row of the second call's block is. -/
def rowAt1 (t : Fin cfg1.N) (r : Fin 512) : Fin 4096 := ⟨512 * t.val + r.val, by have := lt_of_lt_of_eq t.isLt N_1; have := r.isLt; omega⟩

/-- The second call's block of rows number `t` is the `t`-th. -/
theorem index1_0 : ∀ t : Fin cfg1.N, win1_0.index t 0 = t.val := by decide +kernel

/-- An entry of the second call's block of keys, read from the column of all keys. -/
theorem col_read (V : (c : Dev nD) → (b : Ref sig .tc) → Buf (Elt Ideal) ((c : Thread nD τ).loc b)) (t : Fin cfg1.N) (r : Fin 512) :
    colAt V c t (ix2 r 0) = V c main_v23_3 (ix2 (rowAt1 t r) 0) := by
  unfold colAt iblk1
  rw [View.read_apply]
  refine congrArg (V c main_v23_3) (funext fun a => Fin.ext ?_)
  match a with
  | ⟨0, _⟩ =>
    show win1_0.index t 0 * 512 + 1 * r.val = 512 * t.val + r.val
    rw [index1_0]; omega
  | ⟨1, _⟩ =>
    show win1_0.index t 1 * 1 + 1 * 0 = 0
    rw [show win1_0.index t 1 = 0 from rfl]

/-- An entry of the second call's row of keys, read from the row of all keys. -/
theorem all_read (V : (c : Dev nD) → (b : Ref sig .tc) → Buf (Elt Ideal) ((c : Thread nD τ).loc b)) (t : Fin cfg1.N) (j : Fin 4096) :
    allAt V c t (ix2 0 j) = V c main_v23_4 (ix2 0 j) := by
  unfold allAt iblk1
  rw [View.read_apply]
  refine congrArg (V c main_v23_4) (funext fun a => Fin.ext ?_)
  match a with
  | ⟨0, _⟩ => rfl
  | ⟨1, _⟩ =>
    show win1_1.index t 1 * 4096 + 1 * j.val = j.val
    rw [show win1_1.index t 1 = 0 from rfl]; omega

variable (hP : (par m c).Good) (hx : ∀ r k, IsReal (rows m c r k))
include hP hx

/-- The second call's block of keys holds the keys of its rows. -/
theorem col_val (t : Fin cfg1.N) (r : Fin 512) : colAt (V2 m ρ) c t (ix2 r 0) = keyOf m c (rowAt1 t r) :=
  (col_read c (V2 m ρ) t r).trans (congrFun ((W2_arr m ρ c 27).trans (final27 m ρ c hP hx)) _)
/-- The second call's row of keys holds the keys of all rows. -/
theorem all_val (t : Fin cfg1.N) (j : Fin 4096) : allAt (V2 m ρ) c t (ix2 0 j) = keyOf m c j :=
  (all_read c (V2 m ρ) t j).trans (congrFun ((W2_arr m ρ c 28).trans (final28 m ρ c hP hx)) _)

/-- The running count, before the last point. -/
theorem count_running (n : ℕ) (h : n < 7) : outsAt1 (V2 m ρ) c n (by rw [show cfg1.N = 8 from N_1]; omega) (ix2 0 0)
    = ∑ i : Fin (n + 1), ∑ r : Fin 512, ((1 / (mult (keyOf m c) (rowAt1 ⟨i.val, by rw [show cfg1.N = 8 from N_1]; have := i.isLt; omega⟩ r) : ℝ) : ℝ) : EReal) := by
  refine running (N := 7) (fun n h => outsAt1 (V2 m ρ) c n (by rw [show cfg1.N = 8 from N_1]; omega) (ix2 0 0))
    (fun i => ∑ r : Fin 512, ((1 / (mult (keyOf m c) (rowAt1 ⟨i.val, by rw [show cfg1.N = 8 from N_1]; have := i.isLt; omega⟩ r) : ℝ) : ℝ) : EReal)) (fun h => ?_) (fun n h => ?_) n h
  · refine (congrFun (outs1_A (V2 m ρ) c ⟨0, by rw [show cfg1.N = 8 from N_1]; omega⟩ rfl) _).trans ((pay2_val _ _ _ (keyOf m c) (rowAt1 _) (col_val m ρ c hP hx _) (all_val m ρ c hP hx _)).trans ?_)
    exact congrArg₂ (· + ·) Ideal.ofBits_zero_f32 rfl
  · exact (congrFun (outs1_B (V2 m ρ) c ⟨n + 1, by rw [show cfg1.N = 8 from N_1]; omega⟩ (by dsimp only; omega) (by dsimp only; omega)) _).trans (pay2_val _ _ _ (keyOf m c) (rowAt1 _) (col_val m ρ c hP hx _) (all_val m ρ c hP hx _))

/-- The block after the last point. -/
theorem count_last : outsAt1 (V2 m ρ) c 7 (by rw [show cfg1.N = 8 from N_1]; omega) (ix2 0 0) = uniqueShare (par m c) (rows m c) := by
  refine (congrFun (outs1_C (V2 m ρ) c ⟨7, by rw [show cfg1.N = 8 from N_1]; omega⟩ (by decide) rfl) _).trans ?_
  refine (pay3_val _ (Finset.univ.image fun r => (par m c).ids (rows m c r)).card ?_)
  refine (pay2_val _ _ _ (keyOf m c) (rowAt1 _) (col_val m ρ c hP hx _) (all_val m ρ c hP hx _)).trans ?_
  have hc : ((Finset.univ.image (keyOf m c)).card : ℝ) = ((Finset.univ.image fun r => (par m c).ids (rows m c r)).card : ℝ) := by
    rw [← sum_inv_mult (keyOf m c), ← sum_inv_mult (fun r => (par m c).ids (rows m c r))]
    refine Finset.sum_congr rfl fun r _ => ?_
    congr 2
    exact congrArg Finset.card (Finset.filter_congr fun j _ => (Par.key_inj (P := par m c)))
  rw [← hc, ← sum_inv_mult (keyOf m c), coe_sum]
  refine Eq.trans ?_ ((sum_blocks (a := 8) (b := 512) rfl _).trans (Fin.sum_univ_castSucc (n := 7) _)).symm
  exact congrArg₂ (· + ·) (count_running m ρ c hP hx 6 (by omega)) rfl

/-- The share of distinct code triples. -/
theorem final1 : (dat1 (V2 m ρ) c).arrAt 2 cfg1.N = (fun _ : S1x1.Idx => (uniqueShare (par m c) (rows m c) : EReal)) :=
  (dat1 (V2 m ρ) c).arrAt_eq_of_cover 2 (fun _ : S1x1.Idx => (uniqueShare (par m c) (rows m c) : EReal))
    (fun t hf => by
      have hN : cfg1.N = 8 := N_1
      obtain rfl : t = ⟨7, lt_of_lt_of_eq (by decide : 7 < 8) N_1.symm⟩ := Fin.ext (by have := (flush1_2 t).mp hf; have := t.isLt; dsimp only; omega)
      show (cfg1.win 2).cut (grid1.coords _) ((dat1 (V2 m ρ) c).after 2 _) = _
      rw [after1_2]
      refine Eq.trans (funext fun j => ?_) (Memref.read_access_unit_zero (Elt Ideal) main_v24 (funext fun a => by fin_cases a <;> rfl) _ (fun _ : S1x1.Idx => (uniqueShare (par m c) (rows m c) : EReal))).symm
      exact (congrArg (outsAt1 (V2 m ρ) c 7 _) (ix_one j)).trans (count_last m ρ c hP hx))
    fun i => by
      have h0 : (i 0 : ℕ) < 1 := (i 0).isLt
      have h1 : (i 1 : ℕ) < 1 := (i 1).isLt
      have hN : cfg1.N = 8 := N_1
      let t : Fin cfg1.N := ⟨7, by omega⟩
      refine ⟨t, (flush1_2 t).mpr rfl, ?_⟩
      show i ∈ ((View.whole main_v24).slice (win1_2.rect t)).set
      rw [View.set_slice_whole, Rect.mem_set_unit]
      intro a
      match a with
      | ⟨0, _⟩ => exact ⟨Nat.zero_le _, h0⟩
      | ⟨1, _⟩ => exact ⟨Nat.zero_le _, h1⟩

end Cert.KRun
-- ==== Proof.KernelVals.lean ====
module

public import proofs.«01_k».proof.Proof.Final1
public import Idealize.ShloMosaic.Lib.StableHlo.RunRead

/-!
What the kernel program's five results hold.
-/

set_option maxRecDepth 16384

@[expose] public section

noncomputable section

namespace Cert.KRun

open Cert.KernelIdeal Cert.KernelIdeal.Gen Cert.Rq Idealize.ShloMosaic Idealize.ShloMosaic.TcCoe Idealize.SL.Sem
open Idealize.ShloMosaic.ValueIdx

/-- The one entry of a one-entry matrix, as a scalar. -/
theorem scalar_of (x : FVec Ideal S1x1 .f32) (v : EReal) (h : S1x1.ShapeCasts S_) (hx : x = fun _ => v) :
    shapeCast S_ x h = fun _ => v := by
  subst hx; rfl

/-- A scalar total over the batch size. -/
theorem mean_of (x : FVec Ideal S_ .f32) (v : EReal) (hx : x = fun _ => v) :
    Host.divf x (constant S_ .f32 0x45800000#32) = fun _ => Ideal.div v ((4096 : ℝ) : EReal) := by
  subst hx
  funext i
  exact congrArg (Ideal.div v) lit_4096

variable (U : Valuation τ sig (Elt Ideal))

/-- The operations after the calls, from the calls' outputs. -/
theorem suffix26 : StableHlo.after hostOps2 U (Proc.devRef .tc main_v26)
    = (Host.divf (shapeCast S_ (U (Proc.devRef .tc main_v23_0) : FVec Ideal S1x1 .f32) shapeCasts_S1x1_S_) (constant S_ .f32 0x45800000#32) : FVec Ideal S_ .f32) := by
  after_reads_simp
  rfl
/-- The second result is the sum of the quantisation losses over the number of rows. -/
theorem suffix28 : StableHlo.after hostOps2 U (Proc.devRef .tc main_v28)
    = (Host.divf (shapeCast S_ (U (Proc.devRef .tc main_v23_1) : FVec Ideal S1x1 .f32) shapeCasts_S1x1_S_) (constant S_ .f32 0x45800000#32) : FVec Ideal S_ .f32) := by
  after_reads_simp
  rfl
/-- The first result is the sum of the two mean losses. -/
theorem suffix29 : StableHlo.after hostOps2 U (Proc.devRef .tc main_v29)
    = addf (Host.divf (shapeCast S_ (U (Proc.devRef .tc main_v23_0) : FVec Ideal S1x1 .f32) shapeCasts_S1x1_S_) (constant S_ .f32 0x45800000#32) : FVec Ideal S_ .f32)
      (Host.divf (shapeCast S_ (U (Proc.devRef .tc main_v23_1) : FVec Ideal S1x1 .f32) shapeCasts_S1x1_S_) (constant S_ .f32 0x45800000#32)) := by
  after_reads_simp
  rfl
/-- The last result is the second call's single entry. -/
theorem suffix30 : StableHlo.after hostOps2 U (Proc.devRef .tc main_v30)
    = shapeCast S_ (U (Proc.devRef .tc main_v24) : FVec Ideal S1x1 .f32) shapeCasts_S1x1_S_ := by
  after_reads_simp
  rfl

variable (m : (ℓ : Loc nD τ sig) → Buf (Elt Ideal) ℓ) (ρ : Dev nD → PrngReg) (c : Dev nD)
variable (hP : (par m c).Good) (hx : ∀ r k, IsReal (rows m c r k))
include hP hx

/-- The calls' outputs, where the last operations read them. -/
theorem call0 : W3 m ρ c (Proc.devRef .tc main_v23_0) = (reconArr m c : FVec Ideal S1x1 .f32) :=
  ((W3_of_ne m ρ c main_v23_0 (by decide)).trans (W2_arr m ρ c 24)).trans (final24 m ρ c hP hx)
/-- When both calls have ended, the buffer of the quantisation loss holds its sum over the rows. -/
theorem call1 : W3 m ρ c (Proc.devRef .tc main_v23_1) = (qArr m c : FVec Ideal S1x1 .f32) :=
  ((W3_of_ne m ρ c main_v23_1 (by decide)).trans (W2_arr m ρ c 25)).trans (final25 m ρ c hP hx)
/-- When both calls have ended, the buffer of the norms holds the norms of all rows. -/
theorem call2 : W3 m ρ c (Proc.devRef .tc main_v23_2) = (normsArr m c : FVec Ideal S4096x3 .f32) :=
  ((W3_of_ne m ρ c main_v23_2 (by decide)).trans (W2_arr m ρ c 26)).trans (final26 m ρ c hP hx)
/-- When both calls have ended, the second call's buffer holds the share of unique keys. -/
theorem call3 : W3 m ρ c (Proc.devRef .tc main_v24) = (fun _ => uniqueShare (par m c) (rows m c) : FVec Ideal S1x1 .f32) :=
  (W3_arr m ρ c 2).trans (final1 m ρ c hP hx)

/-- The mean reconstruction loss. -/
theorem v26_val : W4 m ρ c (Proc.devRef .tc main_v26) = (fun _ => reconMean (par m c) (rows m c) : FVec Ideal S_ .f32) :=
  (suffix26 _).trans (mean_of _ _ (scalar_of _ _ _ (call0 m ρ c hP hx)))
/-- The mean quantisation loss. -/
theorem v28_val : W4 m ρ c (Proc.devRef .tc main_v28) = (fun _ => qMean (par m c) (rows m c) : FVec Ideal S_ .f32) :=
  (suffix28 _).trans (mean_of _ _ (scalar_of _ _ _ (call1 m ρ c hP hx)))
/-- The loss. -/
theorem v29_val : W4 m ρ c (Proc.devRef .tc main_v29) = (fun _ => reconMean (par m c) (rows m c) + qMean (par m c) (rows m c) : FVec Ideal S_ .f32) :=
  (suffix29 _).trans (congrArg₂ (fun a b : FVec Ideal S_ .f32 => addf a b) (mean_of _ _ (scalar_of _ _ _ (call0 m ρ c hP hx)))
    (mean_of _ _ (scalar_of _ _ _ (call1 m ρ c hP hx))))
/-- The norms. -/
theorem v23_2_val : W4 m ρ c (Proc.devRef .tc main_v23_2) = (normsArr m c : FVec Ideal S4096x3 .f32) :=
  (W4_of m ρ c main_v23_2 (by decide)).trans (call2 m ρ c hP hx)
/-- The share of distinct code triples. -/
theorem v30_val : W4 m ρ c (Proc.devRef .tc main_v30) = (fun _ => uniqueShare (par m c) (rows m c) : FVec Ideal S_ .f32) :=
  (suffix30 _).trans (scalar_of _ _ _ (call3 m ρ c hP hx))

end Cert.KRun
-- ==== Proof.Host.lean ====
module

public import proofs.«01_k».proof.Proof.Spec
public import Idealize.ShloMosaic.Lib.StackMember
public import Idealize.ShloMosaic.Lib.IdealHost
public import Idealize.ShloMosaic.Lib.ReduceAll
public import Idealize.ShloMosaic.Lib.IndicatorCount

/-!
The plain program's layers read at an entry: each statement names a run of operations by their equations and says what
the last one holds.
-/

set_option maxRecDepth 16384

@[expose] public section

noncomputable section

namespace Cert.Rq

open Idealize.ShloMosaic Idealize.ShloMosaic.ValueIdx

variable {n m k : ℕ}

/-- A matrix of extended reals. -/
abbrev Mat (n m : ℕ) : Type := FVec Ideal ⟨2, ![n, m]⟩ .f32
/-- A list of extended reals. -/
abbrev Lst (n : ℕ) : Type := FVec Ideal ⟨1, ![n]⟩ .f32
/-- A single extended real. -/
abbrev One : Type := FVec Ideal ⟨0, ![]⟩ .f32
/-- A matrix reduced along its rows. -/
abbrev RowRed (n m : ℕ) : Prop := (⟨2, ![n, m]⟩ : Shape).ReducesTo [1] ⟨1, ![n]⟩
/-- A single entry is there. -/
abbrev HasOne : Prop := 0 < (⟨0, ![]⟩ : Shape).numel

/-- A sum over a list's indices. -/
theorem sum_list {M : Type} [AddCommMonoid M] (f : (⟨1, ![n]⟩ : Shape).Idx → M) : ∑ i, f i = ∑ r : Fin n, f (ix1 r) := by
  refine (Fintype.sum_equiv ⟨fun r : Fin n => (ix1 r : (⟨1, ![n]⟩ : Shape).Idx), fun i => i 0, fun r => rfl, fun i => (eq_ix1 i).symm⟩ _ _ fun _ => rfl).symm

/-- A linear layer. -/
theorem hLin {d : DotDims ⟨2, ![n, k]⟩ ⟨2, ![k, m]⟩ ⟨2, ![n, m]⟩} (hd : d = DotDims.plain n k m) {prec}
    {x : Mat n k} {w : Mat m k} {b : Lst m} {t : Mat k m} {p : Mat n m} {b1 : Mat 1 m} {b2 y : Mat n m} {ht hb1 hb2}
    (h0 : t = transpose ⟨2, ![k, m]⟩ [1, 0] w ht) (h1 : p = Host.dotGeneral d prec x t) (h2 : b1 = broadcastInDim ⟨2, ![1, m]⟩ ![1] hb1 b)
    (h3 : b2 = broadcastInDim ⟨2, ![n, m]⟩ ![0, 1] hb2 b1) (h4 : y = addf p b2) (r : Fin n) :
    row y r = lin (fun j i => w (ix2 j i)) (fun j => b (ix1 j)) (row x r) := by
  subst hd h0 h1 h2 h3 h4
  funext j
  rw [row, addf_apply, rowInDim, listRow, Idealize.ShloMosaic.StackMember.dotGeneral_plain_apply]
  refine congrArg (· + _) (Finset.sum_congr rfl fun i _ => congrArg (x (ix2 r i) * ·) ?_)
  exact transpose2 w ht i j

/-- The SiLU activation. -/
theorem hSilu {s : Shape} {x a e b1 u b2 q y : FVec Ideal s .f32} {c1 c2 : One} {hb hb'}
    (h0 : a = Host.negf x) (h1 : e = Host.exp a) (h2 : c1 = constant ⟨0, ![]⟩ .f32 0x3F800000#32) (h3 : b1 = broadcastInDim s ![] hb c1)
    (h4 : u = addf b1 e) (h5 : c2 = constant ⟨0, ![]⟩ .f32 0x3F800000#32) (h6 : b2 = broadcastInDim s ![] hb' c2) (h7 : q = Host.divf b2 u)
    (h8 : y = mulf x q) (j : s.Idx) : y j = silu (x j) := by
  subst h0 h1 h2 h3 h4 h5 h6 h7 h8
  have hc : broadcastInDim s ![] hb (constant (F := Ideal) ⟨0, ![]⟩ .f32 0x3F800000#32) j = 1 := by
    rw [broadcastInDim_scalar_apply]; exact Ideal.ofBits_one_f32
  have e : silu (x j) = x j * Ideal.div (broadcastInDim s ![] hb (constant (F := Ideal) ⟨0, ![]⟩ .f32 0x3F800000#32) j)
      (broadcastInDim s ![] hb (constant (F := Ideal) ⟨0, ![]⟩ .f32 0x3F800000#32) j + Ideal.exp (-(x j))) := by rw [hc]; rfl
  exact e.symm

variable {R : Fin n → Fin k → ℝ} {γ : Fin m → Fin k → ℝ}

/-- Squared distances of rows from codes. -/
theorem hDist {d : DotDims ⟨2, ![n, k]⟩ ⟨2, ![k, m]⟩ ⟨2, ![n, m]⟩} (hd : d = DotDims.plain n k m) {prec}
    {x x2 : Mat n k} {w w2 : Mat m k} {sx : Lst n} {sxc : Mat n 1} {wt : Mat k m} {p b2 p2 sxb df y : Mat n m} {sw : Lst m} {swr : Mat 1 m} {swb : Mat n m}
    {c0 c1 c2 : One} {hr : RowRed n k} {hu : HasOne} {hr' : RowRed m k} {hu' : HasOne} {hb1 ht hb2 hb3 hb4 hb5} (hx : ∀ r i, x (ix2 r i) = (R r i : EReal)) (hw : ∀ j i, w (ix2 j i) = (γ j i : EReal))
    (h0 : x2 = mulf x x) (h1 : c0 = constant ⟨0, ![]⟩ .f32 0x00000000#32) (h2 : sx = Host.reduceAdd x2 c0 hr hu)
    (h3 : sxc = broadcastInDim ⟨2, ![n, 1]⟩ ![0] hb1 sx) (h4 : wt = transpose ⟨2, ![k, m]⟩ [1, 0] w ht) (h5 : p = Host.dotGeneral d prec x wt)
    (h6 : c2 = constant ⟨0, ![]⟩ .f32 0x40000000#32) (h7 : b2 = broadcastInDim ⟨2, ![n, m]⟩ ![] hb2 c2) (h8 : p2 = mulf b2 p)
    (h9 : sxb = broadcastInDim ⟨2, ![n, m]⟩ ![0, 1] hb3 sxc) (h10 : df = subf sxb p2) (h11 : w2 = mulf w w)
    (h12 : c1 = constant ⟨0, ![]⟩ .f32 0x00000000#32) (h13 : sw = Host.reduceAdd w2 c1 hr' hu') (h14 : swr = broadcastInDim ⟨2, ![1, m]⟩ ![1] hb4 sw)
    (h15 : swb = broadcastInDim ⟨2, ![n, m]⟩ ![0, 1] hb5 swr) (h16 : y = addf df swb) (r : Fin n) (j : Fin m) :
    y (ix2 r j) = ((dist (R r) γ j : ℝ) : EReal) := by
  subst hd h0 h1 h2 h3 h4 h5 h6 h7 h8 h9 h10 h11 h12 h13 h14 h15 h16
  rw [addf_apply, subf_apply, mulf_apply, colInDim, listCol, hostRowSum, broadcastInDim_scalar_apply, Idealize.ShloMosaic.StackMember.dotGeneral_plain_apply, rowInDim, listRow, hostRowSum]
  have e1 : (∑ i, mulf x x (ix2 r i)) = ((∑ i, R r i * R r i : ℝ) : EReal) := by
    rw [coe_sum]; exact Finset.sum_congr rfl fun i _ => by rw [mulf_apply, hx, EReal.coe_mul]
  have e2 : (∑ i, x (ix2 r i) * transpose ⟨2, ![k, m]⟩ [1, 0] w ht (ix2 i j)) = ((∑ i, R r i * γ j i : ℝ) : EReal) := by
    rw [coe_sum]; exact Finset.sum_congr rfl fun i _ => by rw [transpose2, hx, hw, EReal.coe_mul]
  have e3 : (∑ i, mulf w w (ix2 j i)) = ((∑ i, γ j i * γ j i : ℝ) : EReal) := by
    rw [coe_sum]; exact Finset.sum_congr rfl fun i _ => by rw [mulf_apply, hw, EReal.coe_mul]
  rw [e1, e2, e3, constant_apply, lit_two, dist, EReal.coe_add, EReal.coe_sub, EReal.coe_mul]

/-- The softmax of the distances, and its mean of the codes. -/
theorem hSoft {γ : Fin 1024 → Fin k → ℝ} {d : DotDims ⟨2, ![n, 1024]⟩ ⟨2, ![1024, k]⟩ ⟨2, ![n, k]⟩} (hd : d = DotDims.plain n 1024 k) {prec}
    {w : Mat 1024 k} {t : One} {τ : ℝ} (ht : t ix0 = (τ : EReal)) (hτ : 0 < τ) (hw : ∀ j i, w (ix2 j i) = (γ j i : EReal))
    {D nd tb s mb u e sb q : Mat n 1024} {c0 c1 c2 : One} {mx bb mm se : Lst n} {mc sc : Mat n 1} {y : Mat n k}
    {hr : RowRed n 1024} {hu : HasOne} {hr' : RowRed n 1024} {hu' : HasOne} {hb hb1 hb2 hb3 hb4 hb5} (hD : ∀ r j, D (ix2 r j) = ((dist (R r) γ j : ℝ) : EReal))
    (h0 : nd = Host.negf D) (h1 : tb = broadcastInDim ⟨2, ![n, 1024]⟩ ![] hb t) (h2 : s = Host.divf nd tb) (h3 : c0 = constant ⟨0, ![]⟩ .f32 0xFF800000#32)
    (h4 : mx = Host.reduce FloatOps.maximumf s c0 hr hu) (h5 : c1 = constant ⟨0, ![]⟩ .f32 0xFF800000#32) (h6 : bb = broadcastInDim ⟨1, ![n]⟩ ![] hb1 c1)
    (h7 : mm = maximumf bb mx) (h8 : mc = broadcastInDim ⟨2, ![n, 1]⟩ ![0] hb2 mm) (h9 : mb = broadcastInDim ⟨2, ![n, 1024]⟩ ![0, 1] hb3 mc)
    (h10 : u = subf s mb) (h11 : e = Host.exp u) (h12 : c2 = constant ⟨0, ![]⟩ .f32 0x00000000#32) (h13 : se = Host.reduceAdd e c2 hr' hu')
    (h14 : sc = broadcastInDim ⟨2, ![n, 1]⟩ ![0] hb4 se) (h15 : sb = broadcastInDim ⟨2, ![n, 1024]⟩ ![0, 1] hb5 sc) (h16 : q = Host.divf e sb)
    (h17 : y = Host.dotGeneral d prec q w) (r : Fin n) (i : Fin k) : y (ix2 r i) = ((emb τ γ (R r) i : ℝ) : EReal) := by
  have hs : ∀ j, s (ix2 r j) = ((-(dist (R r) γ j) / τ : ℝ) : EReal) := fun j => by
    rw [h2, h0, h1]
    have e : Host.divf (F := Ideal) (Host.negf D) (broadcastInDim ⟨2, ![n, 1024]⟩ ![] hb t) (ix2 r j)
        = Ideal.div (-(D (ix2 r j))) (broadcastInDim ⟨2, ![n, 1024]⟩ ![] hb t (ix2 r j)) := rfl
    rw [e, broadcastInDim_scalar_apply, ht, hD, ← EReal.coe_neg, div_coe_coe _ hτ.ne']
  obtain ⟨M, hM, -, -⟩ := fold_max_coe fun j => -(dist (R r) γ j) / τ
  have hm : mm (ix1 r) = (M : EReal) := by
    have hmx : mx (ix1 r) = (M : EReal) := by
      rw [h4, h3]
      refine (hostRowMax s hr hu r).trans (Eq.trans ?_ hM)
      exact congrArg (fun f => (Finset.univ : Finset (Fin 1024)).fold max ⊥ f) (funext hs)
    have hbb : bb (ix1 r) = ⊥ := by rw [h6, broadcastInDim_scalar_apply, h5]; exact lit_bot
    rw [h7, maximumf_apply, hbb, hmx]; exact max_eq_right bot_le
  have he : ∀ j, e (ix2 r j) = ((Real.exp (-(dist (R r) γ j) / τ - M) : ℝ) : EReal) := fun j => by
    have e1 : e (ix2 r j) = Ideal.exp (s (ix2 r j) - mb (ix2 r j)) := by rw [h11, h10]; rfl
    rw [e1, h9, h8, colInDim, listCol, hm, hs, ← EReal.coe_sub, Ideal.exp_coe]
  have hse : se (ix1 r) = ((∑ j, Real.exp (-(dist (R r) γ j) / τ - M) : ℝ) : EReal) := by
    rw [h13, h12, coe_sum]
    exact (hostRowSum e hr' hu' r).trans (Finset.sum_congr rfl fun j _ => he j)
  have hq : ∀ j, q (ix2 r j) = ((Real.exp (-(dist (R r) γ j) / τ - M) / ∑ j, Real.exp (-(dist (R r) γ j) / τ - M) : ℝ) : EReal) := fun j => by
    have e1 : q (ix2 r j) = Ideal.div (e (ix2 r j)) (sb (ix2 r j)) := by rw [h16]; rfl
    rw [e1, h15, h14, colInDim, listCol, hse, he]
    exact div_coe_coe _ (ne_of_gt (Finset.sum_pos (fun j _ => Real.exp_pos _) ⟨(0 : Fin 1024), Finset.mem_univ _⟩))
  subst hd
  rw [h17, Idealize.ShloMosaic.StackMember.dotGeneral_plain_apply, ← ref_emb τ M, coe_sum]
  exact Finset.sum_congr rfl fun j _ => by rw [hq, hw, EReal.coe_mul]

/-- One level's loss: a quarter of the squared error and all of it. -/
theorem hLoss {e1 ρ1 : Fin n → Fin 128 → ℝ} {x e d s d' s' : Mat n 128} {c0 c1 c2 : One} {sd b sq sd' y : Lst n} {hr : RowRed n 128} {hu : HasOne} {hr' : RowRed n 128} {hu' : HasOne} {hb}
    (he : ∀ r i, e (ix2 r i) = (e1 r i : EReal)) (hx : ∀ r i, x (ix2 r i) = (ρ1 r i : EReal))
    (h0 : d = subf e x) (h1 : s = mulf d d) (h2 : c0 = constant ⟨0, ![]⟩ .f32 0x00000000#32) (h3 : sd = Host.reduceAdd s c0 hr hu)
    (h4 : c1 = constant ⟨0, ![]⟩ .f32 0x3E800000#32) (h5 : b = broadcastInDim ⟨1, ![n]⟩ ![] hb c1) (h6 : sq = mulf b sd)
    (h7 : d' = subf e x) (h8 : s' = mulf d' d') (h9 : c2 = constant ⟨0, ![]⟩ .f32 0x00000000#32) (h10 : sd' = Host.reduceAdd s' c2 hr' hu')
    (h11 : y = addf sq sd') (r : Fin n) : y (ix1 r) = ((5 / 4 * Par.sq (e1 r) (ρ1 r) : ℝ) : EReal) := by
  subst h0 h1 h2 h3 h4 h5 h6 h7 h8 h9 h10 h11
  have e1' : (∑ i, mulf (subf e x) (subf e x) (ix2 r i)) = ((Par.sq (e1 r) (ρ1 r) : ℝ) : EReal) := by
    rw [Par.sq, coe_sum]; exact Finset.sum_congr rfl fun i _ => by rw [mulf_apply, subf_apply, he, hx, EReal.coe_mul, EReal.coe_sub]
  rw [addf_apply, mulf_apply, hostRowSum, broadcastInDim_scalar_apply, constant_apply, lit_quarter, e1', ← EReal.coe_mul, ← EReal.coe_add]
  congr 1; ring

/-- The next level's residual. -/
theorem hRes {e1 ρ1 : Fin n → Fin k → ℝ} {x e y : Mat n k} (he : ∀ r i, e (ix2 r i) = (e1 r i : EReal)) (hx : ∀ r i, x (ix2 r i) = (ρ1 r i : EReal))
    (h : y = subf x e) (r i) : y (ix2 r i) = ((ρ1 r i - e1 r i : ℝ) : EReal) := by
  rw [h, subf_apply, he, hx, EReal.coe_sub]

/-- A row divided by its guarded norm. -/
theorem hNormed {x s q y : Mat n k} {c0 c1 : One} {sx : Lst n} {sc rt gb g : Mat n 1} {hr : RowRed n k} {hu : HasOne} {hb hb1 hb2} (h0 : s = mulf x x)
    (h1 : c0 = constant ⟨0, ![]⟩ .f32 0x00000000#32) (h2 : sx = Host.reduceAdd s c0 hr hu) (h3 : sc = broadcastInDim ⟨2, ![n, 1]⟩ ![0] hb sx)
    (h4 : rt = Host.sqrt sc) (h5 : c1 = constant ⟨0, ![]⟩ .f32 0x2B8CBCCC#32) (h6 : gb = broadcastInDim ⟨2, ![n, 1]⟩ ![] hb1 c1)
    (h7 : g = addf rt gb) (h8 : q = broadcastInDim ⟨2, ![n, k]⟩ ![0, 1] hb2 g) (h9 : y = Host.divf x q) (r : Fin n) :
    row y r = normed guard (row x r) := by
  funext j
  have e1 : y (ix2 r j) = Ideal.div (x (ix2 r j)) (q (ix2 r j)) := by rw [h9]; rfl
  have e2 : rt (ix2 r 0) = nrm (row x r) := by
    have : rt (ix2 r 0) = Ideal.sqrt (sc (ix2 r 0)) := by rw [h4]; rfl
    rw [this, h3, listCol, h2, h1, hostRowSum, h0]; rfl
  rw [row, e1, h8, colInDim, h7, addf_apply, e2, h6, broadcastInDim_scalar_apply, h5]
  rfl

/-- The sum of a list. -/
theorem hTotal {x : Lst n} {c0 : One} {y : One} {h : (⟨1, ![n]⟩ : Shape).ReducesTo [0] ⟨0, ![]⟩} {hu : HasOne} (h0 : c0 = constant ⟨0, ![]⟩ .f32 0x00000000#32)
    (h1 : y = Host.reduceAdd x c0 h hu) : y ix0 = ∑ r, x (ix1 r) := by
  subst h0 h1
  rw [hostReduceAdd_apply, Ideal.hostReduceAdd_total h (fun b => b.elim0), constant_apply, Ideal.ofBits_zero_f32, zero_add]
  exact sum_list x

end Cert.Rq
-- ==== Proof.RefOps.lean ====
/-
The reference's operations as lists, and its run: every buffer ends holding what the list leaves there.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- What a buffer of element type `e` and shape `s` holds. -/
abbrev T (F : FTy → Type) (e : EltTy) (s : Shape) : Type := BufTy.Contents (Elt F) ⟨s, e⟩

/-- Three columns of embeddings side by side. -/
def stackEmb (u0 u1 u2 : (⟨S4096x128x1, .f32⟩ : BufTy).Contents (Elt F)) : (⟨S4096x128x3, .f32⟩ : BufTy).Contents (Elt F) :=
  concatenate S4096x128x3 2 [⟨S4096x128x1, u0⟩, ⟨S4096x128x1, u1⟩, ⟨S4096x128x1, u2⟩] concatenates_S4096x128x1_S4096x128x1_S4096x128x1_S4096x128x3_d2

/-- Three columns of indices side by side. -/
def stackIds (u0 u1 u2 : (⟨S4096x1, .i32⟩ : BufTy).Contents (Elt F)) : (⟨S4096x3, .i32⟩ : BufTy).Contents (Elt F) :=
  concatenate S4096x3 1 [⟨S4096x1, u0⟩, ⟨S4096x1, u1⟩, ⟨S4096x1, u2⟩] concatenates_S4096x1_S4096x1_S4096x1_S4096x3_d1

/-- The normalised part and the logits side by side. -/
def joinOut (a : (⟨S4096x768, .f32⟩ : BufTy).Contents (Elt F)) (b : (⟨S4096x18, .f32⟩ : BufTy).Contents (Elt F)) : (⟨S4096x786, .f32⟩ : BufTy).Contents (Elt F) :=
  concatenate S4096x786 1 [⟨S4096x768, a⟩, ⟨S4096x18, b⟩] concatenates_S4096x768_S4096x18_S4096x786_d1

/-- The reference's operations 1 … 30. -/
abbrev ops_part0_0 : List (HloOp τ sig (Elt F)) :=
  [ unary main_arg2 main_v0 ((transpose S786x1024 [1, 0] · transposes_S1024x786_S786x1024_1_0) : T F .f32 S1024x786 → T F .f32 S786x1024),
    binary main_arg0 main_v0 main_v1 ((fun l r => Host.dotGeneral dot_S4096x786_S786x1024_S4096x1024_1_0_0_1_n_n none l r) : T F .f32 S4096x786 → T F .f32 S786x1024 → T F .f32 S4096x1024),
    unary main_arg3 main_v2 (broadcastInDim S1x1024 ![1] bcast_S1024_S1x1024_1 : T F .f32 S1024 → T F .f32 S1x1024),
    unary main_v2 main_v3 (broadcastInDim S4096x1024 ![0, 1] bcast_S1x1024_S4096x1024_0_1 : T F .f32 S1x1024 → T F .f32 S4096x1024),
    binary main_v1 main_v3 main_v4 (addf : T F .f32 S4096x1024 → T F .f32 S4096x1024 → T F .f32 S4096x1024),
    unary main_v4 main_call0_v0 (Host.negf : T F .f32 S4096x1024 → T F .f32 S4096x1024),
    unary main_call0_v0 main_call0_v1 (Host.exp : T F .f32 S4096x1024 → T F .f32 S4096x1024),
    nullary main_call0_cst ((constant S_ .f32 0x3F800000#32) : T F .f32 S_),
    unary main_call0_cst main_call0_v2 ((broadcastInDim S4096x1024 ![] bcast_S_S4096x1024) : T F .f32 S_ → T F .f32 S4096x1024),
    binary main_call0_v2 main_call0_v1 main_call0_v3 (addf : T F .f32 S4096x1024 → T F .f32 S4096x1024 → T F .f32 S4096x1024),
    nullary main_call0_cst_0 ((constant S_ .f32 0x3F800000#32) : T F .f32 S_),
    unary main_call0_cst_0 main_call0_v4 ((broadcastInDim S4096x1024 ![] bcast_S_S4096x1024) : T F .f32 S_ → T F .f32 S4096x1024),
    binary main_call0_v4 main_call0_v3 main_call0_v5 (Host.divf : T F .f32 S4096x1024 → T F .f32 S4096x1024 → T F .f32 S4096x1024),
    binary main_v4 main_call0_v5 main_v5 (mulf : T F .f32 S4096x1024 → T F .f32 S4096x1024 → T F .f32 S4096x1024),
    unary main_arg4 main_v6 ((transpose S1024x512 [1, 0] · transposes_S512x1024_S1024x512_1_0) : T F .f32 S512x1024 → T F .f32 S1024x512),
    binary main_v5 main_v6 main_v7 ((fun l r => Host.dotGeneral dot_S4096x1024_S1024x512_S4096x512_1_0_0_1_n_n none l r) : T F .f32 S4096x1024 → T F .f32 S1024x512 → T F .f32 S4096x512),
    unary main_arg5 main_v8 (broadcastInDim S1x512 ![1] bcast_S512_S1x512_1 : T F .f32 S512 → T F .f32 S1x512),
    unary main_v8 main_v9 (broadcastInDim S4096x512 ![0, 1] bcast_S1x512_S4096x512_0_1 : T F .f32 S1x512 → T F .f32 S4096x512),
    binary main_v7 main_v9 main_v10 (addf : T F .f32 S4096x512 → T F .f32 S4096x512 → T F .f32 S4096x512),
    unary main_v10 main_call1_v0 (Host.negf : T F .f32 S4096x512 → T F .f32 S4096x512),
    unary main_call1_v0 main_call1_v1 (Host.exp : T F .f32 S4096x512 → T F .f32 S4096x512),
    nullary main_call1_cst ((constant S_ .f32 0x3F800000#32) : T F .f32 S_),
    unary main_call1_cst main_call1_v2 ((broadcastInDim S4096x512 ![] bcast_S_S4096x512) : T F .f32 S_ → T F .f32 S4096x512),
    binary main_call1_v2 main_call1_v1 main_call1_v3 (addf : T F .f32 S4096x512 → T F .f32 S4096x512 → T F .f32 S4096x512),
    nullary main_call1_cst_0 ((constant S_ .f32 0x3F800000#32) : T F .f32 S_),
    unary main_call1_cst_0 main_call1_v4 ((broadcastInDim S4096x512 ![] bcast_S_S4096x512) : T F .f32 S_ → T F .f32 S4096x512),
    binary main_call1_v4 main_call1_v3 main_call1_v5 (Host.divf : T F .f32 S4096x512 → T F .f32 S4096x512 → T F .f32 S4096x512),
    binary main_v10 main_call1_v5 main_v11 (mulf : T F .f32 S4096x512 → T F .f32 S4096x512 → T F .f32 S4096x512),
    unary main_arg6 main_v12 ((transpose S512x256 [1, 0] · transposes_S256x512_S512x256_1_0) : T F .f32 S256x512 → T F .f32 S512x256),
    binary main_v11 main_v12 main_v13 ((fun l r => Host.dotGeneral dot_S4096x512_S512x256_S4096x256_1_0_0_1_n_n none l r) : T F .f32 S4096x512 → T F .f32 S512x256 → T F .f32 S4096x256) ]

/-- The reference's operations 31 … 60. -/
abbrev ops_part0_1 : List (HloOp τ sig (Elt F)) :=
  [ unary main_arg7 main_v14 (broadcastInDim S1x256 ![1] bcast_S256_S1x256_1 : T F .f32 S256 → T F .f32 S1x256),
    unary main_v14 main_v15 (broadcastInDim S4096x256 ![0, 1] bcast_S1x256_S4096x256_0_1 : T F .f32 S1x256 → T F .f32 S4096x256),
    binary main_v13 main_v15 main_v16 (addf : T F .f32 S4096x256 → T F .f32 S4096x256 → T F .f32 S4096x256),
    unary main_v16 main_call2_v0 (Host.negf : T F .f32 S4096x256 → T F .f32 S4096x256),
    unary main_call2_v0 main_call2_v1 (Host.exp : T F .f32 S4096x256 → T F .f32 S4096x256),
    nullary main_call2_cst ((constant S_ .f32 0x3F800000#32) : T F .f32 S_),
    unary main_call2_cst main_call2_v2 ((broadcastInDim S4096x256 ![] bcast_S_S4096x256) : T F .f32 S_ → T F .f32 S4096x256),
    binary main_call2_v2 main_call2_v1 main_call2_v3 (addf : T F .f32 S4096x256 → T F .f32 S4096x256 → T F .f32 S4096x256),
    nullary main_call2_cst_0 ((constant S_ .f32 0x3F800000#32) : T F .f32 S_),
    unary main_call2_cst_0 main_call2_v4 ((broadcastInDim S4096x256 ![] bcast_S_S4096x256) : T F .f32 S_ → T F .f32 S4096x256),
    binary main_call2_v4 main_call2_v3 main_call2_v5 (Host.divf : T F .f32 S4096x256 → T F .f32 S4096x256 → T F .f32 S4096x256),
    binary main_v16 main_call2_v5 main_v17 (mulf : T F .f32 S4096x256 → T F .f32 S4096x256 → T F .f32 S4096x256),
    unary main_arg8 main_v18 ((transpose S256x128 [1, 0] · transposes_S128x256_S256x128_1_0) : T F .f32 S128x256 → T F .f32 S256x128),
    binary main_v17 main_v18 main_v19 ((fun l r => Host.dotGeneral dot_S4096x256_S256x128_S4096x128_1_0_0_1_n_n none l r) : T F .f32 S4096x256 → T F .f32 S256x128 → T F .f32 S4096x128),
    unary main_arg9 main_v20 (broadcastInDim S1x128 ![1] bcast_S128_S1x128_1 : T F .f32 S128 → T F .f32 S1x128),
    unary main_v20 main_v21 (broadcastInDim S4096x128 ![0, 1] bcast_S1x128_S4096x128_0_1 : T F .f32 S1x128 → T F .f32 S4096x128),
    binary main_v19 main_v21 main_v22 (addf : T F .f32 S4096x128 → T F .f32 S4096x128 → T F .f32 S4096x128),
    binary main_v22 main_v22 main_v23 (mulf : T F .f32 S4096x128 → T F .f32 S4096x128 → T F .f32 S4096x128),
    nullary main_cst (constant S_ .f32 0x00000000#32),
    binary main_v23 main_cst main_v24 ((fun x v => Host.reduceAdd x v reducesTo_S4096x128_S4096_d1 h_S_) : T F .f32 S4096x128 → T F .f32 S_ → T F .f32 S4096),
    unary main_v24 main_v25 (broadcastInDim S4096x1 ![0] bcast_S4096_S4096x1_0 : T F .f32 S4096 → T F .f32 S4096x1),
    unary main_arg18 main_v26 ((transpose S128x1024 [1, 0] · transposes_S1024x128_S128x1024_1_0) : T F .f32 S1024x128 → T F .f32 S128x1024),
    binary main_v22 main_v26 main_v27 ((fun l r => Host.dotGeneral dot_S4096x128_S128x1024_S4096x1024_1_0_0_1_n_n none l r) : T F .f32 S4096x128 → T F .f32 S128x1024 → T F .f32 S4096x1024),
    nullary main_cst_0 (constant S_ .f32 0x40000000#32),
    unary main_cst_0 main_v28 (broadcastInDim S4096x1024 ![] bcast_S_S4096x1024 : T F .f32 S_ → T F .f32 S4096x1024),
    binary main_v28 main_v27 main_v29 (mulf : T F .f32 S4096x1024 → T F .f32 S4096x1024 → T F .f32 S4096x1024),
    unary main_v25 main_v30 (broadcastInDim S4096x1024 ![0, 1] bcast_S4096x1_S4096x1024_0_1 : T F .f32 S4096x1 → T F .f32 S4096x1024),
    binary main_v30 main_v29 main_v31 (subf : T F .f32 S4096x1024 → T F .f32 S4096x1024 → T F .f32 S4096x1024),
    binary main_arg18 main_arg18 main_v32 (mulf : T F .f32 S1024x128 → T F .f32 S1024x128 → T F .f32 S1024x128),
    nullary main_cst_1 (constant S_ .f32 0x00000000#32) ]

/-- The reference's operations 61 … 88. -/
abbrev ops_part0_2 : List (HloOp τ sig (Elt F)) :=
  [ binary main_v32 main_cst_1 main_v33 ((fun x v => Host.reduceAdd x v reducesTo_S1024x128_S1024_d1 h_S_) : T F .f32 S1024x128 → T F .f32 S_ → T F .f32 S1024),
    unary main_v33 main_v34 (broadcastInDim S1x1024 ![1] bcast_S1024_S1x1024_1 : T F .f32 S1024 → T F .f32 S1x1024),
    unary main_v34 main_v35 (broadcastInDim S4096x1024 ![0, 1] bcast_S1x1024_S4096x1024_0_1 : T F .f32 S1x1024 → T F .f32 S4096x1024),
    binary main_v31 main_v35 main_v36 (addf : T F .f32 S4096x1024 → T F .f32 S4096x1024 → T F .f32 S4096x1024),
    unary main_v36 main_v37 (Host.negf : T F .f32 S4096x1024 → T F .f32 S4096x1024),
    unary main_arg1 main_v38 (broadcastInDim S4096x1024 ![] bcast_S_S4096x1024 : T F .f32 S_ → T F .f32 S4096x1024),
    binary main_v37 main_v38 main_v39 (Host.divf : T F .f32 S4096x1024 → T F .f32 S4096x1024 → T F .f32 S4096x1024),
    nullary main_cst_2 (constant S_ .f32 0xFF800000#32),
    binary main_v39 main_cst_2 main_v40 ((fun x v => Host.reduce FloatOps.maximumf x v reducesTo_S4096x1024_S4096_d1 h_S_) : T F .f32 S4096x1024 → T F .f32 S_ → T F .f32 S4096),
    nullary main_cst_3 (constant S_ .f32 0xFF800000#32),
    unary main_cst_3 main_v41 (broadcastInDim S4096 ![] bcast_S_S4096 : T F .f32 S_ → T F .f32 S4096),
    binary main_v41 main_v40 main_v42 (maximumf : T F .f32 S4096 → T F .f32 S4096 → T F .f32 S4096),
    unary main_v42 main_v43 (broadcastInDim S4096x1 ![0] bcast_S4096_S4096x1_0 : T F .f32 S4096 → T F .f32 S4096x1),
    unary main_v43 main_v44 (broadcastInDim S4096x1024 ![0, 1] bcast_S4096x1_S4096x1024_0_1 : T F .f32 S4096x1 → T F .f32 S4096x1024),
    binary main_v39 main_v44 main_v45 (subf : T F .f32 S4096x1024 → T F .f32 S4096x1024 → T F .f32 S4096x1024),
    unary main_v45 main_v46 (Host.exp : T F .f32 S4096x1024 → T F .f32 S4096x1024),
    nullary main_cst_4 (constant S_ .f32 0x00000000#32),
    binary main_v46 main_cst_4 main_v47 ((fun x v => Host.reduceAdd x v reducesTo_S4096x1024_S4096_d1 h_S_) : T F .f32 S4096x1024 → T F .f32 S_ → T F .f32 S4096),
    unary main_v47 main_v48 (broadcastInDim S4096x1 ![0] bcast_S4096_S4096x1_0 : T F .f32 S4096 → T F .f32 S4096x1),
    unary main_v48 main_v49 (broadcastInDim S4096x1024 ![0, 1] bcast_S4096x1_S4096x1024_0_1 : T F .f32 S4096x1 → T F .f32 S4096x1024),
    binary main_v46 main_v49 main_v50 (Host.divf : T F .f32 S4096x1024 → T F .f32 S4096x1024 → T F .f32 S4096x1024),
    binary main_v50 main_arg18 main_v51 ((fun l r => Host.dotGeneral dot_S4096x1024_S1024x128_S4096x128_1_0_0_1_n_n none l r) : T F .f32 S4096x1024 → T F .f32 S1024x128 → T F .f32 S4096x128),
    nullary main_call3_v0 ((iotaInDim S4096x1024 32 1) : T F .i32 S4096x1024),
    nullary main_call3_cst ((constant S_ .f32 0x7F800000#32) : T F .f32 S_),
    nullary main_call3_c ((constantI S_ 32 0#32) : T F .i32 S_),
    quaternary main_v36 main_call3_v0 main_call3_cst main_call3_c main_call3_v1_0 ((fun x y u v j => (Host.argReduce reducer_argmin_f32_i32 x y u v reducesTo_S4096x1024_S4096_d1 h_S_ j).1) : T F .f32 S4096x1024 → T F .i32 S4096x1024 → T F .f32 S_ → T F .i32 S_ → T F .f32 S4096),
    quaternary main_v36 main_call3_v0 main_call3_cst main_call3_c main_v52 ((fun x y u v j => (Host.argReduce reducer_argmin_f32_i32 x y u v reducesTo_S4096x1024_S4096_d1 h_S_ j).2) : T F .f32 S4096x1024 → T F .i32 S4096x1024 → T F .f32 S_ → T F .i32 S_ → T F .i32 S4096),
    binary main_v51 main_v22 main_v53 (subf : T F .f32 S4096x128 → T F .f32 S4096x128 → T F .f32 S4096x128) ]

/-- The operations of the program's part 0. -/
def ops_part0 : List (HloOp τ sig (Elt F)) :=
  ops_part0_0 ++ (ops_part0_1 ++ (ops_part0_2))

/-- The reference's operations 89 … 118. -/
abbrev ops_part1_0 : List (HloOp τ sig (Elt F)) :=
  [ binary main_v53 main_v53 main_v54 (mulf : T F .f32 S4096x128 → T F .f32 S4096x128 → T F .f32 S4096x128),
    nullary main_cst_5 (constant S_ .f32 0x00000000#32),
    binary main_v54 main_cst_5 main_v55 ((fun x v => Host.reduceAdd x v reducesTo_S4096x128_S4096_d1 h_S_) : T F .f32 S4096x128 → T F .f32 S_ → T F .f32 S4096),
    nullary main_cst_6 (constant S_ .f32 0x3E800000#32),
    unary main_cst_6 main_v56 (broadcastInDim S4096 ![] bcast_S_S4096 : T F .f32 S_ → T F .f32 S4096),
    binary main_v56 main_v55 main_v57 (mulf : T F .f32 S4096 → T F .f32 S4096 → T F .f32 S4096),
    binary main_v51 main_v22 main_v58 (subf : T F .f32 S4096x128 → T F .f32 S4096x128 → T F .f32 S4096x128),
    binary main_v58 main_v58 main_v59 (mulf : T F .f32 S4096x128 → T F .f32 S4096x128 → T F .f32 S4096x128),
    nullary main_cst_7 (constant S_ .f32 0x00000000#32),
    binary main_v59 main_cst_7 main_v60 ((fun x v => Host.reduceAdd x v reducesTo_S4096x128_S4096_d1 h_S_) : T F .f32 S4096x128 → T F .f32 S_ → T F .f32 S4096),
    binary main_v57 main_v60 main_v61 (addf : T F .f32 S4096 → T F .f32 S4096 → T F .f32 S4096),
    nullary main_cst_8 (constant S_ .f32 0x00000000#32),
    unary main_cst_8 main_v62 (broadcastInDim S4096 ![] bcast_S_S4096 : T F .f32 S_ → T F .f32 S4096),
    binary main_v62 main_v61 main_v63 (addf : T F .f32 S4096 → T F .f32 S4096 → T F .f32 S4096),
    binary main_v22 main_v51 main_v64 (subf : T F .f32 S4096x128 → T F .f32 S4096x128 → T F .f32 S4096x128),
    binary main_v64 main_v64 main_v65 (mulf : T F .f32 S4096x128 → T F .f32 S4096x128 → T F .f32 S4096x128),
    nullary main_cst_9 (constant S_ .f32 0x00000000#32),
    binary main_v65 main_cst_9 main_v66 ((fun x v => Host.reduceAdd x v reducesTo_S4096x128_S4096_d1 h_S_) : T F .f32 S4096x128 → T F .f32 S_ → T F .f32 S4096),
    unary main_v66 main_v67 (broadcastInDim S4096x1 ![0] bcast_S4096_S4096x1_0 : T F .f32 S4096 → T F .f32 S4096x1),
    unary main_arg19 main_v68 ((transpose S128x1024 [1, 0] · transposes_S1024x128_S128x1024_1_0) : T F .f32 S1024x128 → T F .f32 S128x1024),
    binary main_v64 main_v68 main_v69 ((fun l r => Host.dotGeneral dot_S4096x128_S128x1024_S4096x1024_1_0_0_1_n_n none l r) : T F .f32 S4096x128 → T F .f32 S128x1024 → T F .f32 S4096x1024),
    nullary main_cst_10 (constant S_ .f32 0x40000000#32),
    unary main_cst_10 main_v70 (broadcastInDim S4096x1024 ![] bcast_S_S4096x1024 : T F .f32 S_ → T F .f32 S4096x1024),
    binary main_v70 main_v69 main_v71 (mulf : T F .f32 S4096x1024 → T F .f32 S4096x1024 → T F .f32 S4096x1024),
    unary main_v67 main_v72 (broadcastInDim S4096x1024 ![0, 1] bcast_S4096x1_S4096x1024_0_1 : T F .f32 S4096x1 → T F .f32 S4096x1024),
    binary main_v72 main_v71 main_v73 (subf : T F .f32 S4096x1024 → T F .f32 S4096x1024 → T F .f32 S4096x1024),
    binary main_arg19 main_arg19 main_v74 (mulf : T F .f32 S1024x128 → T F .f32 S1024x128 → T F .f32 S1024x128),
    nullary main_cst_11 (constant S_ .f32 0x00000000#32),
    binary main_v74 main_cst_11 main_v75 ((fun x v => Host.reduceAdd x v reducesTo_S1024x128_S1024_d1 h_S_) : T F .f32 S1024x128 → T F .f32 S_ → T F .f32 S1024),
    unary main_v75 main_v76 (broadcastInDim S1x1024 ![1] bcast_S1024_S1x1024_1 : T F .f32 S1024 → T F .f32 S1x1024) ]

/-- The reference's operations 119 … 148. -/
abbrev ops_part1_1 : List (HloOp τ sig (Elt F)) :=
  [ unary main_v76 main_v77 (broadcastInDim S4096x1024 ![0, 1] bcast_S1x1024_S4096x1024_0_1 : T F .f32 S1x1024 → T F .f32 S4096x1024),
    binary main_v73 main_v77 main_v78 (addf : T F .f32 S4096x1024 → T F .f32 S4096x1024 → T F .f32 S4096x1024),
    unary main_v78 main_v79 (Host.negf : T F .f32 S4096x1024 → T F .f32 S4096x1024),
    unary main_arg1 main_v80 (broadcastInDim S4096x1024 ![] bcast_S_S4096x1024 : T F .f32 S_ → T F .f32 S4096x1024),
    binary main_v79 main_v80 main_v81 (Host.divf : T F .f32 S4096x1024 → T F .f32 S4096x1024 → T F .f32 S4096x1024),
    nullary main_cst_12 (constant S_ .f32 0xFF800000#32),
    binary main_v81 main_cst_12 main_v82 ((fun x v => Host.reduce FloatOps.maximumf x v reducesTo_S4096x1024_S4096_d1 h_S_) : T F .f32 S4096x1024 → T F .f32 S_ → T F .f32 S4096),
    nullary main_cst_13 (constant S_ .f32 0xFF800000#32),
    unary main_cst_13 main_v83 (broadcastInDim S4096 ![] bcast_S_S4096 : T F .f32 S_ → T F .f32 S4096),
    binary main_v83 main_v82 main_v84 (maximumf : T F .f32 S4096 → T F .f32 S4096 → T F .f32 S4096),
    unary main_v84 main_v85 (broadcastInDim S4096x1 ![0] bcast_S4096_S4096x1_0 : T F .f32 S4096 → T F .f32 S4096x1),
    unary main_v85 main_v86 (broadcastInDim S4096x1024 ![0, 1] bcast_S4096x1_S4096x1024_0_1 : T F .f32 S4096x1 → T F .f32 S4096x1024),
    binary main_v81 main_v86 main_v87 (subf : T F .f32 S4096x1024 → T F .f32 S4096x1024 → T F .f32 S4096x1024),
    unary main_v87 main_v88 (Host.exp : T F .f32 S4096x1024 → T F .f32 S4096x1024),
    nullary main_cst_14 (constant S_ .f32 0x00000000#32),
    binary main_v88 main_cst_14 main_v89 ((fun x v => Host.reduceAdd x v reducesTo_S4096x1024_S4096_d1 h_S_) : T F .f32 S4096x1024 → T F .f32 S_ → T F .f32 S4096),
    unary main_v89 main_v90 (broadcastInDim S4096x1 ![0] bcast_S4096_S4096x1_0 : T F .f32 S4096 → T F .f32 S4096x1),
    unary main_v90 main_v91 (broadcastInDim S4096x1024 ![0, 1] bcast_S4096x1_S4096x1024_0_1 : T F .f32 S4096x1 → T F .f32 S4096x1024),
    binary main_v88 main_v91 main_v92 (Host.divf : T F .f32 S4096x1024 → T F .f32 S4096x1024 → T F .f32 S4096x1024),
    binary main_v92 main_arg19 main_v93 ((fun l r => Host.dotGeneral dot_S4096x1024_S1024x128_S4096x128_1_0_0_1_n_n none l r) : T F .f32 S4096x1024 → T F .f32 S1024x128 → T F .f32 S4096x128),
    nullary main_call4_v0 ((iotaInDim S4096x1024 32 1) : T F .i32 S4096x1024),
    nullary main_call4_cst ((constant S_ .f32 0x7F800000#32) : T F .f32 S_),
    nullary main_call4_c ((constantI S_ 32 0#32) : T F .i32 S_),
    quaternary main_v78 main_call4_v0 main_call4_cst main_call4_c main_call4_v1_0 ((fun x y u v j => (Host.argReduce reducer_argmin_f32_i32 x y u v reducesTo_S4096x1024_S4096_d1 h_S_ j).1) : T F .f32 S4096x1024 → T F .i32 S4096x1024 → T F .f32 S_ → T F .i32 S_ → T F .f32 S4096),
    quaternary main_v78 main_call4_v0 main_call4_cst main_call4_c main_v94 ((fun x y u v j => (Host.argReduce reducer_argmin_f32_i32 x y u v reducesTo_S4096x1024_S4096_d1 h_S_ j).2) : T F .f32 S4096x1024 → T F .i32 S4096x1024 → T F .f32 S_ → T F .i32 S_ → T F .i32 S4096),
    binary main_v93 main_v64 main_v95 (subf : T F .f32 S4096x128 → T F .f32 S4096x128 → T F .f32 S4096x128),
    binary main_v95 main_v95 main_v96 (mulf : T F .f32 S4096x128 → T F .f32 S4096x128 → T F .f32 S4096x128),
    nullary main_cst_15 (constant S_ .f32 0x00000000#32),
    binary main_v96 main_cst_15 main_v97 ((fun x v => Host.reduceAdd x v reducesTo_S4096x128_S4096_d1 h_S_) : T F .f32 S4096x128 → T F .f32 S_ → T F .f32 S4096),
    nullary main_cst_16 (constant S_ .f32 0x3E800000#32) ]

/-- The reference's operations 149 … 152. -/
abbrev ops_part1_2 : List (HloOp τ sig (Elt F)) :=
  [ unary main_cst_16 main_v98 (broadcastInDim S4096 ![] bcast_S_S4096 : T F .f32 S_ → T F .f32 S4096),
    binary main_v98 main_v97 main_v99 (mulf : T F .f32 S4096 → T F .f32 S4096 → T F .f32 S4096),
    binary main_v93 main_v64 main_v100 (subf : T F .f32 S4096x128 → T F .f32 S4096x128 → T F .f32 S4096x128),
    binary main_v100 main_v100 main_v101 (mulf : T F .f32 S4096x128 → T F .f32 S4096x128 → T F .f32 S4096x128) ]

/-- The operations of the program's part 1. -/
def ops_part1 : List (HloOp τ sig (Elt F)) :=
  ops_part1_0 ++ (ops_part1_1 ++ (ops_part1_2))

/-- The reference's operations 153 … 182. -/
abbrev ops_part2_0 : List (HloOp τ sig (Elt F)) :=
  [ nullary main_cst_17 (constant S_ .f32 0x00000000#32),
    binary main_v101 main_cst_17 main_v102 ((fun x v => Host.reduceAdd x v reducesTo_S4096x128_S4096_d1 h_S_) : T F .f32 S4096x128 → T F .f32 S_ → T F .f32 S4096),
    binary main_v99 main_v102 main_v103 (addf : T F .f32 S4096 → T F .f32 S4096 → T F .f32 S4096),
    binary main_v63 main_v103 main_v104 (addf : T F .f32 S4096 → T F .f32 S4096 → T F .f32 S4096),
    binary main_v64 main_v93 main_v105 (subf : T F .f32 S4096x128 → T F .f32 S4096x128 → T F .f32 S4096x128),
    binary main_v105 main_v105 main_v106 (mulf : T F .f32 S4096x128 → T F .f32 S4096x128 → T F .f32 S4096x128),
    nullary main_cst_18 (constant S_ .f32 0x00000000#32),
    binary main_v106 main_cst_18 main_v107 ((fun x v => Host.reduceAdd x v reducesTo_S4096x128_S4096_d1 h_S_) : T F .f32 S4096x128 → T F .f32 S_ → T F .f32 S4096),
    unary main_v107 main_v108 (broadcastInDim S4096x1 ![0] bcast_S4096_S4096x1_0 : T F .f32 S4096 → T F .f32 S4096x1),
    unary main_arg20 main_v109 ((transpose S128x1024 [1, 0] · transposes_S1024x128_S128x1024_1_0) : T F .f32 S1024x128 → T F .f32 S128x1024),
    binary main_v105 main_v109 main_v110 ((fun l r => Host.dotGeneral dot_S4096x128_S128x1024_S4096x1024_1_0_0_1_n_n none l r) : T F .f32 S4096x128 → T F .f32 S128x1024 → T F .f32 S4096x1024),
    nullary main_cst_19 (constant S_ .f32 0x40000000#32),
    unary main_cst_19 main_v111 (broadcastInDim S4096x1024 ![] bcast_S_S4096x1024 : T F .f32 S_ → T F .f32 S4096x1024),
    binary main_v111 main_v110 main_v112 (mulf : T F .f32 S4096x1024 → T F .f32 S4096x1024 → T F .f32 S4096x1024),
    unary main_v108 main_v113 (broadcastInDim S4096x1024 ![0, 1] bcast_S4096x1_S4096x1024_0_1 : T F .f32 S4096x1 → T F .f32 S4096x1024),
    binary main_v113 main_v112 main_v114 (subf : T F .f32 S4096x1024 → T F .f32 S4096x1024 → T F .f32 S4096x1024),
    binary main_arg20 main_arg20 main_v115 (mulf : T F .f32 S1024x128 → T F .f32 S1024x128 → T F .f32 S1024x128),
    nullary main_cst_20 (constant S_ .f32 0x00000000#32),
    binary main_v115 main_cst_20 main_v116 ((fun x v => Host.reduceAdd x v reducesTo_S1024x128_S1024_d1 h_S_) : T F .f32 S1024x128 → T F .f32 S_ → T F .f32 S1024),
    unary main_v116 main_v117 (broadcastInDim S1x1024 ![1] bcast_S1024_S1x1024_1 : T F .f32 S1024 → T F .f32 S1x1024),
    unary main_v117 main_v118 (broadcastInDim S4096x1024 ![0, 1] bcast_S1x1024_S4096x1024_0_1 : T F .f32 S1x1024 → T F .f32 S4096x1024),
    binary main_v114 main_v118 main_v119 (addf : T F .f32 S4096x1024 → T F .f32 S4096x1024 → T F .f32 S4096x1024),
    unary main_v119 main_v120 (Host.negf : T F .f32 S4096x1024 → T F .f32 S4096x1024),
    unary main_arg1 main_v121 (broadcastInDim S4096x1024 ![] bcast_S_S4096x1024 : T F .f32 S_ → T F .f32 S4096x1024),
    binary main_v120 main_v121 main_v122 (Host.divf : T F .f32 S4096x1024 → T F .f32 S4096x1024 → T F .f32 S4096x1024),
    nullary main_cst_21 (constant S_ .f32 0xFF800000#32),
    binary main_v122 main_cst_21 main_v123 ((fun x v => Host.reduce FloatOps.maximumf x v reducesTo_S4096x1024_S4096_d1 h_S_) : T F .f32 S4096x1024 → T F .f32 S_ → T F .f32 S4096),
    nullary main_cst_22 (constant S_ .f32 0xFF800000#32),
    unary main_cst_22 main_v124 (broadcastInDim S4096 ![] bcast_S_S4096 : T F .f32 S_ → T F .f32 S4096),
    binary main_v124 main_v123 main_v125 (maximumf : T F .f32 S4096 → T F .f32 S4096 → T F .f32 S4096) ]

/-- The reference's operations 183 … 212. -/
abbrev ops_part2_1 : List (HloOp τ sig (Elt F)) :=
  [ unary main_v125 main_v126 (broadcastInDim S4096x1 ![0] bcast_S4096_S4096x1_0 : T F .f32 S4096 → T F .f32 S4096x1),
    unary main_v126 main_v127 (broadcastInDim S4096x1024 ![0, 1] bcast_S4096x1_S4096x1024_0_1 : T F .f32 S4096x1 → T F .f32 S4096x1024),
    binary main_v122 main_v127 main_v128 (subf : T F .f32 S4096x1024 → T F .f32 S4096x1024 → T F .f32 S4096x1024),
    unary main_v128 main_v129 (Host.exp : T F .f32 S4096x1024 → T F .f32 S4096x1024),
    nullary main_cst_23 (constant S_ .f32 0x00000000#32),
    binary main_v129 main_cst_23 main_v130 ((fun x v => Host.reduceAdd x v reducesTo_S4096x1024_S4096_d1 h_S_) : T F .f32 S4096x1024 → T F .f32 S_ → T F .f32 S4096),
    unary main_v130 main_v131 (broadcastInDim S4096x1 ![0] bcast_S4096_S4096x1_0 : T F .f32 S4096 → T F .f32 S4096x1),
    unary main_v131 main_v132 (broadcastInDim S4096x1024 ![0, 1] bcast_S4096x1_S4096x1024_0_1 : T F .f32 S4096x1 → T F .f32 S4096x1024),
    binary main_v129 main_v132 main_v133 (Host.divf : T F .f32 S4096x1024 → T F .f32 S4096x1024 → T F .f32 S4096x1024),
    binary main_v133 main_arg20 main_v134 ((fun l r => Host.dotGeneral dot_S4096x1024_S1024x128_S4096x128_1_0_0_1_n_n none l r) : T F .f32 S4096x1024 → T F .f32 S1024x128 → T F .f32 S4096x128),
    nullary main_call5_v0 ((iotaInDim S4096x1024 32 1) : T F .i32 S4096x1024),
    nullary main_call5_cst ((constant S_ .f32 0x7F800000#32) : T F .f32 S_),
    nullary main_call5_c ((constantI S_ 32 0#32) : T F .i32 S_),
    quaternary main_v119 main_call5_v0 main_call5_cst main_call5_c main_call5_v1_0 ((fun x y u v j => (Host.argReduce reducer_argmin_f32_i32 x y u v reducesTo_S4096x1024_S4096_d1 h_S_ j).1) : T F .f32 S4096x1024 → T F .i32 S4096x1024 → T F .f32 S_ → T F .i32 S_ → T F .f32 S4096),
    quaternary main_v119 main_call5_v0 main_call5_cst main_call5_c main_v135 ((fun x y u v j => (Host.argReduce reducer_argmin_f32_i32 x y u v reducesTo_S4096x1024_S4096_d1 h_S_ j).2) : T F .f32 S4096x1024 → T F .i32 S4096x1024 → T F .f32 S_ → T F .i32 S_ → T F .i32 S4096),
    binary main_v134 main_v105 main_v136 (subf : T F .f32 S4096x128 → T F .f32 S4096x128 → T F .f32 S4096x128),
    binary main_v136 main_v136 main_v137 (mulf : T F .f32 S4096x128 → T F .f32 S4096x128 → T F .f32 S4096x128),
    nullary main_cst_24 (constant S_ .f32 0x00000000#32),
    binary main_v137 main_cst_24 main_v138 ((fun x v => Host.reduceAdd x v reducesTo_S4096x128_S4096_d1 h_S_) : T F .f32 S4096x128 → T F .f32 S_ → T F .f32 S4096),
    nullary main_cst_25 (constant S_ .f32 0x3E800000#32),
    unary main_cst_25 main_v139 (broadcastInDim S4096 ![] bcast_S_S4096 : T F .f32 S_ → T F .f32 S4096),
    binary main_v139 main_v138 main_v140 (mulf : T F .f32 S4096 → T F .f32 S4096 → T F .f32 S4096),
    binary main_v134 main_v105 main_v141 (subf : T F .f32 S4096x128 → T F .f32 S4096x128 → T F .f32 S4096x128),
    binary main_v141 main_v141 main_v142 (mulf : T F .f32 S4096x128 → T F .f32 S4096x128 → T F .f32 S4096x128),
    nullary main_cst_26 (constant S_ .f32 0x00000000#32),
    binary main_v142 main_cst_26 main_v143 ((fun x v => Host.reduceAdd x v reducesTo_S4096x128_S4096_d1 h_S_) : T F .f32 S4096x128 → T F .f32 S_ → T F .f32 S4096),
    binary main_v140 main_v143 main_v144 (addf : T F .f32 S4096 → T F .f32 S4096 → T F .f32 S4096),
    binary main_v104 main_v144 main_v145 (addf : T F .f32 S4096 → T F .f32 S4096 → T F .f32 S4096),
    binary main_v105 main_v134 main_v146 (subf : T F .f32 S4096x128 → T F .f32 S4096x128 → T F .f32 S4096x128),
    unary main_v51 main_v147 (broadcastInDim S4096x128x1 ![0, 1] bcast_S4096x128_S4096x128x1_0_1 : T F .f32 S4096x128 → T F .f32 S4096x128x1) ]

/-- The reference's operations 213 … 216. -/
abbrev ops_part2_2 : List (HloOp τ sig (Elt F)) :=
  [ unary main_v93 main_v148 (broadcastInDim S4096x128x1 ![0, 1] bcast_S4096x128_S4096x128x1_0_1 : T F .f32 S4096x128 → T F .f32 S4096x128x1),
    unary main_v134 main_v149 (broadcastInDim S4096x128x1 ![0, 1] bcast_S4096x128_S4096x128x1_0_1 : T F .f32 S4096x128 → T F .f32 S4096x128x1),
    nary ![main_v147, main_v148, main_v149] main_v150 (fun u => stackEmb (u 0) (u 1) (u 2)),
    unary main_v52 main_v151 (broadcastInDim S4096x1 ![0] bcast_S4096_S4096x1_0 : T F .i32 S4096 → T F .i32 S4096x1) ]

/-- The operations of the program's part 2. -/
def ops_part2 : List (HloOp τ sig (Elt F)) :=
  ops_part2_0 ++ (ops_part2_1 ++ (ops_part2_2))

/-- The reference's operations 217 … 246. -/
abbrev ops_part3_0 : List (HloOp τ sig (Elt F)) :=
  [ unary main_v94 main_v152 (broadcastInDim S4096x1 ![0] bcast_S4096_S4096x1_0 : T F .i32 S4096 → T F .i32 S4096x1),
    unary main_v135 main_v153 (broadcastInDim S4096x1 ![0] bcast_S4096_S4096x1_0 : T F .i32 S4096 → T F .i32 S4096x1),
    nary ![main_v151, main_v152, main_v153] main_v154 (fun u => stackIds (u 0) (u 1) (u 2)),
    nullary main_cst_27 (constant S_ .f32 0x00000000#32),
    binary main_v150 main_cst_27 main_v155 ((fun x v => Host.reduceAdd x v reducesTo_S4096x128x3_S4096x128_d2 h_S_) : T F .f32 S4096x128x3 → T F .f32 S_ → T F .f32 S4096x128),
    unary main_arg10 main_v156 ((transpose S128x256 [1, 0] · transposes_S256x128_S128x256_1_0) : T F .f32 S256x128 → T F .f32 S128x256),
    binary main_v155 main_v156 main_v157 ((fun l r => Host.dotGeneral dot_S4096x128_S128x256_S4096x256_1_0_0_1_n_n none l r) : T F .f32 S4096x128 → T F .f32 S128x256 → T F .f32 S4096x256),
    unary main_arg11 main_v158 (broadcastInDim S1x256 ![1] bcast_S256_S1x256_1 : T F .f32 S256 → T F .f32 S1x256),
    unary main_v158 main_v159 (broadcastInDim S4096x256 ![0, 1] bcast_S1x256_S4096x256_0_1 : T F .f32 S1x256 → T F .f32 S4096x256),
    binary main_v157 main_v159 main_v160 (addf : T F .f32 S4096x256 → T F .f32 S4096x256 → T F .f32 S4096x256),
    unary main_v160 main_call6_v0 (Host.negf : T F .f32 S4096x256 → T F .f32 S4096x256),
    unary main_call6_v0 main_call6_v1 (Host.exp : T F .f32 S4096x256 → T F .f32 S4096x256),
    nullary main_call6_cst ((constant S_ .f32 0x3F800000#32) : T F .f32 S_),
    unary main_call6_cst main_call6_v2 ((broadcastInDim S4096x256 ![] bcast_S_S4096x256) : T F .f32 S_ → T F .f32 S4096x256),
    binary main_call6_v2 main_call6_v1 main_call6_v3 (addf : T F .f32 S4096x256 → T F .f32 S4096x256 → T F .f32 S4096x256),
    nullary main_call6_cst_0 ((constant S_ .f32 0x3F800000#32) : T F .f32 S_),
    unary main_call6_cst_0 main_call6_v4 ((broadcastInDim S4096x256 ![] bcast_S_S4096x256) : T F .f32 S_ → T F .f32 S4096x256),
    binary main_call6_v4 main_call6_v3 main_call6_v5 (Host.divf : T F .f32 S4096x256 → T F .f32 S4096x256 → T F .f32 S4096x256),
    binary main_v160 main_call6_v5 main_v161 (mulf : T F .f32 S4096x256 → T F .f32 S4096x256 → T F .f32 S4096x256),
    unary main_arg12 main_v162 ((transpose S256x512 [1, 0] · transposes_S512x256_S256x512_1_0) : T F .f32 S512x256 → T F .f32 S256x512),
    binary main_v161 main_v162 main_v163 ((fun l r => Host.dotGeneral dot_S4096x256_S256x512_S4096x512_1_0_0_1_n_n none l r) : T F .f32 S4096x256 → T F .f32 S256x512 → T F .f32 S4096x512),
    unary main_arg13 main_v164 (broadcastInDim S1x512 ![1] bcast_S512_S1x512_1 : T F .f32 S512 → T F .f32 S1x512),
    unary main_v164 main_v165 (broadcastInDim S4096x512 ![0, 1] bcast_S1x512_S4096x512_0_1 : T F .f32 S1x512 → T F .f32 S4096x512),
    binary main_v163 main_v165 main_v166 (addf : T F .f32 S4096x512 → T F .f32 S4096x512 → T F .f32 S4096x512),
    unary main_v166 main_call7_v0 (Host.negf : T F .f32 S4096x512 → T F .f32 S4096x512),
    unary main_call7_v0 main_call7_v1 (Host.exp : T F .f32 S4096x512 → T F .f32 S4096x512),
    nullary main_call7_cst ((constant S_ .f32 0x3F800000#32) : T F .f32 S_),
    unary main_call7_cst main_call7_v2 ((broadcastInDim S4096x512 ![] bcast_S_S4096x512) : T F .f32 S_ → T F .f32 S4096x512),
    binary main_call7_v2 main_call7_v1 main_call7_v3 (addf : T F .f32 S4096x512 → T F .f32 S4096x512 → T F .f32 S4096x512),
    nullary main_call7_cst_0 ((constant S_ .f32 0x3F800000#32) : T F .f32 S_) ]

/-- The reference's operations 247 … 276. -/
abbrev ops_part3_1 : List (HloOp τ sig (Elt F)) :=
  [ unary main_call7_cst_0 main_call7_v4 ((broadcastInDim S4096x512 ![] bcast_S_S4096x512) : T F .f32 S_ → T F .f32 S4096x512),
    binary main_call7_v4 main_call7_v3 main_call7_v5 (Host.divf : T F .f32 S4096x512 → T F .f32 S4096x512 → T F .f32 S4096x512),
    binary main_v166 main_call7_v5 main_v167 (mulf : T F .f32 S4096x512 → T F .f32 S4096x512 → T F .f32 S4096x512),
    unary main_arg14 main_v168 ((transpose S512x1024 [1, 0] · transposes_S1024x512_S512x1024_1_0) : T F .f32 S1024x512 → T F .f32 S512x1024),
    binary main_v167 main_v168 main_v169 ((fun l r => Host.dotGeneral dot_S4096x512_S512x1024_S4096x1024_1_0_0_1_n_n none l r) : T F .f32 S4096x512 → T F .f32 S512x1024 → T F .f32 S4096x1024),
    unary main_arg15 main_v170 (broadcastInDim S1x1024 ![1] bcast_S1024_S1x1024_1 : T F .f32 S1024 → T F .f32 S1x1024),
    unary main_v170 main_v171 (broadcastInDim S4096x1024 ![0, 1] bcast_S1x1024_S4096x1024_0_1 : T F .f32 S1x1024 → T F .f32 S4096x1024),
    binary main_v169 main_v171 main_v172 (addf : T F .f32 S4096x1024 → T F .f32 S4096x1024 → T F .f32 S4096x1024),
    unary main_v172 main_call8_v0 (Host.negf : T F .f32 S4096x1024 → T F .f32 S4096x1024),
    unary main_call8_v0 main_call8_v1 (Host.exp : T F .f32 S4096x1024 → T F .f32 S4096x1024),
    nullary main_call8_cst ((constant S_ .f32 0x3F800000#32) : T F .f32 S_),
    unary main_call8_cst main_call8_v2 ((broadcastInDim S4096x1024 ![] bcast_S_S4096x1024) : T F .f32 S_ → T F .f32 S4096x1024),
    binary main_call8_v2 main_call8_v1 main_call8_v3 (addf : T F .f32 S4096x1024 → T F .f32 S4096x1024 → T F .f32 S4096x1024),
    nullary main_call8_cst_0 ((constant S_ .f32 0x3F800000#32) : T F .f32 S_),
    unary main_call8_cst_0 main_call8_v4 ((broadcastInDim S4096x1024 ![] bcast_S_S4096x1024) : T F .f32 S_ → T F .f32 S4096x1024),
    binary main_call8_v4 main_call8_v3 main_call8_v5 (Host.divf : T F .f32 S4096x1024 → T F .f32 S4096x1024 → T F .f32 S4096x1024),
    binary main_v172 main_call8_v5 main_v173 (mulf : T F .f32 S4096x1024 → T F .f32 S4096x1024 → T F .f32 S4096x1024),
    unary main_arg16 main_v174 ((transpose S1024x786 [1, 0] · transposes_S786x1024_S1024x786_1_0) : T F .f32 S786x1024 → T F .f32 S1024x786),
    binary main_v173 main_v174 main_v175 ((fun l r => Host.dotGeneral dot_S4096x1024_S1024x786_S4096x786_1_0_0_1_n_n none l r) : T F .f32 S4096x1024 → T F .f32 S1024x786 → T F .f32 S4096x786),
    unary main_arg17 main_v176 (broadcastInDim S1x786 ![1] bcast_S786_S1x786_1 : T F .f32 S786 → T F .f32 S1x786),
    unary main_v176 main_v177 (broadcastInDim S4096x786 ![0, 1] bcast_S1x786_S4096x786_0_1 : T F .f32 S1x786 → T F .f32 S4096x786),
    binary main_v175 main_v177 main_v178 (addf : T F .f32 S4096x786 → T F .f32 S4096x786 → T F .f32 S4096x786),
    binary main_v178 main_v178 main_call9_v0 (mulf : T F .f32 S4096x786 → T F .f32 S4096x786 → T F .f32 S4096x786),
    nullary main_call9_cst ((constant S_ .f32 0x00000000#32) : T F .f32 S_),
    binary main_call9_v0 main_call9_cst main_call9_v1 ((fun x v => Host.reduceAdd x v reducesTo_S4096x786_S4096_d1 h_S_) : T F .f32 S4096x786 → T F .f32 S_ → T F .f32 S4096),
    unary main_call9_v1 main_call9_v2 ((broadcastInDim S4096x1 ![0] bcast_S4096_S4096x1_0) : T F .f32 S4096 → T F .f32 S4096x1),
    unary main_call9_v2 main_v179 (Host.sqrt : T F .f32 S4096x1 → T F .f32 S4096x1),
    nullary main_cst_28 (constant S_ .f32 0x2B8CBCCC#32),
    unary main_cst_28 main_v180 (broadcastInDim S4096x1 ![] bcast_S_S4096x1 : T F .f32 S_ → T F .f32 S4096x1),
    binary main_v179 main_v180 main_v181 (addf : T F .f32 S4096x1 → T F .f32 S4096x1 → T F .f32 S4096x1) ]

/-- The reference's operations 277 … 306. -/
abbrev ops_part3_2 : List (HloOp τ sig (Elt F)) :=
  [ unary main_v181 main_v182 (broadcastInDim S4096x786 ![0, 1] bcast_S4096x1_S4096x786_0_1 : T F .f32 S4096x1 → T F .f32 S4096x786),
    binary main_v178 main_v182 main_v183 (Host.divf : T F .f32 S4096x786 → T F .f32 S4096x786 → T F .f32 S4096x786),
    unary main_v183 main_v184 ((extractStridedSlice S4096x768 ![0, 0] · slices_S4096x786_S4096x768_0_0) : T F .f32 S4096x786 → T F .f32 S4096x768),
    binary main_v184 main_v184 main_call10_v0 (mulf : T F .f32 S4096x768 → T F .f32 S4096x768 → T F .f32 S4096x768),
    nullary main_call10_cst ((constant S_ .f32 0x00000000#32) : T F .f32 S_),
    binary main_call10_v0 main_call10_cst main_call10_v1 ((fun x v => Host.reduceAdd x v reducesTo_S4096x768_S4096_d1 h_S_) : T F .f32 S4096x768 → T F .f32 S_ → T F .f32 S4096),
    unary main_call10_v1 main_call10_v2 ((broadcastInDim S4096x1 ![0] bcast_S4096_S4096x1_0) : T F .f32 S4096 → T F .f32 S4096x1),
    unary main_call10_v2 main_v185 (Host.sqrt : T F .f32 S4096x1 → T F .f32 S4096x1),
    nullary main_cst_29 (constant S_ .f32 0x2B8CBCCC#32),
    unary main_cst_29 main_v186 (broadcastInDim S4096x1 ![] bcast_S_S4096x1 : T F .f32 S_ → T F .f32 S4096x1),
    binary main_v185 main_v186 main_v187 (addf : T F .f32 S4096x1 → T F .f32 S4096x1 → T F .f32 S4096x1),
    unary main_v187 main_v188 (broadcastInDim S4096x768 ![0, 1] bcast_S4096x1_S4096x768_0_1 : T F .f32 S4096x1 → T F .f32 S4096x768),
    binary main_v184 main_v188 main_v189 (Host.divf : T F .f32 S4096x768 → T F .f32 S4096x768 → T F .f32 S4096x768),
    unary main_v183 main_v190 ((extractStridedSlice S4096x18 ![0, 768] · slices_S4096x786_S4096x18_0_768) : T F .f32 S4096x786 → T F .f32 S4096x18),
    binary main_v189 main_v190 main_v191 (joinOut : T F .f32 S4096x768 → T F .f32 S4096x18 → T F .f32 S4096x786),
    unary main_v191 main_v192 ((extractStridedSlice S4096x768 ![0, 0] · slices_S4096x786_S4096x768_0_0) : T F .f32 S4096x786 → T F .f32 S4096x768),
    unary main_arg0 main_v193 ((extractStridedSlice S4096x768 ![0, 0] · slices_S4096x786_S4096x768_0_0) : T F .f32 S4096x786 → T F .f32 S4096x768),
    binary main_v192 main_v193 main_v194 (subf : T F .f32 S4096x768 → T F .f32 S4096x768 → T F .f32 S4096x768),
    binary main_v194 main_v194 main_v195 (mulf : T F .f32 S4096x768 → T F .f32 S4096x768 → T F .f32 S4096x768),
    nullary main_cst_30 (constant S_ .f32 0x00000000#32),
    binary main_v195 main_cst_30 main_v196 ((fun x v => Host.reduceAdd x v reducesTo_S4096x768_S4096_d1 h_S_) : T F .f32 S4096x768 → T F .f32 S_ → T F .f32 S4096),
    unary main_v191 main_v197 ((extractStridedSlice S4096x18 ![0, 768] · slices_S4096x786_S4096x18_0_768) : T F .f32 S4096x786 → T F .f32 S4096x18),
    unary main_arg0 main_v198 ((extractStridedSlice S4096x18 ![0, 768] · slices_S4096x786_S4096x18_0_768) : T F .f32 S4096x786 → T F .f32 S4096x18),
    nullary main_cst_31 (constant S_ .f32 0x00000000#32),
    unary main_cst_31 main_v199 (broadcastInDim S4096x18 ![] bcast_S_S4096x18 : T F .f32 S_ → T F .f32 S4096x18),
    binary main_v197 main_v199 main_v200 (maximumf : T F .f32 S4096x18 → T F .f32 S4096x18 → T F .f32 S4096x18),
    binary main_v197 main_v198 main_v201 (mulf : T F .f32 S4096x18 → T F .f32 S4096x18 → T F .f32 S4096x18),
    binary main_v200 main_v201 main_v202 (subf : T F .f32 S4096x18 → T F .f32 S4096x18 → T F .f32 S4096x18),
    unary main_v197 main_v203 (Host.absf : T F .f32 S4096x18 → T F .f32 S4096x18),
    unary main_v203 main_v204 (Host.negf : T F .f32 S4096x18 → T F .f32 S4096x18) ]

/-- The reference's operations 307 … 308. -/
abbrev ops_part3_3 : List (HloOp τ sig (Elt F)) :=
  [ unary main_v204 main_v205 (Host.exp : T F .f32 S4096x18 → T F .f32 S4096x18),
    unary main_v205 main_v206 (Host.log1p : T F .f32 S4096x18 → T F .f32 S4096x18) ]

/-- The operations of the program's part 3. -/
def ops_part3 : List (HloOp τ sig (Elt F)) :=
  ops_part3_0 ++ (ops_part3_1 ++ (ops_part3_2 ++ (ops_part3_3)))

/-- The reference's operations 309 … 354. -/
abbrev ops_part4 : List (HloOp τ sig (Elt F)) :=
  [ binary main_v202 main_v206 main_v207 (addf : T F .f32 S4096x18 → T F .f32 S4096x18 → T F .f32 S4096x18),
    nullary main_cst_32 (constant S_ .f32 0x00000000#32),
    binary main_v207 main_cst_32 main_v208 ((fun x v => Host.reduceAdd x v reducesTo_S4096x18_S4096_d1 h_S_) : T F .f32 S4096x18 → T F .f32 S_ → T F .f32 S4096),
    binary main_v196 main_v208 main_v209 (addf : T F .f32 S4096 → T F .f32 S4096 → T F .f32 S4096),
    binary main_v209 main_v145 main_v210 (addf : T F .f32 S4096 → T F .f32 S4096 → T F .f32 S4096),
    nullary main_cst_33 (constant S_ .f32 0x00000000#32),
    binary main_v210 main_cst_33 main_v211 ((fun x v => Host.reduceAdd x v reducesTo_S4096_S_d0 h_S_) : T F .f32 S4096 → T F .f32 S_ → T F .f32 S_),
    nullary main_cst_34 (constant S_ .f32 0x45800000#32),
    binary main_v211 main_cst_34 main_v212 (Host.divf : T F .f32 S_ → T F .f32 S_ → T F .f32 S_),
    binary main_v150 main_v150 main_call11_v0 (mulf : T F .f32 S4096x128x3 → T F .f32 S4096x128x3 → T F .f32 S4096x128x3),
    nullary main_call11_cst ((constant S_ .f32 0x00000000#32) : T F .f32 S_),
    binary main_call11_v0 main_call11_cst main_call11_v1 ((fun x v => Host.reduceAdd x v reducesTo_S4096x128x3_S4096x3_d1 h_S_) : T F .f32 S4096x128x3 → T F .f32 S_ → T F .f32 S4096x3),
    unary main_call11_v1 main_v213 (Host.sqrt : T F .f32 S4096x3 → T F .f32 S4096x3),
    unary main_v154 main_v214 (broadcastInDim S4096x1x3 ![0, 2] bcast_S4096x3_S4096x1x3_0_2 : T F .i32 S4096x3 → T F .i32 S4096x1x3),
    unary main_v154 main_v215 (broadcastInDim S1x4096x3 ![1, 2] bcast_S4096x3_S1x4096x3_1_2 : T F .i32 S4096x3 → T F .i32 S1x4096x3),
    unary main_v214 main_v216 (broadcastInDim S4096x4096x3 ![0, 1, 2] bcast_S4096x1x3_S4096x4096x3_0_1_2 : T F .i32 S4096x1x3 → T F .i32 S4096x4096x3),
    unary main_v215 main_v217 (broadcastInDim S4096x4096x3 ![0, 1, 2] bcast_S1x4096x3_S4096x4096x3_0_1_2 : T F .i32 S1x4096x3 → T F .i32 S4096x4096x3),
    binary main_v216 main_v217 main_v218 (cmpi .eq : T F .i32 S4096x4096x3 → T F .i32 S4096x4096x3 → T F .i1 S4096x4096x3),
    nullary main_c (constantI S_ 1 1#1),
    binary main_v218 main_c main_v219 ((fun x v => Host.reduce IntOp.andi x v reducesTo_S4096x4096x3_S4096x4096_d2 h_S_) : T F .i1 S4096x4096x3 → T F .i1 S_ → T F .i1 S4096x4096),
    nullary main_call12_v0 ((iotaInDim S4096x4096 32 0) : T F .i32 S4096x4096),
    nullary main_call12_c ((constantI S_ 32 0#32) : T F .i32 S_),
    unary main_call12_c main_call12_v1 ((broadcastInDim S4096x4096 ![] bcast_S_S4096x4096) : T F .i32 S_ → T F .i32 S4096x4096),
    binary main_call12_v0 main_call12_v1 main_call12_v2 (addi : T F .i32 S4096x4096 → T F .i32 S4096x4096 → T F .i32 S4096x4096),
    nullary main_call12_v3 ((iotaInDim S4096x4096 32 1) : T F .i32 S4096x4096),
    binary main_call12_v2 main_call12_v3 main_call12_v4 ((cmpi .sge) : T F .i32 S4096x4096 → T F .i32 S4096x4096 → T F .i1 S4096x4096),
    nullary main_call12_c_0 ((constantI S_ 1 0#1) : T F .i1 S_),
    unary main_call12_c_0 main_call12_v5 ((broadcastInDim S4096x4096 ![] bcast_S_S4096x4096) : T F .i1 S_ → T F .i1 S4096x4096),
    ternary main_call12_v4 main_call12_v5 main_v219 main_v220 (select : T F .i1 S4096x4096 → T F .i1 S4096x4096 → T F .i1 S4096x4096 → T F .i1 S4096x4096),
    unary main_v220 main_v221 (noti : T F .i1 S4096x4096 → T F .i1 S4096x4096),
    nullary main_c_35 (constantI S_ 1 1#1),
    binary main_v221 main_c_35 main_v222 ((fun x v => Host.reduce IntOp.andi x v reducesTo_S4096x4096_S4096_d1 h_S_) : T F .i1 S4096x4096 → T F .i1 S_ → T F .i1 S4096),
    unary main_v222 main_v223 ((extui 32 · natLt_1_32) : T F .i1 S4096 → T F .i32 S4096),
    nullary main_c_36 (constantI S_ 32 0#32),
    binary main_v223 main_c_36 main_v224 ((fun x v => Host.reduce IntOp.addi x v reducesTo_S4096_S_d0 h_S_) : T F .i32 S4096 → T F .i32 S_ → T F .i32 S_),
    unary main_v224 main_v225 (sitofp .f32 : T F .i32 S_ → T F .f32 S_),
    nullary main_cst_37 (constant S_ .f32 0x45800000#32),
    binary main_v225 main_cst_37 main_v226 (Host.divf : T F .f32 S_ → T F .f32 S_ → T F .f32 S_),
    nullary main_cst_38 (constant S_ .f32 0x00000000#32),
    binary main_v209 main_cst_38 main_v227 ((fun x v => Host.reduceAdd x v reducesTo_S4096_S_d0 h_S_) : T F .f32 S4096 → T F .f32 S_ → T F .f32 S_),
    nullary main_cst_39 (constant S_ .f32 0x45800000#32),
    binary main_v227 main_cst_39 main_v228 (Host.divf : T F .f32 S_ → T F .f32 S_ → T F .f32 S_),
    nullary main_cst_40 (constant S_ .f32 0x00000000#32),
    binary main_v145 main_cst_40 main_v229 ((fun x v => Host.reduceAdd x v reducesTo_S4096_S_d0 h_S_) : T F .f32 S4096 → T F .f32 S_ → T F .f32 S_),
    nullary main_cst_41 (constant S_ .f32 0x45800000#32),
    binary main_v229 main_cst_41 main_v230 (Host.divf : T F .f32 S_ → T F .f32 S_ → T F .f32 S_) ]

/-- All the operations, in order. -/
abbrev ops : List (HloOp τ sig (Elt F)) :=
  ops_part0 ++ (ops_part1 ++ (ops_part2 ++ (ops_part3 ++ (ops_part4))))

set_option maxRecDepth 8192 in
set_option maxRecDepth 8192 in
set_option maxHeartbeats 4000000 in
/-- Part 0 of the program is its operations in sequence. -/
theorem main_part0_eq (c : Dev nD) : main_part0 (F := F) c = seq ops_part0 := rfl
set_option maxRecDepth 8192 in
set_option maxHeartbeats 4000000 in
/-- Part 1 of the program is its operations in sequence. -/
theorem main_part1_eq (c : Dev nD) : main_part1 (F := F) c = seq ops_part1 := rfl
set_option maxRecDepth 8192 in
set_option maxHeartbeats 4000000 in
/-- Part 2 of the program is its operations in sequence. -/
theorem main_part2_eq (c : Dev nD) : main_part2 (F := F) c = seq ops_part2 := rfl
set_option maxRecDepth 8192 in
set_option maxHeartbeats 4000000 in
/-- Part 3 of the program is its operations in sequence. -/
theorem main_part3_eq (c : Dev nD) : main_part3 (F := F) c = seq ops_part3 := rfl
set_option maxRecDepth 8192 in
/-- Part 4 of the program is its operations in sequence. -/
theorem main_part4_eq (c : Dev nD) : main_part4 (F := F) c = seq ops_part4 := rfl
set_option maxRecDepth 8192 in
/-- The program is its operations in sequence. -/
theorem main_eq (c : Dev nD) : main (F := F) c = seq ops := by
  simp only [ops, seq_append, ← main_part0_eq c, ← main_part1_eq c, ← main_part2_eq c, ← main_part3_eq c, ← main_part4_eq c]
  rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- The buffers the operations write, in order. -/
def W : List (Ref sig .tc) :=
  [
    main_v0, main_v1, main_v2, main_v3, main_v4, main_call0_v0, main_call0_v1, main_call0_cst, main_call0_v2, main_call0_v3, main_call0_cst_0, main_call0_v4,
    main_call0_v5, main_v5, main_v6, main_v7, main_v8, main_v9, main_v10, main_call1_v0, main_call1_v1, main_call1_cst, main_call1_v2, main_call1_v3,
    main_call1_cst_0, main_call1_v4, main_call1_v5, main_v11, main_v12, main_v13, main_v14, main_v15, main_v16, main_call2_v0, main_call2_v1, main_call2_cst,
    main_call2_v2, main_call2_v3, main_call2_cst_0, main_call2_v4, main_call2_v5, main_v17, main_v18, main_v19, main_v20, main_v21, main_v22, main_v23,
    main_cst, main_v24, main_v25, main_v26, main_v27, main_cst_0, main_v28, main_v29, main_v30, main_v31, main_v32, main_cst_1,
    main_v33, main_v34, main_v35, main_v36, main_v37, main_v38, main_v39, main_cst_2, main_v40, main_cst_3, main_v41, main_v42,
    main_v43, main_v44, main_v45, main_v46, main_cst_4, main_v47, main_v48, main_v49, main_v50, main_v51, main_call3_v0, main_call3_cst,
    main_call3_c, main_call3_v1_0, main_v52, main_v53, main_v54, main_cst_5, main_v55, main_cst_6, main_v56, main_v57, main_v58, main_v59,
    main_cst_7, main_v60, main_v61, main_cst_8, main_v62, main_v63, main_v64, main_v65, main_cst_9, main_v66, main_v67, main_v68,
    main_v69, main_cst_10, main_v70, main_v71, main_v72, main_v73, main_v74, main_cst_11, main_v75, main_v76, main_v77, main_v78,
    main_v79, main_v80, main_v81, main_cst_12, main_v82, main_cst_13, main_v83, main_v84, main_v85, main_v86, main_v87, main_v88,
    main_cst_14, main_v89, main_v90, main_v91, main_v92, main_v93, main_call4_v0, main_call4_cst, main_call4_c, main_call4_v1_0, main_v94, main_v95,
    main_v96, main_cst_15, main_v97, main_cst_16, main_v98, main_v99, main_v100, main_v101, main_cst_17, main_v102, main_v103, main_v104,
    main_v105, main_v106, main_cst_18, main_v107, main_v108, main_v109, main_v110, main_cst_19, main_v111, main_v112, main_v113, main_v114,
    main_v115, main_cst_20, main_v116, main_v117, main_v118, main_v119, main_v120, main_v121, main_v122, main_cst_21, main_v123, main_cst_22,
    main_v124, main_v125, main_v126, main_v127, main_v128, main_v129, main_cst_23, main_v130, main_v131, main_v132, main_v133, main_v134,
    main_call5_v0, main_call5_cst, main_call5_c, main_call5_v1_0, main_v135, main_v136, main_v137, main_cst_24, main_v138, main_cst_25, main_v139, main_v140,
    main_v141, main_v142, main_cst_26, main_v143, main_v144, main_v145, main_v146, main_v147, main_v148, main_v149, main_v150, main_v151,
    main_v152, main_v153, main_v154, main_cst_27, main_v155, main_v156, main_v157, main_v158, main_v159, main_v160, main_call6_v0, main_call6_v1,
    main_call6_cst, main_call6_v2, main_call6_v3, main_call6_cst_0, main_call6_v4, main_call6_v5, main_v161, main_v162, main_v163, main_v164, main_v165, main_v166,
    main_call7_v0, main_call7_v1, main_call7_cst, main_call7_v2, main_call7_v3, main_call7_cst_0, main_call7_v4, main_call7_v5, main_v167, main_v168, main_v169, main_v170,
    main_v171, main_v172, main_call8_v0, main_call8_v1, main_call8_cst, main_call8_v2, main_call8_v3, main_call8_cst_0, main_call8_v4, main_call8_v5, main_v173, main_v174,
    main_v175, main_v176, main_v177, main_v178, main_call9_v0, main_call9_cst, main_call9_v1, main_call9_v2, main_v179, main_cst_28, main_v180, main_v181,
    main_v182, main_v183, main_v184, main_call10_v0, main_call10_cst, main_call10_v1, main_call10_v2, main_v185, main_cst_29, main_v186, main_v187, main_v188,
    main_v189, main_v190, main_v191, main_v192, main_v193, main_v194, main_v195, main_cst_30, main_v196, main_v197, main_v198, main_cst_31,
    main_v199, main_v200, main_v201, main_v202, main_v203, main_v204, main_v205, main_v206, main_v207, main_cst_32, main_v208, main_v209,
    main_v210, main_cst_33, main_v211, main_cst_34, main_v212, main_call11_v0, main_call11_cst, main_call11_v1, main_v213, main_v214, main_v215, main_v216,
    main_v217, main_v218, main_c, main_v219, main_call12_v0, main_call12_c, main_call12_v1, main_call12_v2, main_call12_v3, main_call12_v4, main_call12_c_0, main_call12_v5,
    main_v220, main_v221, main_c_35, main_v222, main_v223, main_c_36, main_v224, main_v225, main_cst_37, main_v226, main_cst_38, main_v227,
    main_cst_39, main_v228, main_cst_40, main_v229, main_cst_41, main_v230 ]

set_option maxRecDepth 16384 in
/-- Each operation writes one buffer, the list's. -/
theorem writes_eq : (ops : List (HloOp τ sig (Elt F))).map HloOp.writes = W.map fun w => {Proc.devRef (τ := τ) .tc w} := rfl

set_option maxRecDepth 16384 in
/-- The buffers are numbered in the order they are written. -/
theorem W_idx : W.map (fun r => r.idx.val) = List.range' 21 354 := by decide

end Cert.RefRun
-- ==== Proof.RefRun.lean ====
/-
The reference's run, and what each of its operations leaves in the buffer it writes.
-/
module

public import proofs.«01_k».proof.Proof.RefOps
public import Idealize.ShloMosaic.Lib.Pipeline.Frame

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Every operation in the list touches buffers of the device's core only. -/
abbrev Local (l : List (HloOp τ sig (Elt F))) : Prop := ∀ op ∈ l, op.bufs ⊆ tcRefs τ sig

/-- Every operation in the list determines its result. -/
abbrev Sure (l : List (HloOp τ sig (Elt F))) : Prop := ∀ op ∈ l, op.fresh = ∅

/-- Two lists of operations that stay on the core, one after the other, stay on the core. -/
theorem Local.append {l k : List (HloOp τ sig (Elt F))} (hl : Local l) (hk : Local k) : Local (l ++ k) := fun op h =>
  (List.mem_append.mp h).elim (hl op) (hk op)

/-- Two lists of operations that leave nothing undetermined, one after the other, leave nothing undetermined. -/
theorem Sure.append {l k : List (HloOp τ sig (Elt F))} (hl : Sure l) (hk : Sure k) : Sure (l ++ k) := fun op h =>
  (List.mem_append.mp h).elim (hl op) (hk op)

/-- This stretch of the reference's operations touches buffers of the core only. -/
theorem ops_part0_0_local : (ops_part0_0 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub ..⟩

/-- This stretch of the reference's operations leaves nothing undetermined. -/
theorem ops_part0_0_sure : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part0_1_local : (ops_part0_1 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub ..⟩

/-- This stretch of the reference's operations leaves nothing undetermined. -/
theorem ops_part0_1_sure : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part0_2_local : (ops_part0_2 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., nullary_bufs_sub .., quaternary_bufs_sub .., quaternary_bufs_sub .., binary_bufs_sub ..⟩

/-- This stretch of the reference's operations leaves nothing undetermined. -/
theorem ops_part0_2_sure : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part1_0_local : (ops_part1_0 : List (HloOp τ sig (Elt F))).Forall fun op => op.bufs ⊆ tcRefs τ sig :=
  ⟨binary_bufs_sub .., nullary_bufs_sub .., binary_bufs_sub .., nullary_bufs_sub .., unary_bufs_sub .., binary_bufs_sub .., binary_bufs_sub .., binary_bufs_sub .., nullary_bufs_sub .., binary_bufs_sub .., binary_bufs_sub .., nullary_bufs_sub .., unary_bufs_sub .., binary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub ..⟩

/-- This stretch of the reference's operations leaves nothing undetermined. -/
theorem ops_part1_0_sure : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part1_1_local : (ops_part1_1 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., nullary_bufs_sub .., quaternary_bufs_sub .., quaternary_bufs_sub .., binary_bufs_sub .., binary_bufs_sub .., nullary_bufs_sub .., binary_bufs_sub .., nullary_bufs_sub ..⟩

/-- This stretch of the reference's operations leaves nothing undetermined. -/
theorem ops_part1_1_sure : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part1_2_local : (ops_part1_2 : List (HloOp τ sig (Elt F))).Forall fun op => op.bufs ⊆ tcRefs τ sig :=
  ⟨unary_bufs_sub .., binary_bufs_sub .., binary_bufs_sub .., binary_bufs_sub ..⟩

/-- This stretch of the reference's operations leaves nothing undetermined. -/
theorem ops_part1_2_sure : (ops_part1_2 : List (HloOp τ sig (Elt F))).Forall fun op => op.fresh = ∅ :=
  ⟨rfl, rfl, rfl, rfl⟩

/-- This stretch of the reference's operations touches buffers of the core only. -/
theorem ops_part2_0_local : (ops_part2_0 : List (HloOp τ sig (Elt F))).Forall fun op => op.bufs ⊆ tcRefs τ sig :=
  ⟨nullary_bufs_sub .., binary_bufs_sub .., binary_bufs_sub .., binary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub ..⟩

/-- This stretch of the reference's operations leaves nothing undetermined. -/
theorem ops_part2_0_sure : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part2_1_local : (ops_part2_1 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., nullary_bufs_sub .., quaternary_bufs_sub .., quaternary_bufs_sub .., binary_bufs_sub .., binary_bufs_sub .., nullary_bufs_sub .., binary_bufs_sub .., nullary_bufs_sub .., unary_bufs_sub .., binary_bufs_sub .., binary_bufs_sub .., binary_bufs_sub .., nullary_bufs_sub .., binary_bufs_sub .., binary_bufs_sub .., binary_bufs_sub .., binary_bufs_sub .., unary_bufs_sub ..⟩

/-- This stretch of the reference's operations leaves nothing undetermined. -/
theorem ops_part2_1_sure : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part2_2_local : (ops_part2_2 : List (HloOp τ sig (Elt F))).Forall fun op => op.bufs ⊆ tcRefs τ sig :=
  ⟨unary_bufs_sub .., unary_bufs_sub .., nary_bufs_sub .., unary_bufs_sub ..⟩

/-- This stretch of the reference's operations leaves nothing undetermined. -/
theorem ops_part2_2_sure : (ops_part2_2 : List (HloOp τ sig (Elt F))).Forall fun op => op.fresh = ∅ :=
  ⟨rfl, rfl, rfl, rfl⟩

/-- This stretch of the reference's operations touches buffers of the core only. -/
theorem ops_part3_0_local : (ops_part3_0 : List (HloOp τ sig (Elt F))).Forall fun op => op.bufs ⊆ tcRefs τ sig :=
  ⟨unary_bufs_sub .., unary_bufs_sub .., nary_bufs_sub .., nullary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub ..⟩

/-- This stretch of the reference's operations leaves nothing undetermined. -/
theorem ops_part3_0_sure : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part3_1_local : (ops_part3_1 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub ..⟩

/-- This stretch of the reference's operations leaves nothing undetermined. -/
theorem ops_part3_1_sure : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part3_2_local : (ops_part3_2 : List (HloOp τ sig (Elt F))).Forall fun op => op.bufs ⊆ tcRefs τ sig :=
  ⟨unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., binary_bufs_sub .., binary_bufs_sub .., unary_bufs_sub .., unary_bufs_sub ..⟩

/-- This stretch of the reference's operations leaves nothing undetermined. -/
theorem ops_part3_2_sure : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- This stretch of the reference's operations touches buffers of the core only. -/
theorem ops_part3_3_local : (ops_part3_3 : List (HloOp τ sig (Elt F))).Forall fun op => op.bufs ⊆ tcRefs τ sig :=
  ⟨unary_bufs_sub .., unary_bufs_sub ..⟩

/-- This stretch of the reference's operations leaves nothing undetermined. -/
theorem ops_part3_3_sure : (ops_part3_3 : List (HloOp τ sig (Elt F))).Forall fun op => op.fresh = ∅ :=
  ⟨rfl, rfl⟩

/-- This stretch of the reference's operations touches buffers of the core only. -/
theorem ops_part4_local : (ops_part4 : List (HloOp τ sig (Elt F))).Forall fun op => op.bufs ⊆ tcRefs τ sig :=
  ⟨binary_bufs_sub .., nullary_bufs_sub .., binary_bufs_sub .., binary_bufs_sub .., binary_bufs_sub .., nullary_bufs_sub .., binary_bufs_sub .., nullary_bufs_sub .., binary_bufs_sub .., binary_bufs_sub .., nullary_bufs_sub .., binary_bufs_sub .., unary_bufs_sub .., unary_bufs_sub .., unary_bufs_sub .., unary_bufs_sub .., unary_bufs_sub .., binary_bufs_sub .., nullary_bufs_sub .., binary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

/-- This stretch of the reference's operations leaves nothing undetermined. -/
theorem ops_part4_sure : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A list stays on the core when each of its operations does. -/
theorem of_forallLocal {l : List (HloOp τ sig (Elt F))} (h : l.Forall fun op => op.bufs ⊆ tcRefs τ sig) : Local l := List.forall_iff_forall_mem.mp h
/-- A list leaves nothing undetermined when none of its operations does. -/
theorem of_forallSure {l : List (HloOp τ sig (Elt F))} (h : l.Forall fun op => op.fresh = ∅) : Sure l := List.forall_iff_forall_mem.mp h

/-- The reference's operations touch buffers of the device's core only. -/
theorem ops_local : Local (ops : List (HloOp τ sig (Elt F))) := by
  exact (Local.append (Local.append (of_forallLocal ops_part0_0_local) (Local.append (of_forallLocal ops_part0_1_local) (of_forallLocal ops_part0_2_local))) (Local.append (Local.append (of_forallLocal ops_part1_0_local) (Local.append (of_forallLocal ops_part1_1_local) (of_forallLocal ops_part1_2_local))) (Local.append (Local.append (of_forallLocal ops_part2_0_local) (Local.append (of_forallLocal ops_part2_1_local) (of_forallLocal ops_part2_2_local))) (Local.append (Local.append (of_forallLocal ops_part3_0_local) (Local.append (of_forallLocal ops_part3_1_local) (Local.append (of_forallLocal ops_part3_2_local) (of_forallLocal ops_part3_3_local)))) (of_forallLocal ops_part4_local)))))

/-- The reference's operations determine their results. -/
theorem ops_sure : Sure (ops : List (HloOp τ sig (Elt F))) := by
  exact (Sure.append (Sure.append (of_forallSure ops_part0_0_sure) (Sure.append (of_forallSure ops_part0_1_sure) (of_forallSure ops_part0_2_sure))) (Sure.append (Sure.append (of_forallSure ops_part1_0_sure) (Sure.append (of_forallSure ops_part1_1_sure) (of_forallSure ops_part1_2_sure))) (Sure.append (Sure.append (of_forallSure ops_part2_0_sure) (Sure.append (of_forallSure ops_part2_1_sure) (of_forallSure ops_part2_2_sure))) (Sure.append (Sure.append (of_forallSure ops_part3_0_sure) (Sure.append (of_forallSure ops_part3_1_sure) (Sure.append (of_forallSure ops_part3_2_sure) (of_forallSure ops_part3_3_sure)))) (of_forallSure ops_part4_sure)))))

/-- What the buffers of a device hold after the reference ran from `V`. -/
def fin (V : Valuation τ sig (Elt F)) (r : Ref sig .tc) : r.ty.Contents (Elt F) := after ops V (Proc.devRef .tc r)

/-- The reference's run: every buffer ends holding what the list of operations leaves there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = fin (launchContents m d) b :=
  run_seq scopedRefs_eq scopedSems_eq defs main (fun _ => ops) main_eq (fun _ => List.forall_iff_forall_mem.mpr ops_local) m ρ (fun _ => ops_sure)

/-! ## One operation at a time -/

/-- The buffers written from operation `n` on come after the arguments and the first `n` buffers. -/
theorem lt_of_mem_drop {n : ℕ} {r : Ref sig .tc} (h : r ∈ W.drop n) : 21 + n ≤ r.idx.val := by
  have h1 : r.idx.val ∈ (W.map fun r => r.idx.val).drop n := by
    rw [← List.map_drop]; exact List.mem_map_of_mem h
  rw [W_idx, List.drop_range'] at h1
  have := (List.mem_range'_1.mp h1).1
  omega

/-- What the operations from number `n` on write: one buffer each, in the order of the list. -/
theorem writes_drop (n : ℕ) : ((ops : List (HloOp τ sig (Elt F))).drop n).map HloOp.writes
    = (W.drop n).map fun w => {Proc.devRef (τ := τ) .tc w} := by
  rw [List.map_drop, List.map_drop, writes_eq]

/-- A buffer written before operation `i` already holds its last contents then. -/
theorem upto_eq (V : Valuation τ sig (Elt F)) {i : ℕ} {x : Ref sig .tc} (hx : x.idx.val < 21 + i) :
    upto ops V i (Proc.devRef .tc x) = fin V x := by
  have h := after_append (ops.take i) (ops.drop i) V
  rw [List.take_append_drop] at h
  unfold fin
  rw [h, after_unwritten (W.drop i) (writes_drop i) (fun hm => absurd (lt_of_mem_drop hm) (by omega))]
  rfl

/-- The contents operation `i` leaves are final, when it is the last to write the buffer. -/
theorem fin_eq (V : Valuation τ sig (Elt F)) (i : ℕ) {op : HloOp τ sig (Elt F)} (h : ops[i]? = some op) {y : Ref sig .tc}
    (hy : y.idx.val < 22 + i) : fin V y = op.result (upto ops V i) (Proc.devRef .tc y) := by
  have hd : ops.drop i = op :: ops.drop (i + 1) := by
    obtain ⟨hi, he⟩ := List.getElem?_eq_some_iff.mp h
    rw [List.drop_eq_getElem_cons hi, he]
  exact after_last_write (W.drop (i + 1)) hd (writes_drop (i + 1)) (fun hm => absurd (lt_of_mem_drop hm) (by omega)) V

/-- A buffer no operation writes keeps its contents. -/
theorem fin_arg (V : Valuation τ sig (Elt F)) {x : Ref sig .tc} (hx : x.idx.val < 21) : fin V x = V (Proc.devRef .tc x) :=
  (upto_eq V (i := 0) (by omega)).symm.trans rfl

variable (V : Valuation τ sig (Elt F)) (i : ℕ)

/-- The final value of a buffer that operation `i`, a constant, writes. -/
theorem ssa0 {y : Ref sig .tc} {v : y.ty.Contents (Elt F)} {hy} (h : ops[i]? = some (nullary (τ := τ) y v hy)) (h0 : y.idx.val < 22 + i) :
    fin V y = v := (fin_eq V i h h0).trans (nullary_result' ..)

/-- The final value of a buffer that operation `i`, of one argument, writes, from its operand's final value. -/
theorem ssa1 {x y : Ref sig .tc} {f : x.ty.Contents (Elt F) → y.ty.Contents (Elt F)} {hx hy}
    (h : ops[i]? = some (unary (τ := τ) x y f hx hy)) (h0 : y.idx.val < 22 + i) (h1 : x.idx.val < 21 + i) :
    fin V y = f (fin V x) := by
  rw [fin_eq V i h h0, unary_result', upto_eq V h1]

/-- The final value of a buffer that operation `i`, of two arguments, writes, from its operands' final values. -/
theorem ssa2 {a b y : Ref sig .tc} {f : a.ty.Contents (Elt F) → b.ty.Contents (Elt F) → y.ty.Contents (Elt F)} {ha hb hy}
    (h : ops[i]? = some (binary (τ := τ) a b y f ha hb hy)) (h0 : y.idx.val < 22 + i) (h1 : a.idx.val < 21 + i) (h2 : b.idx.val < 21 + i) :
    fin V y = f (fin V a) (fin V b) := by
  rw [fin_eq V i h h0, binary_result', upto_eq V h1, upto_eq V h2]

/-- The final value of a buffer that operation `i`, of three arguments, writes, from its operands' final values. -/
theorem ssa3 {c a b y : Ref sig .tc} {f : c.ty.Contents (Elt F) → a.ty.Contents (Elt F) → b.ty.Contents (Elt F) → y.ty.Contents (Elt F)} {hc ha hb hy}
    (h : ops[i]? = some (ternary (τ := τ) c a b y f hc ha hb hy)) (h0 : y.idx.val < 22 + i) (h1 : c.idx.val < 21 + i) (h2 : a.idx.val < 21 + i)
    (h3 : b.idx.val < 21 + i) : fin V y = f (fin V c) (fin V a) (fin V b) := by
  rw [fin_eq V i h h0, ternary_result', upto_eq V h1, upto_eq V h2, upto_eq V h3]

/-- The final value of a buffer that operation `i`, of four arguments, writes, from its operands' final values. -/
theorem ssa4 {a b c e y : Ref sig .tc}
    {f : a.ty.Contents (Elt F) → b.ty.Contents (Elt F) → c.ty.Contents (Elt F) → e.ty.Contents (Elt F) → y.ty.Contents (Elt F)} {ha hb hc he hy}
    (h : ops[i]? = some (quaternary (τ := τ) a b c e y f ha hb hc he hy)) (h0 : y.idx.val < 22 + i) (h1 : a.idx.val < 21 + i)
    (h2 : b.idx.val < 21 + i) (h3 : c.idx.val < 21 + i) (h4 : e.idx.val < 21 + i) :
    fin V y = f (fin V a) (fin V b) (fin V c) (fin V e) := by
  rw [fin_eq V i h h0, quaternary_result', upto_eq V h1, upto_eq V h2, upto_eq V h3, upto_eq V h4]

/-- The final value of a buffer that operation `i`, a reshape, writes, from its operand's final value. -/
theorem ssaR {x y : Ref sig .tc} {he hn hx hy} (h : ops[i]? = some (reshape (τ := τ) (Val := Elt F) x y he hn hx hy)) (h0 : y.idx.val < 22 + i)
    (h1 : x.idx.val < 21 + i) : fin V y = fun j => he ▸ shapeCast y.ty.shape (fin V x) hn j := by
  rw [fin_eq V i h h0, reshape_result', upto_eq V h1]

/-- The final value of a buffer that operation `i`, of a list of arguments, writes, from its operands' final values. -/
theorem ssaN {n : ℕ} {xs : Fin n → Ref sig .tc} {y : Ref sig .tc} {f : ((k : Fin n) → (xs k).ty.Contents (Elt F)) → y.ty.Contents (Elt F)} {hxs hy}
    (h : ops[i]? = some (nary (τ := τ) xs y f hxs hy)) (h0 : y.idx.val < 22 + i) (h1 : ∀ k, (xs k).idx.val < 21 + i) :
    fin V y = f (fun k => fin V (xs k)) := by
  rw [fin_eq V i h h0, nary_result']
  exact congrArg f (funext fun k => upto_eq V (h1 k))

end Cert.RefRun
-- ==== Proof.RefEnc.lean ====
module

public import proofs.«01_k».proof.Proof.Host
public import proofs.«01_k».proof.Proof.RefRun

/-!
The reference's encoder, read at a row.
-/

set_option maxRecDepth 16384

@[expose] public section

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Rq

variable (V : Valuation τ sig (Elt Ideal))

/-! ## One operation at a time, the positions checked together -/

/-- The value of a constant of the reference. -/
theorem o0 (i : ℕ) {y : Ref sig .tc} {v : y.ty.Contents (Elt Ideal)} {hy} (h : ops[i]? = some (nullary (τ := τ) y v hy)) (hd : y.idx.val < 22 + i) :
    fin V y = v := ssa0 V i h hd
/-- The value of a one-argument operation of the reference at its operand's final value. -/
theorem o1 (i : ℕ) {x y : Ref sig .tc} {f : x.ty.Contents (Elt Ideal) → y.ty.Contents (Elt Ideal)} {hx hy}
    (h : ops[i]? = some (unary (τ := τ) x y f hx hy)) (hd : y.idx.val < 22 + i ∧ x.idx.val < 21 + i) : fin V y = f (fin V x) := ssa1 V i h hd.1 hd.2
/-- The value of a two-argument operation of the reference at its operands' final values. -/
theorem o2 (i : ℕ) {a b y : Ref sig .tc} {f : a.ty.Contents (Elt Ideal) → b.ty.Contents (Elt Ideal) → y.ty.Contents (Elt Ideal)} {ha hb hy}
    (h : ops[i]? = some (binary (τ := τ) a b y f ha hb hy)) (hd : y.idx.val < 22 + i ∧ a.idx.val < 21 + i ∧ b.idx.val < 21 + i) :
    fin V y = f (fin V a) (fin V b) := ssa2 V i h hd.1 hd.2.1 hd.2.2
/-- The value of a three-argument operation of the reference at its operands' final values. -/
theorem o3 (i : ℕ) {c a b y : Ref sig .tc} {f : c.ty.Contents (Elt Ideal) → a.ty.Contents (Elt Ideal) → b.ty.Contents (Elt Ideal) → y.ty.Contents (Elt Ideal)}
    {hc ha hb hy} (h : ops[i]? = some (ternary (τ := τ) c a b y f hc ha hb hy))
    (hd : y.idx.val < 22 + i ∧ c.idx.val < 21 + i ∧ a.idx.val < 21 + i ∧ b.idx.val < 21 + i) :
    fin V y = f (fin V c) (fin V a) (fin V b) := ssa3 V i h hd.1 hd.2.1 hd.2.2.1 hd.2.2.2
/-- The value of a four-argument operation of the reference at its operands' final values. -/
theorem o4 (i : ℕ) {a b c e y : Ref sig .tc}
    {f : a.ty.Contents (Elt Ideal) → b.ty.Contents (Elt Ideal) → c.ty.Contents (Elt Ideal) → e.ty.Contents (Elt Ideal) → y.ty.Contents (Elt Ideal)}
    {ha hb hc he hy} (h : ops[i]? = some (quaternary (τ := τ) a b c e y f ha hb hc he hy))
    (hd : y.idx.val < 22 + i ∧ a.idx.val < 21 + i ∧ b.idx.val < 21 + i ∧ c.idx.val < 21 + i ∧ e.idx.val < 21 + i) :
    fin V y = f (fin V a) (fin V b) (fin V c) (fin V e) := ssa4 V i h hd.1 hd.2.1 hd.2.2.1 hd.2.2.2.1 hd.2.2.2.2

/-- The quantiser's parameters, as the reference's arguments hold them. -/
def par : Par where
  t := V (Proc.devRef .tc main_arg1) ix0
  W0 j k := V (Proc.devRef .tc main_arg2) (ix2 j k)
  b0 j := V (Proc.devRef .tc main_arg3) (ix1 j)
  W1 j k := V (Proc.devRef .tc main_arg4) (ix2 j k)
  b1 j := V (Proc.devRef .tc main_arg5) (ix1 j)
  W2 j k := V (Proc.devRef .tc main_arg6) (ix2 j k)
  b2 j := V (Proc.devRef .tc main_arg7) (ix1 j)
  W3 j k := V (Proc.devRef .tc main_arg8) (ix2 j k)
  b3 j := V (Proc.devRef .tc main_arg9) (ix1 j)
  D0 j k := V (Proc.devRef .tc main_arg10) (ix2 j k)
  c0 j := V (Proc.devRef .tc main_arg11) (ix1 j)
  D1 j k := V (Proc.devRef .tc main_arg12) (ix2 j k)
  c1 j := V (Proc.devRef .tc main_arg13) (ix1 j)
  D2 j k := V (Proc.devRef .tc main_arg14) (ix2 j k)
  c2 j := V (Proc.devRef .tc main_arg15) (ix1 j)
  D3 j k := V (Proc.devRef .tc main_arg16) (ix2 j k)
  c3 j := V (Proc.devRef .tc main_arg17) (ix1 j)
  cb0 j k := V (Proc.devRef .tc main_arg18) (ix2 j k)
  cb1 j k := V (Proc.devRef .tc main_arg19) (ix2 j k)
  cb2 j k := V (Proc.devRef .tc main_arg20) (ix2 j k)

/-- The rows of the batch. -/
def rows (r : Fin 4096) (k : Fin 786) : EReal := V (Proc.devRef .tc main_arg0) (ix2 r k)

/-- The encoder, layer by layer. -/
theorem v4_val (r : Fin 4096) : row (fin V main_v4 : Mat 4096 1024) r = lin (par V).W0 (par V).b0 (row (fin V main_arg0 : Mat 4096 786) r) := by
  refine (hLin (n := 4096) (m := 1024) (k := 786) rfl
      (o1 V 0 rfl (by decide) :) (o2 V 1 rfl (by decide) :) (o1 V 2 rfl (by decide) :) (o1 V 3 rfl (by decide) :)
      (o2 V 4 rfl (by decide) :) r).trans ?_
  rw [fin_arg V (x := main_arg2) (by decide), fin_arg V (x := main_arg3) (by decide)]
  rfl

/-- The activation after the first layer of the encoder in the reference. -/
theorem v5_val (j : (⟨2, ![4096, 1024]⟩ : Shape).Idx) : (fin V main_v5 : Mat 4096 1024) j = silu ((fin V main_v4 : Mat 4096 1024) j) :=
  hSilu (s := ⟨2, ![4096, 1024]⟩)
      (o1 V 5 rfl (by decide) :) (o1 V 6 rfl (by decide) :) (o0 V 7 rfl (by decide) :) (o1 V 8 rfl (by decide) :)
      (o2 V 9 rfl (by decide) :) (o0 V 10 rfl (by decide) :) (o1 V 11 rfl (by decide) :) (o2 V 12 rfl (by decide) :)
      (o2 V 13 rfl (by decide) :) j

/-- The second layer. -/
theorem v10_val (r : Fin 4096) : row (fin V main_v10 : Mat 4096 512) r = lin (par V).W1 (par V).b1 (row (fin V main_v5 : Mat 4096 1024) r) := by
  refine (hLin (n := 4096) (m := 512) (k := 1024) rfl
      (o1 V 14 rfl (by decide) :) (o2 V 15 rfl (by decide) :) (o1 V 16 rfl (by decide) :) (o1 V 17 rfl (by decide) :)
      (o2 V 18 rfl (by decide) :) r).trans ?_
  rw [fin_arg V (x := main_arg4) (by decide), fin_arg V (x := main_arg5) (by decide)]
  rfl

/-- The activation after the second layer of the encoder in the reference. -/
theorem v11_val (j : (⟨2, ![4096, 512]⟩ : Shape).Idx) : (fin V main_v11 : Mat 4096 512) j = silu ((fin V main_v10 : Mat 4096 512) j) :=
  hSilu (s := ⟨2, ![4096, 512]⟩)
      (o1 V 19 rfl (by decide) :) (o1 V 20 rfl (by decide) :) (o0 V 21 rfl (by decide) :) (o1 V 22 rfl (by decide) :)
      (o2 V 23 rfl (by decide) :) (o0 V 24 rfl (by decide) :) (o1 V 25 rfl (by decide) :) (o2 V 26 rfl (by decide) :)
      (o2 V 27 rfl (by decide) :) j

/-- The third layer. -/
theorem v16_val (r : Fin 4096) : row (fin V main_v16 : Mat 4096 256) r = lin (par V).W2 (par V).b2 (row (fin V main_v11 : Mat 4096 512) r) := by
  refine (hLin (n := 4096) (m := 256) (k := 512) rfl
      (o1 V 28 rfl (by decide) :) (o2 V 29 rfl (by decide) :) (o1 V 30 rfl (by decide) :) (o1 V 31 rfl (by decide) :)
      (o2 V 32 rfl (by decide) :) r).trans ?_
  rw [fin_arg V (x := main_arg6) (by decide), fin_arg V (x := main_arg7) (by decide)]
  rfl

/-- The activation after the third layer of the encoder in the reference. -/
theorem v17_val (j : (⟨2, ![4096, 256]⟩ : Shape).Idx) : (fin V main_v17 : Mat 4096 256) j = silu ((fin V main_v16 : Mat 4096 256) j) :=
  hSilu (s := ⟨2, ![4096, 256]⟩)
      (o1 V 33 rfl (by decide) :) (o1 V 34 rfl (by decide) :) (o0 V 35 rfl (by decide) :) (o1 V 36 rfl (by decide) :)
      (o2 V 37 rfl (by decide) :) (o0 V 38 rfl (by decide) :) (o1 V 39 rfl (by decide) :) (o2 V 40 rfl (by decide) :)
      (o2 V 41 rfl (by decide) :) j

/-- The last layer. -/
theorem v22_val (r : Fin 4096) : row (fin V main_v22 : Mat 4096 128) r = lin (par V).W3 (par V).b3 (row (fin V main_v17 : Mat 4096 256) r) := by
  refine (hLin (n := 4096) (m := 128) (k := 256) rfl
      (o1 V 42 rfl (by decide) :) (o2 V 43 rfl (by decide) :) (o1 V 44 rfl (by decide) :) (o1 V 45 rfl (by decide) :)
      (o2 V 46 rfl (by decide) :) r).trans ?_
  rw [fin_arg V (x := main_arg8) (by decide), fin_arg V (x := main_arg9) (by decide)]
  rfl

/-- The encoder's output. -/
theorem z_val (r : Fin 4096) : row (fin V main_v22 : Mat 4096 128) r = (par V).z (rows V r) := by
  have h0 : row (fin V main_arg0 : Mat 4096 786) r = rows V r := by rw [fin_arg V (x := main_arg0) (by decide)]; rfl
  have h1 : row (fin V main_v5 : Mat 4096 1024) r = fun k => silu (lin (par V).W0 (par V).b0 (rows V r) k) :=
    funext fun k => (v5_val V _).trans (congrArg silu (congrFun ((v4_val V r).trans (congrArg _ h0)) k))
  have h2 : row (fin V main_v11 : Mat 4096 512) r = fun k => silu (lin (par V).W1 (par V).b1 _ k) :=
    funext fun k => (v11_val V _).trans (congrArg silu (congrFun ((v10_val V r).trans (congrArg _ h1)) k))
  have h3 : row (fin V main_v17 : Mat 4096 256) r = fun k => silu (lin (par V).W2 (par V).b2 _ k) :=
    funext fun k => (v17_val V _).trans (congrArg silu (congrFun ((v16_val V r).trans (congrArg _ h2)) k))
  exact (v22_val V r).trans (congrArg _ h3)

end Cert.RefRun
-- ==== Proof.HostIds.lean ====
module

public import proofs.«01_k».proof.Proof.Host
public import proofs.«01_k».proof.ReferenceIdeal

/-!
The plain program's nearest code: the arg-min of a row of distances.
-/

set_option maxRecDepth 16384

@[expose] public section

noncomputable section

namespace Cert.Rq

open Idealize.ShloMosaic Idealize.ShloMosaic.ValueIdx

variable {n m : ℕ}

/-- The row an entry is reduced to. -/
theorem drop_row (h : RowRed n m) (i : (⟨2, ![n, m]⟩ : Shape).Idx) (r : Fin n) : h.drop i = ix1 r ↔ i 0 = r := by
  constructor
  · intro e; exact Fin.ext (congrArg Fin.val (congrFun e 0))
  · rintro rfl
    funext a
    match a with
    | ⟨0, _⟩ => rfl

/-- The comparator of the arg-min keeps the lexicographically smaller pair. -/
theorem reducer_lexmin (a b : Ideal .f32 × BitVec 32) :
    Cert.ReferenceIdeal.reducer_argmin_f32_i32 (F := Ideal) a b = if a.1 < b.1 ∨ (a.1 = b.1 ∧ a.2.toInt < b.2.toInt) then a else b := by
  obtain ⟨a1, a2⟩ := a
  obtain ⟨b1, b2⟩ := b
  have h2 : FloatOps.cmpf (F := Ideal) (φ := .f32) .olt a1 b1 = BitVec.ofBool (decide (a1 < b1)) := rfl
  have h3 : FloatOps.cmpf (F := Ideal) (φ := .f32) .une a1 a1 = 0#1 := by
    show BitVec.ofBool (decide (a1 ≠ a1)) = 0#1
    rw [decide_eq_false (by simp)]; rfl
  have h5 : FloatOps.cmpf (F := Ideal) (φ := .f32) .oeq a1 b1 = BitVec.ofBool (decide (a1 = b1)) := rfl
  have h6 : IntOp.cmpi .slt a2 b2 = BitVec.ofBool (decide (a2.toInt < b2.toInt)) := rfl
  unfold Cert.ReferenceIdeal.reducer_argmin_f32_i32
  dsimp only
  rw [h2, h3, h5, h6]
  by_cases c1 : a1 < b1
  · rw [if_pos (Or.inl c1), decide_eq_true c1]
    cases decide (a1 = b1) <;> cases decide (a2.toInt < b2.toInt) <;> rfl
  · rw [decide_eq_false c1]
    by_cases c2 : a1 = b1
    · by_cases c3 : a2.toInt < b2.toInt
      · rw [if_pos (Or.inr ⟨c2, c3⟩), decide_eq_true c2, decide_eq_true c3]; exact Prod.ext c2.symm rfl
      · rw [if_neg (by rintro (h | h); exacts [c1 h, c3 h.2]), decide_eq_true c2, decide_eq_false c3]; rfl
    · rw [if_neg (by rintro (h | h); exacts [c1 h, c2 h.1]), decide_eq_false c2]
      cases decide (a2.toInt < b2.toInt) <;> rfl

/-- The nearest code of each row. -/
theorem hIds {f : Ideal .f32 × BitVec 32 → Ideal .f32 × BitVec 32 → Ideal .f32 × BitVec 32}
    (hf : ∀ a b, f a b = if a.1 < b.1 ∨ (a.1 = b.1 ∧ a.2.toInt < b.2.toInt) then a else b) {d : Fin n → Fin 1024 → ℝ} {D : Mat n 1024}
    {io : IVec ⟨2, ![n, 1024]⟩ 32} {c0 : One} {c1 : IVec ⟨0, ![]⟩ 32} {y : IVec ⟨1, ![n]⟩ 32} {hr : RowRed n 1024} {hu : HasOne}
    (hD : ∀ r j, D (ix2 r j) = (d r j : EReal)) (h0 : io = iotaInDim ⟨2, ![n, 1024]⟩ 32 1) (h1 : c0 = constant ⟨0, ![]⟩ .f32 0x7F800000#32)
    (h2 : c1 = constantI ⟨0, ![]⟩ 32 0#32) (h3 : y = fun j => (Host.argReduce f D io c0 c1 hr hu j).2) (r : Fin n) :
    y (ix1 r) = BitVec.ofNat 32 (first (d r)).val := by
  subst h0 h1 h2 h3
  dsimp only
  rw [Ideal.argReduce_eq_reduce2, Host.reduce2_eq_foldl_fiber]
  refine (congrArg (fun i => (List.foldl f i _).2) (Prod.ext lit_top rfl)).trans (foldl_lexmin_first hf (d r) _ fun p => ?_)
  unfold Host.argReduceFiber
  simp only [List.mem_map, List.mem_filter, List.mem_finRange, true_and, decide_eq_true_eq]
  constructor
  · rintro ⟨q, hq, rfl⟩
    have e := eq_ix2 ((⟨2, ![n, 1024]⟩ : Shape).rowMajor.symm q)
    rw [(drop_row hr _ r).mp hq] at e
    refine ⟨(⟨2, ![n, 1024]⟩ : Shape).rowMajor.symm q 1, ?_⟩
    refine Prod.ext ?_ rfl
    exact (congrArg D e).trans (hD _ _)
  · rintro ⟨j, rfl⟩
    refine ⟨(⟨2, ![n, 1024]⟩ : Shape).rowMajor (ix2 r j), ?_, ?_⟩
    · rw [Equiv.symm_apply_apply]; exact (drop_row hr _ r).mpr rfl
    · rw [Equiv.symm_apply_apply]; exact Prod.ext (hD _ _) rfl

end Cert.Rq
-- ==== Proof.RefLevels.lean ====
module

public import proofs.«01_k».proof.Proof.RefEnc
public import proofs.«01_k».proof.Proof.HostIds

/-!
The reference's three quantisation levels, read at a row.
-/

set_option maxRecDepth 16384

@[expose] public section

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Rq

variable (V : Valuation τ sig (Elt Ideal))

variable (hP : (par V).Good) (hx : ∀ r k, IsReal (rows V r k))
include hP

/-- The temperature that the reference reads, as a real number. -/
theorem t_val : (fin V main_arg1 : One) ix0 = ((par V).τ : EReal) := by
  rw [fin_arg V (x := main_arg1) (by decide)]; exact hP.t_eq
/-- The first codebook that the reference reads, as real numbers. -/
theorem arg18_val (j : Fin 1024) (i : Fin 128) : (fin V main_arg18 : Mat 1024 128) (ix2 j i) = ((par V).γ0 j i : EReal) := by
  rw [fin_arg V (x := main_arg18) (by decide)]; exact hP.cb0_eq j i
/-- The second codebook that the reference reads, as real numbers. -/
theorem arg19_val (j : Fin 1024) (i : Fin 128) : (fin V main_arg19 : Mat 1024 128) (ix2 j i) = ((par V).γ1 j i : EReal) := by
  rw [fin_arg V (x := main_arg19) (by decide)]; exact hP.cb1_eq j i
/-- The third codebook that the reference reads, as real numbers. -/
theorem arg20_val (j : Fin 1024) (i : Fin 128) : (fin V main_arg20 : Mat 1024 128) (ix2 j i) = ((par V).γ2 j i : EReal) := by
  rw [fin_arg V (x := main_arg20) (by decide)]; exact hP.cb2_eq j i

include hx

/-- The residual that the reference quantises at the first level. -/
theorem res0_val (r : Fin 4096) (i : Fin 128) : (fin V main_v22 : Mat 4096 128) (ix2 r i) = ((par V).ρ0 (rows V r) i : EReal) :=
  (congrFun (z_val V r) i).trans (hP.z_eq (hx r) i)

/-- The first level's distances, embedding, nearest code and loss. -/
theorem dist0_val (r : Fin 4096) (j : Fin 1024) : (fin V main_v36 : Mat 4096 1024) (ix2 r j) = ((dist ((par V).ρ0 (rows V r)) (par V).γ0 j : ℝ) : EReal) :=
  hDist (n := 4096) (m := 1024) (k := 128) (R := fun r => (par V).ρ0 (rows V r)) rfl (res0_val V hP hx) (arg18_val V hP)
      (o2 V 47 rfl (by decide) :) (o0 V 48 rfl (by decide) :) (o2 V 49 rfl (by decide) :) (o1 V 50 rfl (by decide) :)
      (o1 V 51 rfl (by decide) :) (o2 V 52 rfl (by decide) :) (o0 V 53 rfl (by decide) :) (o1 V 54 rfl (by decide) :)
      (o2 V 55 rfl (by decide) :) (o1 V 56 rfl (by decide) :) (o2 V 57 rfl (by decide) :) (o2 V 58 rfl (by decide) :)
      (o0 V 59 rfl (by decide) :) (o2 V 60 rfl (by decide) :) (o1 V 61 rfl (by decide) :) (o1 V 62 rfl (by decide) :)
      (o2 V 63 rfl (by decide) :) r j
/-- The reference's embedding of the first level. -/
theorem emb0_val (r : Fin 4096) (i : Fin 128) : (fin V main_v51 : Mat 4096 128) (ix2 r i) = ((par V).e0 (rows V r) i : EReal) :=
  hSoft (n := 4096) (k := 128) (R := fun r => (par V).ρ0 (rows V r)) rfl (t_val V hP) hP.τ_pos (arg18_val V hP) (dist0_val V hP hx)
      (o1 V 64 rfl (by decide) :) (o1 V 65 rfl (by decide) :) (o2 V 66 rfl (by decide) :) (o0 V 67 rfl (by decide) :)
      (o2 V 68 rfl (by decide) :) (o0 V 69 rfl (by decide) :) (o1 V 70 rfl (by decide) :) (o2 V 71 rfl (by decide) :)
      (o1 V 72 rfl (by decide) :) (o1 V 73 rfl (by decide) :) (o2 V 74 rfl (by decide) :) (o1 V 75 rfl (by decide) :)
      (o0 V 76 rfl (by decide) :) (o2 V 77 rfl (by decide) :) (o1 V 78 rfl (by decide) :) (o1 V 79 rfl (by decide) :)
      (o2 V 80 rfl (by decide) :) (o2 V 81 rfl (by decide) :) r i
/-- The reference's code number of the first level. -/
theorem ids0_val (r : Fin 4096) : (fin V main_v52 : IVec ⟨1, ![4096]⟩ 32) (ix1 r) = BitVec.ofNat 32 ((par V).id0 (rows V r)).val :=
  hIds (n := 4096) reducer_lexmin (dist0_val V hP hx)
      (o0 V 82 rfl (by decide) :) (o0 V 83 rfl (by decide) :) (o0 V 84 rfl (by decide) :) (o4 V 86 rfl (by decide) :) r
/-- The reference's quantisation loss of the first level. -/
theorem loss0_val (r : Fin 4096) : (fin V main_v61 : Lst 4096) (ix1 r) = ((5 / 4 * Par.sq ((par V).e0 (rows V r)) ((par V).ρ0 (rows V r)) : ℝ) : EReal) :=
  hLoss (n := 4096) (e1 := fun r => (par V).e0 (rows V r)) (ρ1 := fun r => (par V).ρ0 (rows V r)) (emb0_val V hP hx) (res0_val V hP hx)
      (o2 V 87 rfl (by decide) :) (o2 V 88 rfl (by decide) :) (o0 V 89 rfl (by decide) :) (o2 V 90 rfl (by decide) :)
      (o0 V 91 rfl (by decide) :) (o1 V 92 rfl (by decide) :) (o2 V 93 rfl (by decide) :) (o2 V 94 rfl (by decide) :)
      (o2 V 95 rfl (by decide) :) (o0 V 96 rfl (by decide) :) (o2 V 97 rfl (by decide) :) (o2 V 98 rfl (by decide) :) r
/-- The residual that the reference quantises at the second level. -/
theorem res1_val (r : Fin 4096) (i : Fin 128) : (fin V main_v64 : Mat 4096 128) (ix2 r i) = ((par V).ρ1 (rows V r) i : EReal) :=
  hRes (n := 4096) (k := 128) (e1 := fun r => (par V).e0 (rows V r)) (ρ1 := fun r => (par V).ρ0 (rows V r)) (emb0_val V hP hx) (res0_val V hP hx)
      (o2 V 102 rfl (by decide) :) r i

/-- The second level's distances, embedding, nearest code and loss. -/
theorem dist1_val (r : Fin 4096) (j : Fin 1024) : (fin V main_v78 : Mat 4096 1024) (ix2 r j) = ((dist ((par V).ρ1 (rows V r)) (par V).γ1 j : ℝ) : EReal) :=
  hDist (n := 4096) (m := 1024) (k := 128) (R := fun r => (par V).ρ1 (rows V r)) rfl (res1_val V hP hx) (arg19_val V hP)
      (o2 V 103 rfl (by decide) :) (o0 V 104 rfl (by decide) :) (o2 V 105 rfl (by decide) :) (o1 V 106 rfl (by decide) :)
      (o1 V 107 rfl (by decide) :) (o2 V 108 rfl (by decide) :) (o0 V 109 rfl (by decide) :) (o1 V 110 rfl (by decide) :)
      (o2 V 111 rfl (by decide) :) (o1 V 112 rfl (by decide) :) (o2 V 113 rfl (by decide) :) (o2 V 114 rfl (by decide) :)
      (o0 V 115 rfl (by decide) :) (o2 V 116 rfl (by decide) :) (o1 V 117 rfl (by decide) :) (o1 V 118 rfl (by decide) :)
      (o2 V 119 rfl (by decide) :) r j
/-- The reference's embedding of the second level. -/
theorem emb1_val (r : Fin 4096) (i : Fin 128) : (fin V main_v93 : Mat 4096 128) (ix2 r i) = ((par V).e1 (rows V r) i : EReal) :=
  hSoft (n := 4096) (k := 128) (R := fun r => (par V).ρ1 (rows V r)) rfl (t_val V hP) hP.τ_pos (arg19_val V hP) (dist1_val V hP hx)
      (o1 V 120 rfl (by decide) :) (o1 V 121 rfl (by decide) :) (o2 V 122 rfl (by decide) :) (o0 V 123 rfl (by decide) :)
      (o2 V 124 rfl (by decide) :) (o0 V 125 rfl (by decide) :) (o1 V 126 rfl (by decide) :) (o2 V 127 rfl (by decide) :)
      (o1 V 128 rfl (by decide) :) (o1 V 129 rfl (by decide) :) (o2 V 130 rfl (by decide) :) (o1 V 131 rfl (by decide) :)
      (o0 V 132 rfl (by decide) :) (o2 V 133 rfl (by decide) :) (o1 V 134 rfl (by decide) :) (o1 V 135 rfl (by decide) :)
      (o2 V 136 rfl (by decide) :) (o2 V 137 rfl (by decide) :) r i
/-- The reference's code number of the second level. -/
theorem ids1_val (r : Fin 4096) : (fin V main_v94 : IVec ⟨1, ![4096]⟩ 32) (ix1 r) = BitVec.ofNat 32 ((par V).id1 (rows V r)).val :=
  hIds (n := 4096) reducer_lexmin (dist1_val V hP hx)
      (o0 V 138 rfl (by decide) :) (o0 V 139 rfl (by decide) :) (o0 V 140 rfl (by decide) :) (o4 V 142 rfl (by decide) :) r
/-- The reference's quantisation loss of the second level. -/
theorem loss1_val (r : Fin 4096) : (fin V main_v103 : Lst 4096) (ix1 r) = ((5 / 4 * Par.sq ((par V).e1 (rows V r)) ((par V).ρ1 (rows V r)) : ℝ) : EReal) :=
  hLoss (n := 4096) (e1 := fun r => (par V).e1 (rows V r)) (ρ1 := fun r => (par V).ρ1 (rows V r)) (emb1_val V hP hx) (res1_val V hP hx)
      (o2 V 143 rfl (by decide) :) (o2 V 144 rfl (by decide) :) (o0 V 145 rfl (by decide) :) (o2 V 146 rfl (by decide) :)
      (o0 V 147 rfl (by decide) :) (o1 V 148 rfl (by decide) :) (o2 V 149 rfl (by decide) :) (o2 V 150 rfl (by decide) :)
      (o2 V 151 rfl (by decide) :) (o0 V 152 rfl (by decide) :) (o2 V 153 rfl (by decide) :) (o2 V 154 rfl (by decide) :) r
/-- The residual that the reference quantises at the third level. -/
theorem res2_val (r : Fin 4096) (i : Fin 128) : (fin V main_v105 : Mat 4096 128) (ix2 r i) = ((par V).ρ2 (rows V r) i : EReal) :=
  hRes (n := 4096) (k := 128) (e1 := fun r => (par V).e1 (rows V r)) (ρ1 := fun r => (par V).ρ1 (rows V r)) (emb1_val V hP hx) (res1_val V hP hx)
      (o2 V 156 rfl (by decide) :) r i

/-- The third level's distances, embedding, nearest code and loss. -/
theorem dist2_val (r : Fin 4096) (j : Fin 1024) : (fin V main_v119 : Mat 4096 1024) (ix2 r j) = ((dist ((par V).ρ2 (rows V r)) (par V).γ2 j : ℝ) : EReal) :=
  hDist (n := 4096) (m := 1024) (k := 128) (R := fun r => (par V).ρ2 (rows V r)) rfl (res2_val V hP hx) (arg20_val V hP)
      (o2 V 157 rfl (by decide) :) (o0 V 158 rfl (by decide) :) (o2 V 159 rfl (by decide) :) (o1 V 160 rfl (by decide) :)
      (o1 V 161 rfl (by decide) :) (o2 V 162 rfl (by decide) :) (o0 V 163 rfl (by decide) :) (o1 V 164 rfl (by decide) :)
      (o2 V 165 rfl (by decide) :) (o1 V 166 rfl (by decide) :) (o2 V 167 rfl (by decide) :) (o2 V 168 rfl (by decide) :)
      (o0 V 169 rfl (by decide) :) (o2 V 170 rfl (by decide) :) (o1 V 171 rfl (by decide) :) (o1 V 172 rfl (by decide) :)
      (o2 V 173 rfl (by decide) :) r j
/-- The reference's embedding of the third level. -/
theorem emb2_val (r : Fin 4096) (i : Fin 128) : (fin V main_v134 : Mat 4096 128) (ix2 r i) = ((par V).e2 (rows V r) i : EReal) :=
  hSoft (n := 4096) (k := 128) (R := fun r => (par V).ρ2 (rows V r)) rfl (t_val V hP) hP.τ_pos (arg20_val V hP) (dist2_val V hP hx)
      (o1 V 174 rfl (by decide) :) (o1 V 175 rfl (by decide) :) (o2 V 176 rfl (by decide) :) (o0 V 177 rfl (by decide) :)
      (o2 V 178 rfl (by decide) :) (o0 V 179 rfl (by decide) :) (o1 V 180 rfl (by decide) :) (o2 V 181 rfl (by decide) :)
      (o1 V 182 rfl (by decide) :) (o1 V 183 rfl (by decide) :) (o2 V 184 rfl (by decide) :) (o1 V 185 rfl (by decide) :)
      (o0 V 186 rfl (by decide) :) (o2 V 187 rfl (by decide) :) (o1 V 188 rfl (by decide) :) (o1 V 189 rfl (by decide) :)
      (o2 V 190 rfl (by decide) :) (o2 V 191 rfl (by decide) :) r i
/-- The reference's code number of the third level. -/
theorem ids2_val (r : Fin 4096) : (fin V main_v135 : IVec ⟨1, ![4096]⟩ 32) (ix1 r) = BitVec.ofNat 32 ((par V).id2 (rows V r)).val :=
  hIds (n := 4096) reducer_lexmin (dist2_val V hP hx)
      (o0 V 192 rfl (by decide) :) (o0 V 193 rfl (by decide) :) (o0 V 194 rfl (by decide) :) (o4 V 196 rfl (by decide) :) r
/-- The reference's quantisation loss of the third level. -/
theorem loss2_val (r : Fin 4096) : (fin V main_v144 : Lst 4096) (ix1 r) = ((5 / 4 * Par.sq ((par V).e2 (rows V r)) ((par V).ρ2 (rows V r)) : ℝ) : EReal) :=
  hLoss (n := 4096) (e1 := fun r => (par V).e2 (rows V r)) (ρ1 := fun r => (par V).ρ2 (rows V r)) (emb2_val V hP hx) (res2_val V hP hx)
      (o2 V 197 rfl (by decide) :) (o2 V 198 rfl (by decide) :) (o0 V 199 rfl (by decide) :) (o2 V 200 rfl (by decide) :)
      (o0 V 201 rfl (by decide) :) (o1 V 202 rfl (by decide) :) (o2 V 203 rfl (by decide) :) (o2 V 204 rfl (by decide) :)
      (o2 V 205 rfl (by decide) :) (o0 V 206 rfl (by decide) :) (o2 V 207 rfl (by decide) :) (o2 V 208 rfl (by decide) :) r

/-- The quantisation loss of a row. -/
theorem q_val (r : Fin 4096) : (fin V main_v145 : Lst 4096) (ix1 r) = ((par V).q (rows V r) : EReal) := by
  have h62 : @Eq EReal ((fin V main_v62 : Lst 4096) (ix1 r)) 0 := by
    rw [(o1 V 100 rfl (by decide) :), broadcastInDim_scalar_apply, (o0 V 99 rfl (by decide) :)]; exact Ideal.ofBits_zero_f32
  have h1 := congrFun (o2 V 101 rfl (by decide) :) (ix1 r)
  have h2 := congrFun (o2 V 155 rfl (by decide) :) (ix1 r)
  have h3 := congrFun (o2 V 209 rfl (by decide) :) (ix1 r)
  refine h3.trans ((congrArg₂ (fun a b : EReal => a + b) (h2.trans (congrArg₂ (fun a b : EReal => a + b) (h1.trans
    (congrArg₂ (fun a b : EReal => a + b) h62 (loss0_val V hP hx r))) (loss1_val V hP hx r))) (loss2_val V hP hx r)).trans ?_)
  rw [zero_add, ← EReal.coe_add, ← EReal.coe_add]
  rfl

end Cert.RefRun
-- ==== Proof.HostTail.lean ====
module

public import proofs.«01_k».proof.Proof.Host
public import proofs.«01_k».proof.Proof.RefOps

/-!
The plain program's last layers read at an entry: columns side by side, sums over them, norms, the two halves of the
output and their losses.
-/

set_option maxRecDepth 16384

@[expose] public section

noncomputable section

namespace Cert.Rq

open Cert.ReferenceIdeal Cert.RefRun Idealize.ShloMosaic Idealize.ShloMosaic.ValueIdx

/-- Three columns of embeddings side by side, read at a column. -/
theorem stackEmb_apply (u : Fin 3 → FVec Ideal S4096x128x1 .f32) (r : Fin 4096) (i : Fin 128) (l : Fin 3) :
    stackEmb (F := Ideal) (u 0) (u 1) (u 2) (ix3 r i l) = u l (ix3 r i 0) := by
  unfold stackEmb
  have side : ∀ (b : Fin 3) , b ≠ 2 → ((ix3 r i 0 : S4096x128x1.Idx) b).val = ((ix3 r i l : S4096x128x3.Idx) b).val := fun b hb => by
    match b with
    | ⟨0, _⟩ => rfl
    | ⟨1, _⟩ => rfl
    | ⟨2, _⟩ => exact absurd rfl hb
  match l with
  | ⟨0, _⟩ => exact concatenate_apply_piece (t := S4096x128x3) 2 _ _ _ 0 (by simp) S4096x128x1 (u 0) rfl rfl 0 rfl (ix3 r i 0) side rfl
  | ⟨1, _⟩ => exact concatenate_apply_piece (t := S4096x128x3) 2 _ _ _ 1 (by simp) S4096x128x1 (u 1) rfl rfl 1 rfl (ix3 r i 0) side rfl
  | ⟨2, _⟩ => exact concatenate_apply_piece (t := S4096x128x3) 2 _ _ _ 2 (by simp) S4096x128x1 (u 2) rfl rfl 2 rfl (ix3 r i 0) side rfl

/-- Three columns of codes side by side, read at a column. -/
theorem stackIds_apply (u : Fin 3 → IVec S4096x1 32) (r : Fin 4096) (l : Fin 3) :
    stackIds (F := Ideal) (u 0) (u 1) (u 2) (ix2 r l) = u l (ix2 r 0) := by
  unfold stackIds
  have side : ∀ (b : Fin 2) , b ≠ 1 → ((ix2 r 0 : S4096x1.Idx) b).val = ((ix2 r l : S4096x3.Idx) b).val := fun b hb => by
    match b with
    | ⟨0, _⟩ => rfl
    | ⟨1, _⟩ => exact absurd rfl hb
  match l with
  | ⟨0, _⟩ => exact concatenate_apply_piece (t := S4096x3) 1 _ _ _ 0 (by simp) S4096x1 (u 0) rfl rfl 0 rfl (ix2 r 0) side rfl
  | ⟨1, _⟩ => exact concatenate_apply_piece (t := S4096x3) 1 _ _ _ 1 (by simp) S4096x1 (u 1) rfl rfl 1 rfl (ix2 r 0) side rfl
  | ⟨2, _⟩ => exact concatenate_apply_piece (t := S4096x3) 1 _ _ _ 2 (by simp) S4096x1 (u 2) rfl rfl 2 rfl (ix2 r 0) side rfl

/-- A matrix as one column of a stack. -/
theorem asColumn (x : FVec Ideal S4096x128 .f32) (h) (r : Fin 4096) (i : Fin 128) :
    broadcastInDim S4096x128x1 ![0, 1] h x (ix3 r i 0) = x (ix2 r i) :=
  broadcastInDim_apply _ h x (ix3 r i 0) (ix2 r i) fun a => by
    match a with
    | ⟨0, _⟩ => rfl
    | ⟨1, _⟩ => rfl

/-- The sum over the stack. -/
theorem hStackSum {e0 e1 e2 y : Mat 4096 128} {u0 u1 u2 : FVec Ideal S4096x128x1 .f32} {s : FVec Ideal S4096x128x3 .f32} {c0 : One} {h h' h''}
    {hr : S4096x128x3.ReducesTo [2] S4096x128} {hu : HasOne}
    (h0 : u0 = broadcastInDim S4096x128x1 ![0, 1] h e0) (h1 : u1 = broadcastInDim S4096x128x1 ![0, 1] h' e1)
    (h2 : u2 = broadcastInDim S4096x128x1 ![0, 1] h'' e2) (h3 : s = stackEmb (F := Ideal) u0 u1 u2) (h4 : c0 = constant ⟨0, ![]⟩ .f32 0x00000000#32)
    (h5 : y = Host.reduceAdd s c0 hr hu) (r : Fin 4096) (i : Fin 128) : y (ix2 r i) = e0 (ix2 r i) + e1 (ix2 r i) + e2 (ix2 r i) := by
  subst h0 h1 h2 h3 h4 h5
  have hr' : S4096x128x3.Reduces [2] S4096x128 := ⟨hr.1, by decide, hr.2⟩
  rw [hostReduceAdd_apply, Ideal.hostReduceAdd_single hr hr', constant_apply, Ideal.ofBits_zero_f32, zero_add]
  have hl : ∀ l : Fin 3, hr'.lift (ix2 r i) l = ix3 r i l := fun l => by
    funext a; apply Fin.ext
    match a with
    | ⟨0, _⟩ => rfl
    | ⟨1, _⟩ => rfl
    | ⟨2, _⟩ => rfl
  refine (Finset.sum_congr rfl fun l _ => (congrArg _ (hl l)).trans
    (stackEmb_apply ![broadcastInDim S4096x128x1 ![0, 1] h e0, broadcastInDim S4096x128x1 ![0, 1] h' e1, broadcastInDim S4096x128x1 ![0, 1] h'' e2] r i l)).trans ?_
  refine (Fin.sum_univ_three _).trans ?_
  exact congrArg₂ (· + ·) (congrArg₂ (· + ·) (asColumn e0 h r i) (asColumn e1 h' r i)) (asColumn e2 h'' r i)

/-- The norms of the stack's columns. -/
theorem hStackNorm {e0 e1 e2 : Mat 4096 128} {u0 u1 u2 : FVec Ideal S4096x128x1 .f32} {s q : FVec Ideal S4096x128x3 .f32} {c0 : One} {v y : Mat 4096 3} {h h' h''}
    {hr : S4096x128x3.ReducesTo [1] S4096x3} {hu : HasOne}
    (h0 : u0 = broadcastInDim S4096x128x1 ![0, 1] h e0) (h1 : u1 = broadcastInDim S4096x128x1 ![0, 1] h' e1)
    (h2 : u2 = broadcastInDim S4096x128x1 ![0, 1] h'' e2) (h3 : s = stackEmb (F := Ideal) u0 u1 u2) (h4 : q = mulf s s)
    (h5 : c0 = constant ⟨0, ![]⟩ .f32 0x00000000#32) (h6 : v = Host.reduceAdd q c0 hr hu) (h7 : y = Host.sqrt v) (r : Fin 4096) (l : Fin 3) :
    y (ix2 r l) = (![nrm (row e0 r), nrm (row e1 r), nrm (row e2 r)] : Fin 3 → EReal) l := by
  have hr' : S4096x128x3.Reduces [1] S4096x3 := ⟨hr.1, by decide, hr.2⟩
  have hl : ∀ i : Fin 128, hr'.lift (ix2 r l) i = ix3 r i l := fun i => by
    funext a; apply Fin.ext
    match a with
    | ⟨0, _⟩ => rfl
    | ⟨1, _⟩ => rfl
    | ⟨2, _⟩ => rfl
  have hs : ∀ i, s (ix3 r i l) = (![e0, e1, e2] : Fin 3 → Mat 4096 128) l (ix2 r i) := fun i => by
    rw [h3, h0, h1, h2]
    refine (stackEmb_apply ![broadcastInDim S4096x128x1 ![0, 1] h e0, broadcastInDim S4096x128x1 ![0, 1] h' e1, broadcastInDim S4096x128x1 ![0, 1] h'' e2] r i l).trans ?_
    match l with
    | ⟨0, _⟩ => exact asColumn e0 h r i
    | ⟨1, _⟩ => exact asColumn e1 h' r i
    | ⟨2, _⟩ => exact asColumn e2 h'' r i
  have hv : v (ix2 r l) = ∑ i, (![e0, e1, e2] : Fin 3 → Mat 4096 128) l (ix2 r i) * (![e0, e1, e2] : Fin 3 → Mat 4096 128) l (ix2 r i) := by
    rw [h6, h5, hostReduceAdd_apply, Ideal.hostReduceAdd_single hr hr', constant_apply, Ideal.ofBits_zero_f32, zero_add]
    refine Finset.sum_congr rfl fun i _ => ?_
    rw [h4]
    refine (congrArg _ (hl i)).trans ?_
    exact congrArg₂ (fun a b : EReal => a * b) (hs i) (hs i)
  have hy : y (ix2 r l) = Ideal.sqrt (v (ix2 r l)) := by rw [h7]; rfl
  rw [hy, hv]
  match l with
  | ⟨0, _⟩ => rfl
  | ⟨1, _⟩ => rfl
  | ⟨2, _⟩ => rfl

/-- The first columns of a matrix of output width. -/
theorem headOf (x : Mat 4096 786) (h) (r : Fin 4096) (j : Fin 768) :
    extractStridedSlice S4096x768 ![0, 0] x h (ix2 r j) = Par.head (row x r) j :=
  extractStridedSlice_apply _ x h _ (ix2 r ⟨j.val, by have := j.isLt; omega⟩) fun a => by
    match a with
    | ⟨0, _⟩ => exact (Nat.zero_add _).symm
    | ⟨1, _⟩ => exact (Nat.zero_add _).symm
/-- The last columns of a matrix of output width. -/
theorem tailOf (x : Mat 4096 786) (h) (r : Fin 4096) (j : Fin 18) :
    extractStridedSlice S4096x18 ![0, 768] x h (ix2 r j) = Par.tail (row x r) j :=
  extractStridedSlice_apply _ x h _ (ix2 r ⟨768 + j.val, by have := j.isLt; omega⟩) fun a => by
    match a with
    | ⟨0, _⟩ => exact (Nat.zero_add _).symm
    | ⟨1, _⟩ => rfl

/-- The first columns of the two halves side by side. -/
theorem joinOut_head (a : Mat 4096 768) (b : Mat 4096 18) (r : Fin 4096) (j : Fin 768) :
    Par.head (row (joinOut (F := Ideal) a b) r) j = a (ix2 r j) := by
  unfold joinOut Par.head
  exact concatenate_apply_piece (t := S4096x786) 1 _ _ _ 0 (by simp) S4096x768 a rfl rfl 0 rfl (ix2 r j) (fun b hb => by
    match b with
    | ⟨0, _⟩ => rfl
    | ⟨1, _⟩ => exact absurd rfl hb) (Nat.zero_add _)
/-- The last columns of the two halves side by side. -/
theorem joinOut_tail (a : Mat 4096 768) (b : Mat 4096 18) (r : Fin 4096) (j : Fin 18) :
    Par.tail (row (joinOut (F := Ideal) a b) r) j = b (ix2 r j) := by
  unfold joinOut Par.tail
  exact concatenate_apply_piece (t := S4096x786) 1 _ _ _ 1 (by simp) S4096x18 b rfl rfl 768 rfl (ix2 r j) (fun b hb => by
    match b with
    | ⟨0, _⟩ => rfl
    | ⟨1, _⟩ => exact absurd rfl hb) rfl

/-- The squared error of the first columns. -/
theorem hMse {o x : Mat 4096 786} {a b d s : Mat 4096 768} {c0 : One} {y : Lst 4096} {h h'} {hr : RowRed 4096 768} {hu : HasOne}
    (h0 : a = extractStridedSlice S4096x768 ![0, 0] o h) (h1 : b = extractStridedSlice S4096x768 ![0, 0] x h') (h2 : d = subf a b) (h3 : s = mulf d d)
    (h4 : c0 = constant ⟨0, ![]⟩ .f32 0x00000000#32) (h5 : y = Host.reduceAdd s c0 hr hu) (r : Fin 4096) :
    y (ix1 r) = ∑ i, (Par.head (row o r) i - Par.head (row x r) i) * (Par.head (row o r) i - Par.head (row x r) i) := by
  subst h0 h1 h2 h3 h4 h5
  rw [hostRowSum]
  exact Finset.sum_congr rfl fun i _ => by rw [mulf_apply, subf_apply, headOf, headOf]

/-- The cross entropy of the last columns. -/
theorem hCe {o x : Mat 4096 786} {l v zb mx p d ab ng ex lg s : Mat 4096 18} {c0 c1 : One} {y : Lst 4096} {h h' hb} {hr : RowRed 4096 18} {hu : HasOne}
    (h0 : l = extractStridedSlice S4096x18 ![0, 768] o h) (h1 : v = extractStridedSlice S4096x18 ![0, 768] x h')
    (h2 : c0 = constant ⟨0, ![]⟩ .f32 0x00000000#32) (h3 : zb = broadcastInDim S4096x18 ![] hb c0) (h4 : mx = maximumf l zb) (h5 : p = mulf l v)
    (h6 : d = subf mx p) (h7 : ab = Host.absf l) (h8 : ng = Host.negf ab) (h9 : ex = Host.exp ng) (h10 : lg = Host.log1p ex) (h11 : s = addf d lg)
    (h12 : c1 = constant ⟨0, ![]⟩ .f32 0x00000000#32) (h13 : y = Host.reduceAdd s c1 hr hu) (r : Fin 4096) :
    y (ix1 r) = ∑ i, Par.ce (Par.tail (row o r) i) (Par.tail (row x r) i) := by
  have hz : ∀ i, zb (ix2 r i) = (0 : EReal) := fun i => by rw [h3, broadcastInDim_scalar_apply, h2]; exact Ideal.ofBits_zero_f32
  have hl : ∀ i, l (ix2 r i) = Par.tail (row o r) i := fun i => by rw [h0, tailOf]
  have hv : ∀ i, v (ix2 r i) = Par.tail (row x r) i := fun i => by rw [h1, tailOf]
  have hg : ∀ i, lg (ix2 r i) = Ideal.log (1 + Ideal.exp (-(max (l (ix2 r i)) (-(l (ix2 r i)))))) := fun i => by rw [h10, h9, h8, h7]; rfl
  rw [h13, h12, hostRowSum]
  refine Finset.sum_congr rfl fun i _ => ?_
  rw [h11, addf_apply, h6, subf_apply, h4, maximumf_apply, h5, mulf_apply, hz, hg, hl, hv]
  rfl

end Cert.Rq
-- ==== Proof.RefDec.lean ====
module

public import proofs.«01_k».proof.Proof.RefLevels
public import proofs.«01_k».proof.Proof.HostTail

/-!
The reference's decoder, losses and norms, read at a row.
-/

set_option maxRecDepth 16384

@[expose] public section

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Rq

variable (V : Valuation τ sig (Elt Ideal))

/-- The stack of embeddings. -/
theorem oEmb : fin V main_v150 = stackEmb (F := Ideal) (fin V main_v147) (fin V main_v148) (fin V main_v149) :=
  ssaN V 214 (by rfl) (by decide) (by decide)

/-- The decoder, layer by layer. -/
theorem v160_val (r : Fin 4096) : row (fin V main_v160 : Mat 4096 256) r = lin (par V).D0 (par V).c0 (row (fin V main_v155 : Mat 4096 128) r) := by
  refine (hLin (n := 4096) (m := 256) (k := 128) rfl
      (o1 V 221 rfl (by decide) :) (o2 V 222 rfl (by decide) :) (o1 V 223 rfl (by decide) :) (o1 V 224 rfl (by decide) :)
      (o2 V 225 rfl (by decide) :) r).trans ?_
  rw [fin_arg V (x := main_arg10) (by decide), fin_arg V (x := main_arg11) (by decide)]
  rfl

/-- The activation after the first layer of the decoder in the reference. -/
theorem v161_val (j : (⟨2, ![4096, 256]⟩ : Shape).Idx) : (fin V main_v161 : Mat 4096 256) j = silu ((fin V main_v160 : Mat 4096 256) j) :=
  hSilu (s := ⟨2, ![4096, 256]⟩)
      (o1 V 226 rfl (by decide) :) (o1 V 227 rfl (by decide) :) (o0 V 228 rfl (by decide) :) (o1 V 229 rfl (by decide) :)
      (o2 V 230 rfl (by decide) :) (o0 V 231 rfl (by decide) :) (o1 V 232 rfl (by decide) :) (o2 V 233 rfl (by decide) :)
      (o2 V 234 rfl (by decide) :) j

/-- The second layer. -/
theorem v166_val (r : Fin 4096) : row (fin V main_v166 : Mat 4096 512) r = lin (par V).D1 (par V).c1 (row (fin V main_v161 : Mat 4096 256) r) := by
  refine (hLin (n := 4096) (m := 512) (k := 256) rfl
      (o1 V 235 rfl (by decide) :) (o2 V 236 rfl (by decide) :) (o1 V 237 rfl (by decide) :) (o1 V 238 rfl (by decide) :)
      (o2 V 239 rfl (by decide) :) r).trans ?_
  rw [fin_arg V (x := main_arg12) (by decide), fin_arg V (x := main_arg13) (by decide)]
  rfl

/-- The activation after the second layer of the decoder in the reference. -/
theorem v167_val (j : (⟨2, ![4096, 512]⟩ : Shape).Idx) : (fin V main_v167 : Mat 4096 512) j = silu ((fin V main_v166 : Mat 4096 512) j) :=
  hSilu (s := ⟨2, ![4096, 512]⟩)
      (o1 V 240 rfl (by decide) :) (o1 V 241 rfl (by decide) :) (o0 V 242 rfl (by decide) :) (o1 V 243 rfl (by decide) :)
      (o2 V 244 rfl (by decide) :) (o0 V 245 rfl (by decide) :) (o1 V 246 rfl (by decide) :) (o2 V 247 rfl (by decide) :)
      (o2 V 248 rfl (by decide) :) j

/-- The third layer. -/
theorem v172_val (r : Fin 4096) : row (fin V main_v172 : Mat 4096 1024) r = lin (par V).D2 (par V).c2 (row (fin V main_v167 : Mat 4096 512) r) := by
  refine (hLin (n := 4096) (m := 1024) (k := 512) rfl
      (o1 V 249 rfl (by decide) :) (o2 V 250 rfl (by decide) :) (o1 V 251 rfl (by decide) :) (o1 V 252 rfl (by decide) :)
      (o2 V 253 rfl (by decide) :) r).trans ?_
  rw [fin_arg V (x := main_arg14) (by decide), fin_arg V (x := main_arg15) (by decide)]
  rfl

/-- The activation after the third layer of the decoder in the reference. -/
theorem v173_val (j : (⟨2, ![4096, 1024]⟩ : Shape).Idx) : (fin V main_v173 : Mat 4096 1024) j = silu ((fin V main_v172 : Mat 4096 1024) j) :=
  hSilu (s := ⟨2, ![4096, 1024]⟩)
      (o1 V 254 rfl (by decide) :) (o1 V 255 rfl (by decide) :) (o0 V 256 rfl (by decide) :) (o1 V 257 rfl (by decide) :)
      (o2 V 258 rfl (by decide) :) (o0 V 259 rfl (by decide) :) (o1 V 260 rfl (by decide) :) (o2 V 261 rfl (by decide) :)
      (o2 V 262 rfl (by decide) :) j

/-- The last layer. -/
theorem v178_val (r : Fin 4096) : row (fin V main_v178 : Mat 4096 786) r = lin (par V).D3 (par V).c3 (row (fin V main_v173 : Mat 4096 1024) r) := by
  refine (hLin (n := 4096) (m := 786) (k := 1024) rfl
      (o1 V 263 rfl (by decide) :) (o2 V 264 rfl (by decide) :) (o1 V 265 rfl (by decide) :) (o1 V 266 rfl (by decide) :)
      (o2 V 267 rfl (by decide) :) r).trans ?_
  rw [fin_arg V (x := main_arg16) (by decide), fin_arg V (x := main_arg17) (by decide)]
  rfl

variable (hP : (par V).Good) (hx : ∀ r k, IsReal (rows V r k))
include hP hx

/-- The quantised row. -/
theorem zhat_val (r : Fin 4096) : row (fin V main_v155 : Mat 4096 128) r = (par V).zhat (rows V r) := by
  funext i
  refine (hStackSum (o1 V 211 rfl (by decide) :) (o1 V 212 rfl (by decide) :) (o1 V 213 rfl (by decide) :) (oEmb V) (o0 V 219 rfl (by decide) :) (o2 V 220 rfl (by decide) :) r i).trans ?_
  rw [emb0_val V hP hx, emb1_val V hP hx, emb2_val V hP hx, ← EReal.coe_add, ← EReal.coe_add]
  rfl

/-- The decoder's output, before it is normalised. -/
theorem v178_row (r : Fin 4096) : row (fin V main_v178 : Mat 4096 786) r
    = mlp (par V).D0 (par V).c0 (par V).D1 (par V).c1 (par V).D2 (par V).c2 (par V).D3 (par V).c3 ((par V).zhat (rows V r)) := by
  rw [v178_val]
  unfold mlp
  refine congrArg _ (funext fun k => (v173_val V _).trans (congrArg silu ((congrFun (v172_val V r) k).trans ?_)))
  refine congrArg (fun f => lin _ _ f k) (funext fun k => (v167_val V _).trans (congrArg silu ((congrFun (v166_val V r) k).trans ?_)))
  refine congrArg (fun f => lin _ _ f k) (funext fun k => (v161_val V _).trans (congrArg silu ((congrFun (v160_val V r) k).trans ?_)))
  exact congrArg (fun f => lin _ _ f k) (zhat_val V hP hx r)

/-- The normalised output. -/
theorem y_val (r : Fin 4096) : row (fin V main_v183 : Mat 4096 786) r = (par V).y (rows V r) := by
  refine (hNormed (o2 V 268 rfl (by decide) :) (o0 V 269 rfl (by decide) :) (o2 V 270 rfl (by decide) :) (o1 V 271 rfl (by decide) :)
      (o1 V 272 rfl (by decide) :) (o0 V 273 rfl (by decide) :) (o1 V 274 rfl (by decide) :) (o2 V 275 rfl (by decide) :)
      (o1 V 276 rfl (by decide) :) (o2 V 277 rfl (by decide) :) r).trans ?_
  rw [v178_row V hP hx]
  rfl

/-- Its first columns, normalised once more. -/
theorem yc_val (r : Fin 4096) : row (fin V main_v189 : Mat 4096 768) r = (par V).yc (rows V r) := by
  refine (hNormed (o2 V 279 rfl (by decide) :) (o0 V 280 rfl (by decide) :) (o2 V 281 rfl (by decide) :) (o1 V 282 rfl (by decide) :)
      (o1 V 283 rfl (by decide) :) (o0 V 284 rfl (by decide) :) (o1 V 285 rfl (by decide) :) (o2 V 286 rfl (by decide) :)
      (o1 V 287 rfl (by decide) :) (o2 V 288 rfl (by decide) :) r).trans ?_
  refine congrArg (normed guard) (funext fun j => ?_)
  refine (congrFun (o1 V 278 rfl (by decide) :) (ix2 r j)).trans ((headOf _ _ r j).trans ?_)
  rw [y_val V hP hx]

/-- The output's two parts. -/
theorem out_head (r : Fin 4096) (j : Fin 768) : Par.head (row (fin V main_v191 : Mat 4096 786) r) j = (par V).yc (rows V r) j := by
  refine (congrArg (fun o : Mat 4096 786 => Par.head (row o r) j) (o2 V 290 rfl (by decide) :)).trans ((joinOut_head _ _ r j).trans ?_)
  exact congrFun (yc_val V hP hx r) j
/-- The last 18 entries of the reference's output row are the decoder's. -/
theorem out_tail (r : Fin 4096) (j : Fin 18) : Par.tail (row (fin V main_v191 : Mat 4096 786) r) j = Par.tail ((par V).y (rows V r)) j := by
  refine (congrArg (fun o : Mat 4096 786 => Par.tail (row o r) j) (o2 V 290 rfl (by decide) :)).trans ((joinOut_tail _ _ r j).trans ?_)
  refine (congrFun (o1 V 289 rfl (by decide) :) (ix2 r j)).trans ((tailOf _ _ r j).trans ?_)
  rw [y_val V hP hx]

omit hP hx in
/-- The input row. -/
theorem in_row (r : Fin 4096) : row (fin V main_arg0 : Mat 4096 786) r = rows V r := by
  rw [fin_arg V (x := main_arg0) (by decide)]
  rfl

/-- The squared error of a row. -/
theorem mse_val (r : Fin 4096) : (fin V main_v196 : Lst 4096) (ix1 r) = (par V).mse (rows V r) := by
  refine (hMse (o1 V 291 rfl (by decide) :) (o1 V 292 rfl (by decide) :) (o2 V 293 rfl (by decide) :) (o2 V 294 rfl (by decide) :) (o0 V 295 rfl (by decide) :) (o2 V 296 rfl (by decide) :) r).trans ?_
  refine Finset.sum_congr rfl fun i _ => ?_
  rw [out_head V hP hx, in_row]

/-- The cross entropy of a row. -/
theorem ce_val (r : Fin 4096) : (fin V main_v208 : Lst 4096) (ix1 r) = ∑ i, Par.ce (Par.tail ((par V).y (rows V r)) i) (Par.tail (rows V r) i) := by
  refine (hCe (o1 V 297 rfl (by decide) :) (o1 V 298 rfl (by decide) :) (o0 V 299 rfl (by decide) :) (o1 V 300 rfl (by decide) :) (o2 V 301 rfl (by decide) :) (o2 V 302 rfl (by decide) :)
      (o2 V 303 rfl (by decide) :) (o1 V 304 rfl (by decide) :) (o1 V 305 rfl (by decide) :) (o1 V 306 rfl (by decide) :) (o1 V 307 rfl (by decide) :) (o2 V 308 rfl (by decide) :)
      (o0 V 309 rfl (by decide) :) (o2 V 310 rfl (by decide) :) r).trans ?_
  refine Finset.sum_congr rfl fun i _ => ?_
  rw [out_tail V hP hx, in_row]

/-- The reconstruction loss of a row. -/
theorem recon_val (r : Fin 4096) : (fin V main_v209 : Lst 4096) (ix1 r) = (par V).recon (rows V r) :=
  (congrFun (o2 V 311 rfl (by decide) :) (ix1 r)).trans (congrArg₂ (fun a b : EReal => a + b) (mse_val V hP hx r) (ce_val V hP hx r))

/-- The norms of a row's embeddings. -/
theorem norms_val (r : Fin 4096) (l : Fin 3) : (fin V main_v213 : Mat 4096 3) (ix2 r l) = (par V).norms (rows V r) l := by
  refine (hStackNorm (o1 V 211 rfl (by decide) :) (o1 V 212 rfl (by decide) :) (o1 V 213 rfl (by decide) :) (oEmb V) (o2 V 317 rfl (by decide) :) (o0 V 318 rfl (by decide) :) (o2 V 319 rfl (by decide) :) (o1 V 320 rfl (by decide) :) r l).trans ?_
  have h0 : row (fin V main_v51 : Mat 4096 128) r = fun i => ((par V).e0 (rows V r) i : EReal) := funext fun i => emb0_val V hP hx r i
  have h1 : row (fin V main_v93 : Mat 4096 128) r = fun i => ((par V).e1 (rows V r) i : EReal) := funext fun i => emb1_val V hP hx r i
  have h2 : row (fin V main_v134 : Mat 4096 128) r = fun i => ((par V).e2 (rows V r) i : EReal) := funext fun i => emb2_val V hP hx r i
  rw [h0, h1, h2]
  rfl

end Cert.RefRun
-- ==== Proof.HostUnique.lean ====
module

public import proofs.«01_k».proof.Proof.HostTail
public import proofs.«01_k».proof.Proof.HostIds
public import Idealize.ShloMosaic.Lib.WordCmp

/-!
The plain program's share of distinct code triples: a row counts when no later row repeats its codes.
-/

set_option maxRecDepth 16384

@[expose] public section

noncomputable section

namespace Cert.Rq

open Idealize.ShloMosaic.WordCmp Cert.ReferenceIdeal Cert.RefRun Idealize.ShloMosaic Idealize.ShloMosaic.ValueIdx

/-- A conjunction along an axis holds where every entry of the fibre does. -/
theorem reduceAnd_iff {s t u : Shape} {axes : List (Fin s.rank)} (x : s.Idx → BitVec 1) (init : u.Idx → BitVec 1) (h : s.ReducesTo axes t) (hu : 0 < u.numel)
    (hi : init (Shape.Idx.first hu) = 1#1) (j : t.Idx) : Host.reduce IntOp.andi x init h hu j = 1#1 ↔ ∀ i, h.drop i = j → x i = 1#1 := by
  refine ⟨fun e i hij => Host.reduce_andi_eq_one x init h hu j e i hij, fun hx => ?_⟩
  rw [Host.reduce_eq_foldl]
  refine IntOp.foldl_andi_one x _ _ hi fun n hn => hx n ?_
  simpa using (List.mem_filter.mp hn).2

/-- A sum of counted rows. -/
theorem reduceCount {n : ℕ} {x : IVec ⟨1, ![n]⟩ 32} {init : IVec ⟨0, ![]⟩ 32} (h : (⟨1, ![n]⟩ : Shape).ReducesTo [0] ⟨0, ![]⟩) (hu : HasOne)
    (p : Fin n → BitVec 1) (hi : init (Shape.Idx.first hu) = 0#32) (hx : ∀ r, x (ix1 r) = (p r).setWidth 32) :
    Host.reduce IntOp.addi x init h hu ix0 = BitVec.ofNat 32 (Finset.univ.filter fun r => p r = 1#1).card := by
  rw [Host.reduce_eq_fold, hi]
  have hall : (Finset.univ.filter fun i => h.drop i = ix0) = (Finset.univ : Finset (⟨1, ![n]⟩ : Shape).Idx) :=
    Finset.filter_true_of_mem fun i _ => funext fun b => b.elim0
  rw [hall]
  have hx' : x = fun i => (p (i 0)).setWidth 32 := funext fun i => by
    obtain ⟨r, rfl⟩ : ∃ r, i = ix1 r := ⟨i 0, eq_ix1 i⟩
    exact hx r
  rw [hx', IndicatorCount.fold_addi_setWidth_eq_card (fun i : (⟨1, ![n]⟩ : Shape).Idx => p (i 0))]
  refine congrArg _ (Finset.card_bij (fun i _ => i 0) (fun i hi => ?_) (fun i _ j _ e => ?_) fun r hr => ?_)
  · exact Finset.mem_filter.mpr ⟨Finset.mem_univ _, (Finset.mem_filter.mp hi).2⟩
  · rw [eq_ix1 i, eq_ix1 j, e]
  · exact ⟨ix1 r, Finset.mem_filter.mpr ⟨Finset.mem_univ _, (Finset.mem_filter.mp hr).2⟩, rfl⟩

/-- A bit that is not one is its complement's one. -/
theorem not_bit (b : BitVec 1) : ~~~b = 1#1 ↔ ¬ b = 1#1 := by
  revert b; decide

/-- Two rows agree in the bit of their codes exactly when the three codes agree. -/
theorem hSame {id : Fin 3 → Fin 4096 → Fin 1024} {d0 d1 d2 : IVec ⟨1, ![4096]⟩ 32} {u0 u1 u2 : IVec S4096x1 32} {s : IVec S4096x3 32}
    {p : IVec S4096x1x3 32} {q : IVec S1x4096x3 32} {P Q : IVec S4096x4096x3 32} {c : IVec S4096x4096x3 1} {o : IVec ⟨0, ![]⟩ 1} {y : IVec S4096x4096 1}
    {h h' h'' hp hq hP hQ} {hr : S4096x4096x3.ReducesTo [2] S4096x4096} {hu : HasOne}
    (g0 : ∀ r, d0 (ix1 r) = BitVec.ofNat 32 (id 0 r).val) (g1 : ∀ r, d1 (ix1 r) = BitVec.ofNat 32 (id 1 r).val)
    (g2 : ∀ r, d2 (ix1 r) = BitVec.ofNat 32 (id 2 r).val)
    (h0 : u0 = broadcastInDim S4096x1 ![0] h d0) (h1 : u1 = broadcastInDim S4096x1 ![0] h' d1) (h2 : u2 = broadcastInDim S4096x1 ![0] h'' d2)
    (h3 : s = stackIds (F := Ideal) u0 u1 u2) (h4 : p = broadcastInDim S4096x1x3 ![0, 2] hp s) (h5 : q = broadcastInDim S1x4096x3 ![1, 2] hq s)
    (h6 : P = broadcastInDim S4096x4096x3 ![0, 1, 2] hP p) (h7 : Q = broadcastInDim S4096x4096x3 ![0, 1, 2] hQ q) (h8 : c = cmpi .eq P Q)
    (h9 : o = constantI ⟨0, ![]⟩ 1 1#1) (h10 : y = Host.reduce IntOp.andi c o hr hu) (i j : Fin 4096) :
    y (ix2 i j) = 1#1 ↔ ∀ l, id l i = id l j := by
  have hs : ∀ r (l : Fin 3), s (ix2 r l) = BitVec.ofNat 32 (id l r).val := fun r l => by
    have hc : ∀ (d : IVec ⟨1, ![4096]⟩ 32) (h), broadcastInDim S4096x1 ![0] h d (ix2 r 0) = d (ix1 r) := fun d h =>
      broadcastInDim_apply _ h d (ix2 r 0) (ix1 r) fun a => by
        match a with
        | ⟨0, _⟩ => rfl
    rw [h3, h0, h1, h2]
    refine (stackIds_apply ![broadcastInDim S4096x1 ![0] h d0, broadcastInDim S4096x1 ![0] h' d1, broadcastInDim S4096x1 ![0] h'' d2] r l).trans ?_
    match l with
    | ⟨0, _⟩ => exact (hc d0 h).trans (g0 r)
    | ⟨1, _⟩ => exact (hc d1 h').trans (g1 r)
    | ⟨2, _⟩ => exact (hc d2 h'').trans (g2 r)
  have hPv : ∀ l : Fin 3, P (ix3 i j l) = BitVec.ofNat 32 (id l i).val := fun l => by
    rw [h6, broadcastInDim_apply _ hP p (ix3 i j l) (ix3 i 0 l) fun a => by
      match a with
      | ⟨0, _⟩ => rfl
      | ⟨1, _⟩ => rfl
      | ⟨2, _⟩ => rfl, h4, broadcastInDim_apply _ hp s (ix3 i 0 l) (ix2 i l) fun a => by
      match a with
      | ⟨0, _⟩ => rfl
      | ⟨1, _⟩ => rfl]
    exact hs i l
  have hQv : ∀ l : Fin 3, Q (ix3 i j l) = BitVec.ofNat 32 (id l j).val := fun l => by
    rw [h7, broadcastInDim_apply _ hQ q (ix3 i j l) (ix3 0 j l) fun a => by
      match a with
      | ⟨0, _⟩ => rfl
      | ⟨1, _⟩ => rfl
      | ⟨2, _⟩ => rfl, h5, broadcastInDim_apply _ hq s (ix3 0 j l) (ix2 j l) fun a => by
      match a with
      | ⟨0, _⟩ => rfl
      | ⟨1, _⟩ => rfl]
    exact hs j l
  have hc : ∀ l : Fin 3, c (ix3 i j l) = 1#1 ↔ id l i = id l j := fun l => by
    have e : c (ix3 i j l) = BitVec.ofBool (BitVec.ofNat 32 (id l i).val == BitVec.ofNat 32 (id l j).val) := by
      rw [h8, ← hPv, ← hQv]; rfl
    have b1 := (id l i).isLt
    have b2 := (id l j).isLt
    rw [e, ofBool_eq_one_iff, beq_iff_eq, ofNat_eq_ofNat_iff (by omega) (by omega)]
    exact ⟨Fin.ext, fun e => by rw [e]⟩
  subst h10
  refine (reduceAnd_iff c o hr hu (congrFun h9 _) _).trans ?_
  refine ⟨fun hall l => (hc l).mp (hall _ ?_), fun hall k hk => ?_⟩
  · funext a
    match a with
    | ⟨0, _⟩ => rfl
    | ⟨1, _⟩ => rfl
  · have e : k = ix3 i j (k 2) := by
      funext a
      match a with
      | ⟨0, _⟩ => exact Fin.ext (congrArg Fin.val (congrFun hk 0))
      | ⟨1, _⟩ => exact Fin.ext (congrArg Fin.val (congrFun hk 1))
      | ⟨2, _⟩ => rfl
    rw [e]
    exact (hc _).mpr (hall _)

/-- The share of distinct rows. -/
theorem hUnique {α : Type} [DecidableEq α] {key : Fin 4096 → α} {it zb a jt : IVec S4096x4096 32} {S y z e : IVec S4096x4096 1} {c0 : IVec ⟨0, ![]⟩ 32}
    {f0 o : IVec ⟨0, ![]⟩ 1} {g : IVec S4096x4096 1} {u : IVec ⟨1, ![4096]⟩ 1} {x : IVec ⟨1, ![4096]⟩ 32} {z0 w : IVec ⟨0, ![]⟩ 32} {v k out : One} {hb hb' hw}
    {hr : RowRed 4096 4096} {hu : HasOne} {ht : (⟨1, ![4096]⟩ : Shape).ReducesTo [0] ⟨0, ![]⟩}
    (hS : ∀ i j, S (ix2 i j) = 1#1 ↔ key i = key j)
    (h0 : it = iotaInDim S4096x4096 32 0) (h1 : c0 = constantI ⟨0, ![]⟩ 32 0#32) (h2 : zb = broadcastInDim S4096x4096 ![] hb c0) (h3 : a = addi it zb)
    (h4 : jt = iotaInDim S4096x4096 32 1) (h5 : e = cmpi .sge a jt) (h6 : f0 = constantI ⟨0, ![]⟩ 1 0#1) (h7 : z = broadcastInDim S4096x4096 ![] hb' f0)
    (h8 : y = select e z S) (h9 : g = noti y) (h10 : o = constantI ⟨0, ![]⟩ 1 1#1) (h11 : u = Host.reduce IntOp.andi g o hr hu)
    (h12 : x = extui 32 u hw) (h13 : z0 = constantI ⟨0, ![]⟩ 32 0#32) (h14 : w = Host.reduce IntOp.addi x z0 ht hu) (h15 : v = sitofp .f32 w)
    (h16 : k = constant ⟨0, ![]⟩ .f32 0x45800000#32) (h17 : out = Host.divf v k) :
    out ix0 = (((Finset.univ.image key).card / 4096 : ℝ) : EReal) := by
  have he : ∀ i j : Fin 4096, e (ix2 i j) = 1#1 ↔ j ≤ i := fun i j => by
    have ha : a (ix2 i j) = BitVec.ofNat 32 i.val := by
      have hz : zb (ix2 i j) = 0#32 := by rw [h2, broadcastInDim_scalar_apply, h1]; rfl
      have hi : it (ix2 i j) = BitVec.ofNat 32 i.val := by rw [h0]; rfl
      rw [h3]
      refine (congrArg₂ (fun a b : BitVec 32 => a + b) hi hz).trans (BitVec.add_zero _)
    have hj : jt (ix2 i j) = BitVec.ofNat 32 j.val := by rw [h4]; rfl
    have e1 : e (ix2 i j) = BitVec.ofBool ((BitVec.ofNat 32 j.val).sle (BitVec.ofNat 32 i.val)) := by rw [h5, ← ha, ← hj]; rfl
    have b1 := i.isLt
    have b2 := j.isLt
    rw [e1, ofBool_eq_one_iff, BitVec.sle, decide_eq_true_eq, toInt_ofNat_of_lt (by omega), toInt_ofNat_of_lt (by omega)]
    exact Int.ofNat_le
  have hg : ∀ i j : Fin 4096, g (ix2 i j) = 1#1 ↔ (i < j → key i ≠ key j) := fun i j => by
    have e1 : g (ix2 i j) = ~~~(y (ix2 i j)) := by rw [h9]; rfl
    have e2 : y (ix2 i j) = if e (ix2 i j) = 1#1 then z (ix2 i j) else S (ix2 i j) := by rw [h8]; rfl
    have e3 : z (ix2 i j) = 0#1 := by rw [h7, broadcastInDim_scalar_apply, h6]; rfl
    rw [e1, not_bit, e2, e3]
    by_cases hij : j ≤ i
    · rw [if_pos ((he i j).mpr hij)]
      exact ⟨fun _ hlt => absurd hlt (not_lt.mpr hij), fun _ => by decide⟩
    · rw [if_neg (fun c => hij ((he i j).mp c)), hS]
      exact ⟨fun hne _ => hne, fun hne => hne (not_le.mp hij)⟩
  have hul : ∀ i : Fin 4096, u (ix1 i) = 1#1 ↔ ∀ j, i < j → key i ≠ key j := fun i => by
    rw [h11]
    refine (reduceAnd_iff g o hr hu (congrFun h10 _) _).trans ?_
    refine ⟨fun hall j => (hg i j).mp (hall _ ((drop_row hr _ _).mpr rfl)), fun hall k hk => ?_⟩
    have hk0 : k = ix2 i (k 1) := by
      funext a
      match a with
      | ⟨0, _⟩ => exact (drop_row hr _ _).mp hk
      | ⟨1, _⟩ => rfl
    rw [hk0]
    exact (hg i _).mpr (hall _)
  have hw' : w ix0 = BitVec.ofNat 32 (Finset.univ.image key).card := by
    rw [h14]
    refine (reduceCount ht hu (fun r => u (ix1 r)) (congrFun h13 _) fun r => congrFun h12 _).trans (congrArg (BitVec.ofNat 32) ?_)
    rw [← card_last key]
    refine congrArg Finset.card (Finset.ext fun i => ?_)
    simp only [Finset.mem_filter, Finset.mem_univ, true_and]
    exact hul i
  have hcard : (Finset.univ.image key).card ≤ 4096 := Finset.card_image_le.trans (by rw [Finset.card_univ, Fintype.card_fin])
  have hv : v ix0 = (((Finset.univ.image key).card : ℝ) : EReal) := by
    have e1 : v ix0 = (((w ix0).toInt : ℝ) : EReal) := by rw [h15]; rfl
    rw [e1, hw', toInt_ofNat_of_lt (show _ < 2 ^ 31 by omega), Int.cast_natCast]
  have hk : k ix0 = ((4096 : ℝ) : EReal) := by rw [h16]; exact lit_4096
  have ho : out ix0 = Ideal.div (v ix0) (k ix0) := by rw [h17]; rfl
  rw [ho, hv, hk, div_coe_coe _ (by norm_num)]

end Cert.Rq
-- ==== Proof.RefVals.lean ====
module

public import proofs.«01_k».proof.Proof.RefDec
public import proofs.«01_k».proof.Proof.HostUnique

/-!
What the reference's five results hold.
-/

set_option maxRecDepth 16384

@[expose] public section

noncomputable section

namespace Cert.Rq

open Idealize.ShloMosaic Idealize.ShloMosaic.ValueIdx

/-- The mean of a list. -/
theorem hMean {n : ℕ} {x : Lst n} {c0 y c1 out : One} {h : (⟨1, ![n]⟩ : Shape).ReducesTo [0] ⟨0, ![]⟩} {hu : HasOne} (h0 : c0 = constant ⟨0, ![]⟩ .f32 0x00000000#32)
    (h1 : y = Host.reduceAdd x c0 h hu) (h2 : c1 = constant ⟨0, ![]⟩ .f32 0x45800000#32) (h3 : out = Host.divf y c1) :
    out ix0 = Ideal.div (∑ r, x (ix1 r)) ((4096 : ℝ) : EReal) := by
  have e : out ix0 = Ideal.div (y ix0) (c1 ix0) := by rw [h3]; rfl
  have e1 : c1 ix0 = ((4096 : ℝ) : EReal) := by rw [h2]; exact lit_4096
  rw [e, hTotal h0 h1, e1]

/-- The mean of a sum is the sum of the means. -/
theorem mean_add {n : ℕ} (f g : Fin n → EReal) : Ideal.div (∑ r, (f r + g r)) ((4096 : ℝ) : EReal)
    = Ideal.div (∑ r, f r) ((4096 : ℝ) : EReal) + Ideal.div (∑ r, g r) ((4096 : ℝ) : EReal) := by
  have h0 : ((4096 : ℝ) : EReal) ≠ 0 := by norm_num
  have h1 : ((4096 : ℝ) : EReal)⁻¹ = ((4096⁻¹ : ℝ) : EReal) := (EReal.coe_inv _).symm
  rw [Finset.sum_add_distrib]
  unfold Ideal.div
  rw [if_neg h0, if_neg h0, if_neg h0, h1]
  exact EReal.right_distrib_of_nonneg_of_ne_top (by exact_mod_cast (by norm_num : (0 : ℝ) ≤ 4096⁻¹)) (EReal.coe_ne_top _) _ _

end Cert.Rq

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Rq

variable (V : Valuation τ sig (Elt Ideal))

/-- The stack of nearest codes. -/
theorem oIds : fin V main_v154 = stackIds (F := Ideal) (fin V main_v151) (fin V main_v152) (fin V main_v153) :=
  ssaN V 218 (by rfl) (by decide) (by decide)

variable (hP : (par V).Good) (hx : ∀ r k, IsReal (rows V r k))
include hP hx

/-- The mean reconstruction loss. -/
theorem v228_val : (fin V main_v228 : One) = fun _ => reconMean (par V) (rows V) := by
  funext i
  rw [eq_ix0 i]
  refine (hMean (o0 V 346 rfl (by decide) :) (o2 V 347 rfl (by decide) :) (o0 V 348 rfl (by decide) :) (o2 V 349 rfl (by decide) :)).trans ?_
  exact congrArg (fun s => Ideal.div s _) (Finset.sum_congr rfl fun r _ => recon_val V hP hx r)

/-- The mean quantisation loss. -/
theorem v230_val : (fin V main_v230 : One) = fun _ => qMean (par V) (rows V) := by
  funext i
  rw [eq_ix0 i]
  refine (hMean (o0 V 350 rfl (by decide) :) (o2 V 351 rfl (by decide) :) (o0 V 352 rfl (by decide) :) (o2 V 353 rfl (by decide) :)).trans ?_
  exact congrArg (fun s => Ideal.div s _) (Finset.sum_congr rfl fun r _ => q_val V hP hx r)

/-- The mean loss is the sum of the two. -/
theorem v212_val : (fin V main_v212 : One) = fun _ => reconMean (par V) (rows V) + qMean (par V) (rows V) := by
  funext i
  rw [eq_ix0 i]
  refine (hMean (o0 V 313 rfl (by decide) :) (o2 V 314 rfl (by decide) :) (o0 V 315 rfl (by decide) :) (o2 V 316 rfl (by decide) :)).trans ?_
  refine (congrArg (fun s => Ideal.div s _) (Finset.sum_congr rfl fun r _ => ?_)).trans (mean_add _ _)
  exact (congrFun (o2 V 312 rfl (by decide) :) (ix1 r)).trans (congrArg₂ (fun a b : EReal => a + b) (recon_val V hP hx r) (q_val V hP hx r))

/-- The embeddings' norms. -/
theorem v213_val : (fin V main_v213 : Mat 4096 3) = fun i => (par V).norms (rows V (i 0)) (i 1) := by
  funext i
  rw [eq_ix2 i]
  exact norms_val V hP hx _ _

/-- The share of distinct code triples. -/
theorem v226_val : (fin V main_v226 : One) = fun _ => uniqueShare (par V) (rows V) := by
  funext i
  rw [eq_ix0 i]
  refine hUnique (key := fun r => (par V).ids (rows V r)) (fun i j => ?_)
      (o0 V 328 rfl (by decide) :) (o0 V 329 rfl (by decide) :) (o1 V 330 rfl (by decide) :) (o2 V 331 rfl (by decide) :)
      (o0 V 332 rfl (by decide) :) (o2 V 333 rfl (by decide) :) (o0 V 334 rfl (by decide) :) (o1 V 335 rfl (by decide) :)
      (o3 V 336 rfl (by decide) :) (o1 V 337 rfl (by decide) :) (o0 V 338 rfl (by decide) :) (o2 V 339 rfl (by decide) :)
      (o1 V 340 rfl (by decide) :) (o0 V 341 rfl (by decide) :) (o2 V 342 rfl (by decide) :) (o1 V 343 rfl (by decide) :)
      (o0 V 344 rfl (by decide) :) (o2 V 345 rfl (by decide) :)
  refine (hSame (id := ![fun r => (par V).id0 (rows V r), fun r => (par V).id1 (rows V r), fun r => (par V).id2 (rows V r)])
      (ids0_val V hP hx) (ids1_val V hP hx) (ids2_val V hP hx)
      (o1 V 215 rfl (by decide) :) (o1 V 216 rfl (by decide) :) (o1 V 217 rfl (by decide) :) (oIds V)
      (o1 V 321 rfl (by decide) :) (o1 V 322 rfl (by decide) :) (o1 V 323 rfl (by decide) :) (o1 V 324 rfl (by decide) :)
      (o2 V 325 rfl (by decide) :) (o0 V 326 rfl (by decide) :) (o2 V 327 rfl (by decide) :) i j).trans ?_
  exact ⟨fun h => Prod.ext (h 0) (Prod.ext (h 1) (h 2)), fun h l => match l with
    | ⟨0, _⟩ => congrArg (fun p => p.1) h
    | ⟨1, _⟩ => congrArg (fun p => p.2.1) h
    | ⟨2, _⟩ => congrArg (fun p => p.2.2) h⟩

end Cert.RefRun
-- ==== Proof.PreVals.lean ====
module

public import proofs.«01_k».proof.Defs
public import proofs.«01_k».proof.Proof.Held
public import proofs.«01_k».proof.Proof.Gen.Pre_finite_and_warm

/-!
What the precondition says of the parameters and the batch: a positive real temperature, and real entries wherever the
quantisation looks.
-/

set_option maxRecDepth 16384

@[expose] public section

noncomputable section

namespace Cert.KRun

open Cert.KernelIdeal Cert.KernelIdeal.Gen Cert.Rq Idealize.ShloMosaic Idealize.ShloMosaic.TcCoe Idealize.SL.Sem
open Idealize.ShloMosaic.ValueIdx

/-- The pattern of infinity. -/
theorem lit_inf : Ideal.ofBits .f32 0x7F800000#32 = ⊤ := by
  simp [Ideal.ofBits, Ideal.ieee]

/-- A comparison's bit. -/
theorem bit_of {p : Prop} [Decidable p] (h : BitVec.ofBool (decide p) = 1#1) : p := by
  by_contra hp
  rw [decide_eq_false hp] at h
  exact absurd h (by decide)

/-- An array whose magnitudes stay below infinity is real. -/
theorem real_of {s : Shape} (x : FVec Ideal s .f32) (h : (⟨0, ![]⟩ : Shape).BroadcastsInDim s ![])
    (hx : cmpf .olt (Host.absf x) (broadcastInDim s ![] h (constant ⟨0, ![]⟩ .f32 0x7F800000#32)) = fun _ => 1#1) (i : s.Idx) : IsReal (x i) := by
  refine isReal_of_abs_lt ?_
  have e := congrFun hx i
  have hb : broadcastInDim s ![] h (constant (F := Ideal) ⟨0, ![]⟩ .f32 0x7F800000#32) i = (⊤ : EReal) := by
    rw [broadcastInDim_scalar_apply]; exact lit_inf
  have e' : BitVec.ofBool (decide (max (x i) (-(x i)) < broadcastInDim s ![] h (constant (F := Ideal) ⟨0, ![]⟩ .f32 0x7F800000#32) i)) = 1#1 := e
  rw [hb] at e'
  exact bit_of e'

/-- A temperature above zero and below infinity. -/
theorem temp_of (x : FVec Ideal S_ .f32)
    (hx : andi (cmpf .ogt x (constant S_ .f32 0x00000000#32)) (cmpf .olt x (constant S_ .f32 0x7F800000#32)) = fun _ => 1#1) :
    ∃ τ : ℝ, 0 < τ ∧ x ix0 = (τ : EReal) := by
  have e : IntOp.andi (BitVec.ofBool (decide (Ideal.ofBits .f32 0x00000000#32 < x ix0))) (BitVec.ofBool (decide (x ix0 < Ideal.ofBits .f32 0x7F800000#32))) = 1#1 :=
    congrFun hx ix0
  rw [lit_inf, Ideal.ofBits_zero_f32] at e
  have e1 : (0 : EReal) < x ix0 := by
    by_contra hp
    rw [decide_eq_false hp] at e
    revert e
    generalize BitVec.ofBool (decide (x ix0 < (⊤ : EReal))) = b
    revert b
    decide
  have e2 : x ix0 < (⊤ : EReal) := by
    by_contra hp
    rw [decide_eq_false hp] at e
    revert e
    generalize BitVec.ofBool (decide (0 < x ix0)) = b
    revert b
    decide
  have e3 : ((x ix0 : EReal).toReal : EReal) = x ix0 := EReal.coe_toReal e2.ne (lt_of_le_of_lt bot_le e1).ne'
  refine ⟨(x ix0 : EReal).toReal, ?_, e3.symm⟩
  rw [← e3] at e1
  exact_mod_cast e1

variable (m : (ℓ : Loc nD τ sig) → Buf (Elt Ideal) ℓ)

/-- The precondition's masks, one by one. -/
theorem good_of (hm : Cert.Pre_KernelIdeal_finite_and_warm m) (c : Dev nD) : (par m c).Good ∧ ∀ r k, IsReal (rows m c r k) := by
  obtain ⟨ht, hx, h2, h3, h4, h5, h6, h7, h8, h9, h18, h19, h20⟩ := hm c
  exact ⟨⟨temp_of _ ht, fun j k => real_of _ _ h2 (ix2 j k), fun j => real_of _ _ h3 (ix1 j), fun j k => real_of _ _ h4 (ix2 j k),
    fun j => real_of _ _ h5 (ix1 j), fun j k => real_of _ _ h6 (ix2 j k), fun j => real_of _ _ h7 (ix1 j), fun j k => real_of _ _ h8 (ix2 j k),
    fun j => real_of _ _ h9 (ix1 j), fun j k => real_of _ _ h18 (ix2 j k), fun j k => real_of _ _ h19 (ix2 j k), fun j k => real_of _ _ h20 (ix2 j k)⟩,
    fun r k => real_of _ _ hx (ix2 r k)⟩

end Cert.KRun
-- ==== Proof.Both.lean ====
module

public import proofs.«01_k».proof.Proof.KernelVals
public import proofs.«01_k».proof.Proof.RefVals
public import proofs.«01_k».proof.Proof.PreVals
public import proofs.«01_k».proof.Proof.Quiet

/-!
The two programs' results, from memories that agree on the arguments.
-/

set_option maxRecDepth 16384

@[expose] public section

noncomputable section

namespace Cert.Rq

/-- Parameters are equal when their arrays are. -/
theorem Par.eq_of {P Q : Par} (ht : P.t = Q.t)
    (hW0 : P.W0 = Q.W0)
    (hb0 : P.b0 = Q.b0)
    (hW1 : P.W1 = Q.W1)
    (hb1 : P.b1 = Q.b1)
    (hW2 : P.W2 = Q.W2)
    (hb2 : P.b2 = Q.b2)
    (hW3 : P.W3 = Q.W3)
    (hb3 : P.b3 = Q.b3)
    (hD0 : P.D0 = Q.D0)
    (hc0 : P.c0 = Q.c0)
    (hD1 : P.D1 = Q.D1)
    (hc1 : P.c1 = Q.c1)
    (hD2 : P.D2 = Q.D2)
    (hc2 : P.c2 = Q.c2)
    (hD3 : P.D3 = Q.D3)
    (hc3 : P.c3 = Q.c3)
    (hcb0 : P.cb0 = Q.cb0)
    (hcb1 : P.cb1 = Q.cb1)
    (hcb2 : P.cb2 = Q.cb2) : P = Q := by
  cases P; cases Q
  cases ht; cases hW0; cases hb0; cases hW1; cases hb1; cases hW2; cases hb2; cases hW3; cases hb3; cases hD0; cases hc0; cases hD1; cases hc1; cases hD2
  cases hc2; cases hD3; cases hc3; cases hcb0; cases hcb1; cases hcb2
  rfl

end Cert.Rq

namespace Cert.Both

open Cert.Rq Idealize.ShloMosaic Idealize.ShloMosaic.ValueIdx Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

variable {m m' c}

/-- Then the parameters and the batch are the same. -/
theorem same (h : Agree m m' c) :
    Cert.RefRun.par (launchContents m' c) = Cert.KRun.par m c ∧ Cert.RefRun.rows (launchContents m' c) = Cert.KRun.rows m c := by
  obtain ⟨h0, h1, h2, h3, h4, h5, h6, h7, h8, h9, h10, h11, h12, h13, h14, h15, h16, h17, h18, h19, h20⟩ := h
  exact ⟨Par.eq_of (congrFun h1 ix0)
    (funext fun j => funext fun k => congrFun h2 (ix2 j k))
    (funext fun j => congrFun h3 (ix1 j))
    (funext fun j => funext fun k => congrFun h4 (ix2 j k))
    (funext fun j => congrFun h5 (ix1 j))
    (funext fun j => funext fun k => congrFun h6 (ix2 j k))
    (funext fun j => congrFun h7 (ix1 j))
    (funext fun j => funext fun k => congrFun h8 (ix2 j k))
    (funext fun j => congrFun h9 (ix1 j))
    (funext fun j => funext fun k => congrFun h10 (ix2 j k))
    (funext fun j => congrFun h11 (ix1 j))
    (funext fun j => funext fun k => congrFun h12 (ix2 j k))
    (funext fun j => congrFun h13 (ix1 j))
    (funext fun j => funext fun k => congrFun h14 (ix2 j k))
    (funext fun j => congrFun h15 (ix1 j))
    (funext fun j => funext fun k => congrFun h16 (ix2 j k))
    (funext fun j => congrFun h17 (ix1 j))
    (funext fun j => funext fun k => congrFun h18 (ix2 j k))
    (funext fun j => funext fun k => congrFun h19 (ix2 j k))
    (funext fun j => funext fun k => congrFun h20 (ix2 j k)),
    funext fun r => funext fun k => congrFun h0 (ix2 r k)⟩

variable (ρ : Dev Cert.KernelIdeal.nD → PrngReg) (h : Agree m m' c)
variable (hP : (Cert.KRun.par m c).Good) (hx : ∀ r k, IsReal (Cert.KRun.rows m c r k))
include h hP hx

/-- The loss. -/
theorem loss : (Cert.RefRun.fin (launchContents m' c) Cert.ReferenceIdeal.main_v212 : One) = Cert.KRun.W4 m ρ c (Proc.devRef .tc Cert.KernelIdeal.main_v29) := by
  obtain ⟨e1, e2⟩ := same h
  rw [Cert.KRun.v29_val m ρ c hP hx, ← e1, ← e2]
  rw [← e1] at hP; rw [← e2] at hx
  exact Cert.RefRun.v212_val _ hP hx
/-- The mean reconstruction loss. -/
theorem reconLoss : (Cert.RefRun.fin (launchContents m' c) Cert.ReferenceIdeal.main_v228 : One) = Cert.KRun.W4 m ρ c (Proc.devRef .tc Cert.KernelIdeal.main_v26) := by
  obtain ⟨e1, e2⟩ := same h
  rw [Cert.KRun.v26_val m ρ c hP hx, ← e1, ← e2]
  rw [← e1] at hP; rw [← e2] at hx
  exact Cert.RefRun.v228_val _ hP hx
/-- The mean quantisation loss. -/
theorem quantLoss : (Cert.RefRun.fin (launchContents m' c) Cert.ReferenceIdeal.main_v230 : One) = Cert.KRun.W4 m ρ c (Proc.devRef .tc Cert.KernelIdeal.main_v28) := by
  obtain ⟨e1, e2⟩ := same h
  rw [Cert.KRun.v28_val m ρ c hP hx, ← e1, ← e2]
  rw [← e1] at hP; rw [← e2] at hx
  exact Cert.RefRun.v230_val _ hP hx
/-- The embeddings' norms. -/
theorem embNorms : (Cert.RefRun.fin (launchContents m' c) Cert.ReferenceIdeal.main_v213 : Mat 4096 3) = Cert.KRun.W4 m ρ c (Proc.devRef .tc Cert.KernelIdeal.main_v23_2) := by
  obtain ⟨e1, e2⟩ := same h
  rw [Cert.KRun.v23_2_val m ρ c hP hx]
  unfold Cert.KRun.normsArr
  rw [← e1, ← e2]
  rw [← e1] at hP; rw [← e2] at hx
  exact Cert.RefRun.v213_val _ hP hx
/-- The share of distinct code triples. -/
theorem unique : (Cert.RefRun.fin (launchContents m' c) Cert.ReferenceIdeal.main_v226 : One) = Cert.KRun.W4 m ρ c (Proc.devRef .tc Cert.KernelIdeal.main_v30) := by
  obtain ⟨e1, e2⟩ := same h
  rw [Cert.KRun.v30_val m ρ c hP hx, ← e1, ← e2]
  rw [← e1] at hP; rw [← e2] at hx
  exact Cert.RefRun.v226_val _ hP hx

end Cert.Both
-- ==== Proof.lean ====
/- The proof of the certificate's claim: the frames, the named constants, and the agreement of the kernel with its reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_and_warm
public import proofs.«01_k».proof.Proof.QuietBits
public import proofs.«01_k».proof.Proof.Both

@[expose] public section

set_option maxRecDepth 16384

noncomputable section

namespace Cert.Proof

open Idealize.ShloMosaic Idealize.SL.Sem Idealize.ShloMosaic.StableHlo

/-- The printed kernel leaves its arguments alone and every counter at zero. -/
theorem frame_kernel : Cert.quiescent_Kernel := by
  intro m g _
  refine (θ_run Cert.Kernel.defs _ _).mono (fun r h => ⟨fun c => ?_, h.2⟩) (Cert.KRun.quiet_bits m g)
  refine ⟨?_, ?_, ?_, ?_, ?_, ?_, ?_, ?_, ?_, ?_, ?_, ?_, ?_, ?_, ?_, ?_, ?_, ?_, ?_, ?_, ?_⟩ <;> exact h.1 c _ (by decide)

/-- The idealized kernel leaves its arguments alone and every counter at zero. -/
theorem frame_ideal : Cert.quiescent_KernelIdeal := by
  intro m g _
  refine (θ_run Cert.KernelIdeal.defs _ _).mono (fun r h => ⟨fun c => ?_, h.2⟩) (Cert.KRun.quiet m g)
  refine ⟨?_, ?_, ?_, ?_, ?_, ?_, ?_, ?_, ?_, ?_, ?_, ?_, ?_, ?_, ?_, ?_, ?_, ?_, ?_, ?_, ?_⟩ <;> exact h.1 c _ (by decide)

/-- The reference leaves its arguments alone and every counter at zero. -/
theorem frame_reference : Cert.quiescent_ReferenceIdeal := by
  intro m g _
  refine (θ_run Cert.ReferenceIdeal.defs _ _).mono (fun r h => ⟨fun c => ?_, sem_eq_zero_of_no_sems (by decide) r.2⟩) (Cert.RefRun.run m g)
  refine ⟨?_, ?_, ?_, ?_, ?_, ?_, ?_, ?_, ?_, ?_, ?_, ?_, ?_, ?_, ?_, ?_, ?_, ?_, ?_, ?_, ?_⟩ <;> exact (h c _).trans (Cert.RefRun.fin_arg _ (by decide))

/-- The two named constants are near the numbers the kernel prints. -/
theorem preserves : Cert.preserves_Kernel_KernelIdeal :=
  ⟨IdealRules.named_const.statement _ _ _ _ _ rfl, IdealRules.named_const.statement _ _ _ _ _ rfl⟩

/-- The five results of the idealized kernel are the reference's. -/
theorem algebraic : Cert.algebraic_KernelIdeal_ReferenceIdeal_pre_finite_and_warm := by
  intro m g m' g' hm hargs
  have good := Cert.KRun.good_of m hm
  refine ⟨fun c => Cert.KRun.W4 m g c (Proc.devRef .tc Cert.KernelIdeal.main_v29), fun c => Cert.KRun.W4 m g c (Proc.devRef .tc Cert.KernelIdeal.main_v26),
    fun c => Cert.KRun.W4 m g c (Proc.devRef .tc Cert.KernelIdeal.main_v28), fun c => Cert.KRun.W4 m g c (Proc.devRef .tc Cert.KernelIdeal.main_v23_2),
    fun c => Cert.KRun.W4 m g c (Proc.devRef .tc Cert.KernelIdeal.main_v30), ?_, ?_⟩
  · refine (θ_run Cert.KernelIdeal.defs _ _).mono (fun r h c => ⟨h.1 c _ (by decide), h.1 c _ (by decide), h.1 c _ (by decide), h.1 c _ (by decide), h.1 c _ (by decide), ?_⟩)
      (Cert.KRun.run m g)
    refine ⟨?_, ?_, ?_, ?_, ?_, ?_, ?_, ?_, ?_, ?_, ?_, ?_, ?_, ?_, ?_, ?_, ?_, ?_, ?_, ?_, ?_⟩ <;>
      exact (h.1 c _ (by decide)).trans (Cert.KRun.W4_args m g c _ (by decide))
  · refine (θ_run Cert.ReferenceIdeal.defs _ _).mono (fun r h c => ⟨(h c _).trans (Cert.Both.loss g (hargs c) (good c).1 (good c).2),
      (h c _).trans (Cert.Both.reconLoss g (hargs c) (good c).1 (good c).2), (h c _).trans (Cert.Both.quantLoss g (hargs c) (good c).1 (good c).2),
      (h c _).trans (Cert.Both.embNorms g (hargs c) (good c).1 (good c).2), (h c _).trans (Cert.Both.unique g (hargs c) (good c).1 (good c).2), ?_⟩)
      (Cert.RefRun.run m' g')
    refine ⟨?_, ?_, ?_, ?_, ?_, ?_, ?_, ?_, ?_, ?_, ?_, ?_, ?_, ?_, ?_, ?_, ?_, ?_, ?_, ?_, ?_⟩ <;> exact (h c _).trans (Cert.RefRun.fin_arg _ (by decide))

/-- The certificate's claim. -/
theorem claim : Cert.Claim :=
  ⟨Cert.Kernel.Gen.facts, Cert.KernelIdeal.Gen.facts, Cert.ReferenceIdeal.Gen.facts, Cert.Pre_finite_and_warm.Gen.facts,
    frame_kernel, frame_ideal, fun m g _ => frame_ideal m g trivial, frame_reference, fun m g _ => frame_reference m g trivial, preserves, algebraic⟩

end Cert.Proof

end
